-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v31_0)) (v1 : (c : Dev Cert.Kernel3Ideal.nD) → Buf (Elt Ideal) ((c.tc : Thread Cert.Kernel3Ideal.nD Cert.Kernel3Ideal.τ).loc Cert.Kernel3Ideal.main_v31_1)) (v2 : (c : Dev Cert.Kernel3Ideal.nD) → Buf (Elt Ideal) ((c.tc : Thread Cert.Kernel3Ideal.nD Cert.Kernel3Ideal.τ).loc Cert.Kernel3Ideal.main_v31_2)) (v3 : (c : Dev Cert.Kernel3Ideal.nD) → Buf (Elt Ideal) ((c.tc : Thread Cert.Kernel3Ideal.nD Cert.Kernel3Ideal.τ).loc Cert.Kernel3Ideal.main_v31_3)) (v4 : (c : Dev Cert.Kernel3Ideal.nD) → Buf (Elt Ideal) ((c.tc : Thread Cert.Kernel3Ideal.nD Cert.Kernel3Ideal.τ).loc Cert.Kernel3Ideal.main_v31_4)) (v5 : (c : Dev Cert.Kernel3Ideal.nD) → Buf (Elt Ideal) ((c.tc : Thread Cert.Kernel3Ideal.nD Cert.Kernel3Ideal.τ).loc Cert.Kernel3Ideal.main_v31_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_0) = v0 c
          ∧ r.2.mem ((c.tc : Thread Cert.Kernel3Ideal.nD Cert.Kernel3Ideal.τ).loc Cert.Kernel3Ideal.main_v31_1) = v1 c
          ∧ r.2.mem ((c.tc : Thread Cert.Kernel3Ideal.nD Cert.Kernel3Ideal.τ).loc Cert.Kernel3Ideal.main_v31_2) = v2 c
          ∧ r.2.mem ((c.tc : Thread Cert.Kernel3Ideal.nD Cert.Kernel3Ideal.τ).loc Cert.Kernel3Ideal.main_v31_3) = v3 c
          ∧ r.2.mem ((c.tc : Thread Cert.Kernel3Ideal.nD Cert.Kernel3Ideal.τ).loc Cert.Kernel3Ideal.main_v31_4) = v4 c
          ∧ r.2.mem ((c.tc : Thread Cert.Kernel3Ideal.nD Cert.Kernel3Ideal.τ).loc Cert.Kernel3Ideal.main_v31_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v120) = v0 c
          ∧ r.2.mem ((c.tc : Thread Cert.Reference3Ideal.nD Cert.Reference3Ideal.τ).loc Cert.Reference3Ideal.main_v114) = v1 c
          ∧ r.2.mem ((c.tc : Thread Cert.Reference3Ideal.nD Cert.Reference3Ideal.τ).loc Cert.Reference3Ideal.main_v119) = v2 c
          ∧ r.2.mem ((c.tc : Thread Cert.Reference3Ideal.nD Cert.Reference3Ideal.τ).loc Cert.Reference3Ideal.main_v121) = v3 c
          ∧ r.2.mem ((c.tc : Thread Cert.Reference3Ideal.nD Cert.Reference3Ideal.τ).loc Cert.Reference3Ideal.main_v122) = v4 c
          ∧ r.2.mem ((c.tc : Thread Cert.Reference3Ideal.nD Cert.Reference3Ideal.τ).loc Cert.Reference3Ideal.main_v123) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)) (v4 : (c : Dev Cert.Kernel8Ideal.nD) → Buf (Elt Ideal) ((c.tc : Thread Cert.Kernel8Ideal.nD Cert.Kernel8Ideal.τ).loc Cert.Kernel8Ideal.main_v5_4)) (v5 : (c : Dev Cert.Kernel8Ideal.nD) → Buf (Elt Ideal) ((c.tc : Thread Cert.Kernel8Ideal.nD Cert.Kernel8Ideal.τ).loc Cert.Kernel8Ideal.main_v5_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_v5_4) = v4 c
          ∧ r.2.mem ((c.tc : Thread Cert.Kernel8Ideal.nD Cert.Kernel8Ideal.τ).loc Cert.Kernel8Ideal.main_v5_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v79) = v0 c
          ∧ r.2.mem ((c.tc : Thread Cert.Reference8Ideal.nD Cert.Reference8Ideal.τ).loc Cert.Reference8Ideal.main_v81) = v1 c
          ∧ r.2.mem ((c.tc : Thread Cert.Reference8Ideal.nD Cert.Reference8Ideal.τ).loc Cert.Reference8Ideal.main_v82) = v2 c
          ∧ r.2.mem ((c.tc : Thread Cert.Reference8Ideal.nD Cert.Reference8Ideal.τ).loc Cert.Reference8Ideal.main_v83) = v3 c
          ∧ r.2.mem ((c.tc : Thread Cert.Reference8Ideal.nD Cert.Reference8Ideal.τ).loc Cert.Reference8Ideal.main_v84) = v4 c
          ∧ r.2.mem ((c.tc : Thread Cert.Reference8Ideal.nD Cert.Reference8Ideal.τ).loc Cert.Reference8Ideal.main_v85) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_v45) = v1 c
          ∧ r.2.mem ((c.tc : Thread Cert.Reference9Ideal.nD Cert.Reference9Ideal.τ).loc Cert.Reference9Ideal.main_v19) = v2 c
          ∧ r.2.mem ((c.tc : Thread Cert.Reference9Ideal.nD Cert.Reference9Ideal.τ).loc Cert.Reference9Ideal.main_v46) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v41)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v41) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v43) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v3) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg1) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite3 : Cert.Pre_finite3.Facts) (hPre_finite8 : Cert.Pre_finite8.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4096x1536 : Shape := ⟨2, ![4096, 1536]⟩
abbrev S4096x512 : Shape := ⟨2, ![4096, 512]⟩
abbrev S3x512 : Shape := ⟨2, ![3, 512]⟩
abbrev S1x512 : Shape := ⟨2, ![1, 512]⟩
abbrev S_ : Shape := ⟨0, ![]⟩

class Facts : Prop where
  bcast_S_S4096x1536 : S_.BroadcastsInDim S4096x1536 (![] : Fin 0 → Fin S4096x1536.rank)
  bcast_S_S4096x512 : S_.BroadcastsInDim S4096x512 (![] : Fin 0 → Fin S4096x512.rank)
  bcast_S_S3x512 : S_.BroadcastsInDim S3x512 (![] : Fin 0 → Fin S3x512.rank)
  bcast_S_S1x512 : S_.BroadcastsInDim S1x512 (![] : Fin 0 → Fin S1x512.rank)

variable [Facts]

def fn {F : FTy → Type} [FloatOps F] (main_arg0 : FVec F S4096x1536 .f32) (main_arg1 : FVec F S4096x512 .f32) (main_arg2 : FVec F S3x512 .f32) (main_arg3 : FVec F S1x512 .f32) : IVec S4096x1536 1 × IVec S4096x512 1 × IVec S3x512 1 × IVec S1x512 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S3x512 .f32 := Host.absf main_arg2
  let main_cst_1 : FVec F S_ .f32 := constant S_ .f32 0x7F800000#32
  let main_v7 : FVec F S3x512 .f32 := broadcastInDim S3x512 ![] bcast_S_S3x512 main_cst_1
  let main_v8 : IVec S3x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  (main_v2, main_v5, main_v8, main_v11)
-- ==== Pre_finite10.lean ====
abbrev S4096x1536 : Shape := ⟨2, ![4096, 1536]⟩
abbrev S3x512 : Shape := ⟨2, ![3, 512]⟩
abbrev S1x512 : Shape := ⟨2, ![1, 512]⟩
abbrev S_ : Shape := ⟨0, ![]⟩

class Facts : Prop where
  bcast_S_S4096x1536 : S_.BroadcastsInDim S4096x1536 (![] : Fin 0 → Fin S4096x1536.rank)
  bcast_S_S3x512 : S_.BroadcastsInDim S3x512 (![] : Fin 0 → Fin S3x512.rank)
  bcast_S_S1x512 : S_.BroadcastsInDim S1x512 (![] : Fin 0 → Fin S1x512.rank)

variable [Facts]

def fn {F : FTy → Type} [FloatOps F] (main_arg0 : FVec F S4096x1536 .f32) (main_arg1 : FVec F S3x512 .f32) (main_arg2 : FVec F S1x512 .f32) : IVec S4096x1536 1 × IVec S3x512 1 × IVec S1x512 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S3x512 .f32 := Host.absf main_arg1
  let main_cst_0 : FVec F S_ .f32 := constant S_ .f32 0x7F800000#32
  let main_v4 : FVec F S3x512 .f32 := broadcastInDim S3x512 ![] bcast_S_S3x512 main_cst_0
  let main_v5 : IVec S3x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  (main_v2, main_v5, main_v8)
-- ==== Pre_finite3.lean ====
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S1x1024 .f32) (main_arg2 : FVec F S1x1024 .f32) (main_arg3 : FVec F S1024x4096 .f32) (main_arg4 : FVec F S4096x1024 .f32) (main_arg5 : FVec F S1024x1024 .f32) (main_arg6 : FVec F S4096x1024 .f32) : IVec S4096x1024 1 × IVec S1x1024 1 × IVec S1x1024 1 × IVec S1024x4096 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x1024 .f32 := Host.absf main_arg6
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite8.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1024x4096 : S_.BroadcastsInDim S1024x4096 (![] : Fin 0 → Fin S1024x4096.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1024x4096 .f32) (main_arg2 : FVec F S4096x1024 .f32) (main_arg3 : FVec F S4096x1024 .f32) (main_arg4 : FVec F S1x1024 .f32) (main_arg5 : FVec F S1x1024 .f32) : IVec S4096x1024 1 × IVec S1024x4096 1 × IVec S4096x1024 1 × IVec S4096x1024 1 × IVec S1x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Kernel.lean ====
abbrev S4096x1536 : Shape := ⟨2, ![4096, 1536]⟩
abbrev S4096x512 : Shape := ⟨2, ![4096, 512]⟩
abbrev S3x512 : Shape := ⟨2, ![3, 512]⟩
abbrev S1x512 : Shape := ⟨2, ![1, 512]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S128 : Shape := ⟨1, ![128]⟩
abbrev S1x128 : Shape := ⟨2, ![1, 128]⟩
abbrev S256x128 : Shape := ⟨2, ![256, 128]⟩
abbrev S1x256x256 : Shape := ⟨3, ![1, 256, 256]⟩
abbrev S2x256x256 : Shape := ⟨3, ![2, 256, 256]⟩
abbrev S8x512 : Shape := ⟨2, ![8, 512]⟩
abbrev S512x1536 : Shape := ⟨2, ![512, 1536]⟩
abbrev S8x1536 : Shape := ⟨2, ![8, 1536]⟩
abbrev S512x512 : Shape := ⟨2, ![512, 512]⟩
abbrev S512x128 : Shape := ⟨2, ![512, 128]⟩
abbrev S512x256 : Shape := ⟨2, ![512, 256]⟩
abbrev S512 : Shape := ⟨1, ![512]⟩

abbrev nBuf : Space → Nat
  | .hbm => 138
  | .vmem => 14
  | .smem => 0
  | _ => 0

abbrev hbmTy0_0 (i : Nat) : BufTy := match i % 128 with
  | 0 => ⟨S4096x1536, .f32⟩
  | 1 => ⟨S4096x512, .f32⟩
  | 2 => ⟨S3x512, .f32⟩
  | 3 => ⟨S1x512, .f32⟩
  | 4 => ⟨S256, .i32⟩
  | 5 => ⟨S256x1, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S256x1, .i32⟩
  | 13 => ⟨S256x1, .i32⟩
  | 14 => ⟨S_, .i32⟩
  | 15 => ⟨S256x1, .i32⟩
  | 16 => ⟨S256x1, .i1⟩
  | 17 => ⟨S_, .i32⟩
  | 18 => ⟨S256x1, .i32⟩
  | 19 => ⟨S256x1, .i1⟩
  | 20 => ⟨S_, .i32⟩
  | 21 => ⟨S_, .i1⟩
  | 22 => ⟨S256x1, .i1⟩
  | 23 => ⟨S256x1, .i1⟩
  | 24 => ⟨S256x1, .i1⟩
  | 25 => ⟨S256x1, .i32⟩
  | 26 => ⟨S256x1, .i32⟩
  | 27 => ⟨S256x1, .i32⟩
  | 28 => ⟨S256, .i32⟩
  | 29 => ⟨S1x256, .i32⟩
  | 30 => ⟨S_, .i32⟩
  | 31 => ⟨S1x256, .i32⟩
  | 32 => ⟨S1x256, .i1⟩
  | 33 => ⟨S256x256, .i32⟩
  | 34 => ⟨S256x256, .i32⟩
  | 35 => ⟨S256x256, .i1⟩
  | 36 => ⟨S_, .i1⟩
  | 37 => ⟨S256x256, .i1⟩
  | 38 => ⟨S256x256, .i1⟩
  | 39 => ⟨S256x256, .i1⟩
  | 40 => ⟨S256x256, .bf16⟩
  | 41 => ⟨S_, .i32⟩
  | 42 => ⟨S1x256, .i32⟩
  | 43 => ⟨S1x256, .i1⟩
  | 44 => ⟨S256x256, .i32⟩
  | 45 => ⟨S256x256, .i32⟩
  | 46 => ⟨S256x256, .i1⟩
  | 47 => ⟨S_, .i1⟩
  | 48 => ⟨S256x256, .i1⟩
  | 49 => ⟨S256x256, .i1⟩
  | 50 => ⟨S256x256, .i1⟩
  | 51 => ⟨S256x256, .bf16⟩
  | 52 => ⟨S_, .i32⟩
  | 53 => ⟨S1x256, .i32⟩
  | 54 => ⟨S1x256, .i1⟩
  | 55 => ⟨S256x256, .i32⟩
  | 56 => ⟨S256x256, .i32⟩
  | 57 => ⟨S256x256, .i1⟩
  | 58 => ⟨S_, .i1⟩
  | 59 => ⟨S256x256, .i1⟩
  | 60 => ⟨S256x256, .i1⟩
  | 61 => ⟨S256x256, .i1⟩
  | 62 => ⟨S256x256, .bf16⟩
  | 63 => ⟨S256, .i32⟩
  | 64 => ⟨S256x1, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S256x1, .i32⟩
  | 72 => ⟨S256x1, .i32⟩
  | 73 => ⟨S_, .i32⟩
  | 74 => ⟨S256x1, .i32⟩
  | 75 => ⟨S256x1, .i1⟩
  | 76 => ⟨S_, .i32⟩
  | 77 => ⟨S256x1, .i32⟩
  | 78 => ⟨S256x1, .i1⟩
  | 79 => ⟨S_, .i32⟩
  | 80 => ⟨S_, .i1⟩
  | 81 => ⟨S256x1, .i1⟩
  | 82 => ⟨S256x1, .i1⟩
  | 83 => ⟨S256x1, .i1⟩
  | 84 => ⟨S256x1, .i32⟩
  | 85 => ⟨S256x1, .i32⟩
  | 86 => ⟨S256x1, .i32⟩
  | 87 => ⟨S_, .i32⟩
  | 88 => ⟨S_, .i32⟩
  | 89 => ⟨S256x1, .i32⟩
  | 90 => ⟨S256x1, .i32⟩
  | 91 => ⟨S256x1, .i32⟩
  | 92 => ⟨S_, .i32⟩
  | 93 => ⟨S256x1, .i32⟩
  | 94 => ⟨S256x1, .i1⟩
  | 95 => ⟨S256x1, .i32⟩
  | 96 => ⟨S256x1, .i32⟩
  | 97 => ⟨S_, .i32⟩
  | 98 => ⟨S256x1, .i32⟩
  | 99 => ⟨S256x1, .i1⟩
  | 100 => ⟨S256x1, .i1⟩
  | 101 => ⟨S_, .i32⟩
  | 102 => ⟨S256x1, .i32⟩
  | 103 => ⟨S256x1, .i32⟩
  | 104 => ⟨S256x1, .i32⟩
  | 105 => ⟨S128, .i32⟩
  | 106 => ⟨S1x128, .i32⟩
  | 107 => ⟨S_, .i32⟩
  | 108 => ⟨S_, .i32⟩
  | 109 => ⟨S1x128, .i32⟩
  | 110 => ⟨S1x128, .i32⟩
  | 111 => ⟨S1x128, .i32⟩
  | 112 => ⟨S_, .i32⟩
  | 113 => ⟨S1x128, .i32⟩
  | 114 => ⟨S1x128, .i1⟩
  | 115 => ⟨S1x128, .i32⟩
  | 116 => ⟨S1x128, .i32⟩
  | 117 => ⟨S_, .i32⟩
  | 118 => ⟨S1x128, .i32⟩
  | 119 => ⟨S1x128, .i1⟩
  | 120 => ⟨S1x128, .i1⟩
  | 121 => ⟨S_, .i32⟩
  | 122 => ⟨S1x128, .i32⟩
  | 123 => ⟨S1x128, .i32⟩
  | 124 => ⟨S1x128, .i32⟩
  | 125 => ⟨S256x128, .i32⟩
  | 126 => ⟨S256x128, .i32⟩
  | 127 => ⟨S256x128, .i1⟩
  | _ => ⟨S4096x1536, .f32⟩

abbrev hbmTy0_1 (i : Nat) : BufTy := match i % 128 with
  | 0 => ⟨S256x128, .bf16⟩
  | 1 => ⟨S1x256x256, .bf16⟩
  | 2 => ⟨S1x256x256, .bf16⟩
  | 3 => ⟨S2x256x256, .bf16⟩
  | 4 => ⟨S_, .i32⟩
  | 5 => ⟨S_, .f32⟩
  | 6 => ⟨S8x512, .f32⟩
  | 7 => ⟨S4096x512, .bf16⟩
  | 8 => ⟨S4096x512, .f32⟩
  | 9 => ⟨S8x512, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S1x512, .f32⟩
  | .local _ .vmem, ⟨8, _⟩ => ⟨S256x128, .bf16⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S8x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_v10 : Ref sig .tc := ⟨.hbm, 39, rfl⟩
abbrev main_v11 : Ref sig .tc := ⟨.hbm, 40, rfl⟩
abbrev main_c_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_3 : Ref sig .tc := ⟨.hbm, 47, rfl⟩
abbrev main_call2_v0 : Ref sig .tc := ⟨.hbm, 48, rfl⟩
abbrev main_call2_v1 : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_call3_v0 : Ref sig .tc := ⟨.hbm, 59, rfl⟩
abbrev main_call3_v1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_call4_v0 : Ref sig .tc := ⟨.hbm, 66, rfl⟩
abbrev main_call4_c : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_c_1 : Ref sig .tc := ⟨.hbm, 73, rfl⟩
abbrev main_call4_v5 : Ref sig .tc := ⟨.hbm, 74, rfl⟩
abbrev main_call4_v6 : Ref sig .tc := ⟨.hbm, 75, rfl⟩
abbrev main_call4_c_2 : Ref sig .tc := ⟨.hbm, 76, rfl⟩
abbrev main_call4_v7 : Ref sig .tc := ⟨.hbm, 77, rfl⟩
abbrev main_call4_v8 : Ref sig .tc := ⟨.hbm, 78, rfl⟩
abbrev main_call4_c_3 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_v12 : Ref sig .tc := ⟨.hbm, 83, rfl⟩
abbrev main_call4_v13 : Ref sig .tc := ⟨.hbm, 84, rfl⟩
abbrev main_call4_v14 : Ref sig .tc := ⟨.hbm, 85, rfl⟩
abbrev main_v28 : Ref sig .tc := ⟨.hbm, 86, rfl⟩
abbrev main_c_7 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_call5_v7 : Ref sig .tc := ⟨.hbm, 95, rfl⟩
abbrev main_call5_v8 : Ref sig .tc := ⟨.hbm, 96, rfl⟩
abbrev main_call5_c : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_0 : Ref sig .tc := ⟨.hbm, 101, rfl⟩
abbrev main_call5_v12 : Ref sig .tc := ⟨.hbm, 102, rfl⟩
abbrev main_call5_v13 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_c_8 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_call6_v5 : Ref sig .tc := ⟨.hbm, 113, rfl⟩
abbrev main_call6_v6 : Ref sig .tc := ⟨.hbm, 114, rfl⟩
abbrev main_call6_v7 : Ref sig .tc := ⟨.hbm, 115, rfl⟩
abbrev main_call6_v8 : Ref sig .tc := ⟨.hbm, 116, rfl⟩
abbrev main_call6_c : Ref sig .tc := ⟨.hbm, 117, rfl⟩
abbrev main_call6_v9 : Ref sig .tc := ⟨.hbm, 118, rfl⟩
abbrev main_call6_v10 : Ref sig .tc := ⟨.hbm, 119, rfl⟩
abbrev main_call6_v11 : Ref sig .tc := ⟨.hbm, 120, rfl⟩
abbrev main_call6_c_0 : Ref sig .tc := ⟨.hbm, 121, rfl⟩
abbrev main_call6_v12 : Ref sig .tc := ⟨.hbm, 122, rfl⟩
abbrev main_call6_v13 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_c_9 : Ref sig .tc := ⟨.hbm, 132, rfl⟩
abbrev main_call7_v0 : Ref sig .tc := ⟨.hbm, 133, rfl⟩
abbrev main_v40 : Ref sig .tc := ⟨.hbm, 134, rfl⟩
abbrev main_v41_0 : Ref sig .tc := ⟨.hbm, 135, rfl⟩
abbrev main_v41_1 : Ref sig .tc := ⟨.hbm, 136, rfl⟩
abbrev main_v41_2 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1536 : Shape := ⟨2, ![4096, 1536]⟩
abbrev S4096x512 : Shape := ⟨2, ![4096, 512]⟩
abbrev S3x512 : Shape := ⟨2, ![3, 512]⟩
abbrev S1x512 : Shape := ⟨2, ![1, 512]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096x8x64 : Shape := ⟨3, ![4096, 8, 64]⟩
abbrev S4096x8 : Shape := ⟨2, ![4096, 8]⟩
abbrev S4096x8x1 : Shape := ⟨3, ![4096, 8, 1]⟩
abbrev S4x512 : Shape := ⟨2, ![4, 512]⟩
abbrev S8x512 : Shape := ⟨2, ![8, 512]⟩

abbrev nBuf : Space → Nat
  | .hbm => 143
  | .vmem => 0
  | .smem => 0
  | _ => 0

abbrev hbmTy0_0 (i : Nat) : BufTy := match i % 128 with
  | 0 => ⟨S4096x1536, .f32⟩
  | 1 => ⟨S4096x512, .f32⟩
  | 2 => ⟨S3x512, .f32⟩
  | 3 => ⟨S1x512, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S2x512, .f32⟩
  | 10 => ⟨S4098x512, .f32⟩
  | 11 => ⟨S1x512, .f32⟩
  | 12 => ⟨S512, .f32⟩
  | 13 => ⟨S4096x512, .f32⟩
  | 14 => ⟨S1x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S1x512, .f32⟩
  | 21 => ⟨S512, .f32⟩
  | 22 => ⟨S4096x512, .f32⟩
  | 23 => ⟨S1x512, .f32⟩
  | 24 => ⟨S4096x512, .f32⟩
  | 25 => ⟨S4096x512, .f32⟩
  | 26 => ⟨S4096x512, .f32⟩
  | 27 => ⟨S1x512, .f32⟩
  | 28 => ⟨S512, .f32⟩
  | 29 => ⟨S4096x512, .f32⟩
  | 30 => ⟨S1x512, .f32⟩
  | 31 => ⟨S4096x512, .f32⟩
  | 32 => ⟨S4096x512, .f32⟩
  | 33 => ⟨S4096x512, .f32⟩
  | 34 => ⟨S4096x512, .f32⟩
  | 35 => ⟨S4096x8x64, .f32⟩
  | 36 => ⟨S4096x8x64, .f32⟩
  | 37 => ⟨S_, .f32⟩
  | 38 => ⟨S4096x8x64, .f32⟩
  | 39 => ⟨S4096x8x64, .f32⟩
  | 40 => ⟨S_, .f32⟩
  | 41 => ⟨S4096x8, .f32⟩
  | 42 => ⟨S4096x8x1, .f32⟩
  | 43 => ⟨S_, .f32⟩
  | 44 => ⟨S4096x8x1, .f32⟩
  | 45 => ⟨S4096x8x1, .f32⟩
  | 46 => ⟨S_, .f32⟩
  | 47 => ⟨S4096x8x1, .f32⟩
  | 48 => ⟨S4096x8x1, .f32⟩
  | 49 => ⟨S4096x8x1, .f32⟩
  | 50 => ⟨S4096x8x1, .f32⟩
  | 51 => ⟨S_, .f32⟩
  | 52 => ⟨S4096x8x1, .f32⟩
  | 53 => ⟨S4096x8x1, .f32⟩
  | 54 => ⟨S4096x8x64, .f32⟩
  | 55 => ⟨S4096x8x64, .f32⟩
  | 56 => ⟨S4096x512, .f32⟩
  | 57 => ⟨S4096x512, .f32⟩
  | 58 => ⟨S4096x512, .f32⟩
  | 59 => ⟨S4096x512, .f32⟩
  | 60 => ⟨S_, .f32⟩
  | 61 => ⟨S512, .f32⟩
  | 62 => ⟨S1x512, .f32⟩
  | 63 => ⟨S4096x512, .f32⟩
  | 64 => ⟨S4096x512, .f32⟩
  | 65 => ⟨S4096x8x64, .f32⟩
  | 66 => ⟨S4096x8x64, .f32⟩
  | 67 => ⟨S_, .f32⟩
  | 68 => ⟨S4096x8, .f32⟩
  | 69 => ⟨S4096x8x1, .f32⟩
  | 70 => ⟨S4096x8x64, .f32⟩
  | 71 => ⟨S4096x8x64, .f32⟩
  | 72 => ⟨S4096x8x1, .f32⟩
  | 73 => ⟨S_, .f32⟩
  | 74 => ⟨S4096x8x1, .f32⟩
  | 75 => ⟨S4096x8x1, .f32⟩
  | 76 => ⟨S_, .f32⟩
  | 77 => ⟨S4096x8, .f32⟩
  | 78 => ⟨S4096x8x64, .f32⟩
  | 79 => ⟨S4096x8x64, .f32⟩
  | 80 => ⟨S4096x8x64, .f32⟩
  | 81 => ⟨S4096x512, .f32⟩
  | 82 => ⟨S4096x512, .f32⟩
  | 83 => ⟨S4096x512, .f32⟩
  | 84 => ⟨S_, .f32⟩
  | 85 => ⟨S2x512, .f32⟩
  | 86 => ⟨S4098x512, .f32⟩
  | 87 => ⟨S1x512, .f32⟩
  | 88 => ⟨S512, .f32⟩
  | 89 => ⟨S4096x512, .f32⟩
  | 90 => ⟨S1x512, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S1x512, .f32⟩
  | 97 => ⟨S512, .f32⟩
  | 98 => ⟨S4096x512, .f32⟩
  | 99 => ⟨S1x512, .f32⟩
  | 100 => ⟨S4096x512, .f32⟩
  | 101 => ⟨S4096x512, .f32⟩
  | 102 => ⟨S4096x512, .f32⟩
  | 103 => ⟨S1x512, .f32⟩
  | 104 => ⟨S512, .f32⟩
  | 105 => ⟨S4096x512, .f32⟩
  | 106 => ⟨S1x512, .f32⟩
  | 107 => ⟨S4096x512, .f32⟩
  | 108 => ⟨S4096x512, .f32⟩
  | 109 => ⟨S4096x512, .f32⟩
  | 110 => ⟨S4096x512, .f32⟩
  | 111 => ⟨S_, .f32⟩
  | 112 => ⟨S512, .f32⟩
  | 113 => ⟨S1x512, .f32⟩
  | 114 => ⟨S_, .f32⟩
  | 115 => ⟨S512, .f32⟩
  | 116 => ⟨S1x512, .f32⟩
  | 117 => ⟨S_, .f32⟩
  | 118 => ⟨S3x512, .f32⟩
  | 119 => ⟨S4096x512, .f32⟩
  | 120 => ⟨S_, .f32⟩
  | 121 => ⟨S512, .f32⟩
  | 122 => ⟨S1x512, .f32⟩
  | 123 => ⟨S_, .f32⟩
  | 124 => ⟨S512, .f32⟩
  | 125 => ⟨S1x512, .f32⟩
  | 126 => ⟨S_, .f32⟩
  | 127 => ⟨S3x512, .f32⟩
  | _ => ⟨S4096x1536, .f32⟩

abbrev hbmTy0_1 (i : Nat) : BufTy := match i % 128 with
  | 0 => ⟨S3x512, .f32⟩
  | 1 => ⟨S4096x512, .f32⟩
  | 2 => ⟨S_, .f32⟩
  | 3 => ⟨S512, .f32⟩
  | 4 => ⟨S1x512, .f32⟩
  | 5 => ⟨S_, .f32⟩
  | 6 => ⟨S512, .f32⟩
  | 7 => ⟨S1x512, .f32⟩
  | 8 => ⟨S_, .f32⟩
  | 9 => ⟨S3x512, .f32⟩
  | 10 => ⟨S3x512, .f32⟩
  | 11 => ⟨S4096x512, .bf16⟩
  | 12 => ⟨S_, .f32⟩
  | 13 => ⟨S4x512, .f32⟩
  | 14 => ⟨S8x512, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_10 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_11 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_12 : Ref sig .tc := ⟨.hbm, 111, rfl⟩
abbrev main_v94 : Ref sig .tc := ⟨.hbm, 112, rfl⟩
abbrev main_v95 : Ref sig .tc := ⟨.hbm, 113, rfl⟩
abbrev main_cst_13 : Ref sig .tc := ⟨.hbm, 114, rfl⟩
abbrev main_v96 : Ref sig .tc := ⟨.hbm, 115, rfl⟩
abbrev main_v97 : Ref sig .tc := ⟨.hbm, 116, rfl⟩
abbrev main_cst_14 : Ref sig .tc := ⟨.hbm, 117, rfl⟩
abbrev main_v98 : Ref sig .tc := ⟨.hbm, 118, rfl⟩
abbrev main_v99 : Ref sig .tc := ⟨.hbm, 119, rfl⟩
abbrev main_cst_15 : Ref sig .tc := ⟨.hbm, 120, rfl⟩
abbrev main_v100 : Ref sig .tc := ⟨.hbm, 121, rfl⟩
abbrev main_v101 : Ref sig .tc := ⟨.hbm, 122, rfl⟩
abbrev main_cst_16 : Ref sig .tc := ⟨.hbm, 123, rfl⟩
abbrev main_v102 : Ref sig .tc := ⟨.hbm, 124, rfl⟩
abbrev main_v103 : Ref sig .tc := ⟨.hbm, 125, rfl⟩
abbrev main_cst_17 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_18 : Ref sig .tc := ⟨.hbm, 130, rfl⟩
abbrev main_v107 : Ref sig .tc := ⟨.hbm, 131, rfl⟩
abbrev main_v108 : Ref sig .tc := ⟨.hbm, 132, rfl⟩
abbrev main_cst_19 : Ref sig .tc := ⟨.hbm, 133, rfl⟩
abbrev main_v109 : Ref sig .tc := ⟨.hbm, 134, rfl⟩
abbrev main_v110 : Ref sig .tc := ⟨.hbm, 135, rfl⟩
abbrev main_cst_20 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_21 : Ref sig .tc := ⟨.hbm, 140, rfl⟩
abbrev main_v114 : Ref sig .tc := ⟨.hbm, 141, rfl⟩
abbrev main_v115 : Ref sig .tc := ⟨.hbm, 142, rfl⟩

abbrev nD : Nat := 1
abbrev τ : Topo := Topo.v7x

variable {F : FTy → Type} [FloatOps F]
-- ==== Kernel2.lean ====
abbrev S4096x1536 : Shape := ⟨2, ![4096, 1536]⟩
abbrev S4096x512 : Shape := ⟨2, ![4096, 512]⟩
abbrev S3x512 : Shape := ⟨2, ![3, 512]⟩
abbrev S_ : Shape := ⟨0, ![]⟩
abbrev S8x512 : Shape := ⟨2, ![8, 512]⟩
abbrev S4096x3072 : Shape := ⟨2, ![4096, 3072]⟩
abbrev S512x1536 : Shape := ⟨2, ![512, 1536]⟩
abbrev S512x512 : Shape := ⟨2, ![512, 512]⟩
abbrev S512x3072 : Shape := ⟨2, ![512, 3072]⟩
abbrev S1x512 : Shape := ⟨2, ![1, 512]⟩

abbrev nBuf : Space → Nat
  | .hbm => 11
  | .vmem => 17
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .hbm, ⟨7, _⟩ => ⟨S_, .i32⟩
  | .hbm, ⟨8, _⟩ => ⟨S_, .f32⟩
  | .hbm, ⟨9, _⟩ => ⟨S8x512, .f32⟩
  | .hbm, ⟨10, _⟩ => ⟨S4096x3072, .bf16⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S8x512, .f32⟩
  | .local _ .vmem, ⟨15, _⟩ => ⟨S512x3072, .bf16⟩
  | .local _ .vmem, ⟨16, _⟩ => ⟨S512x3072, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4096x1536 : Shape := ⟨2, ![4096, 1536]⟩
abbrev S4096x512 : Shape := ⟨2, ![4096, 512]⟩
abbrev S3x512 : Shape := ⟨2, ![3, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S4096x3072 : Shape := ⟨2, ![4096, 3072]⟩

abbrev nBuf : Space → Nat
  | .hbm => 62
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S2x512, .f32⟩
  | .hbm, ⟨13, _⟩ => ⟨S4098x512, .f32⟩
  | .hbm, ⟨14, _⟩ => ⟨S_, .f32⟩
  | .hbm, ⟨15, _⟩ => ⟨S2x512, .f32⟩
  | .hbm, ⟨16, _⟩ => ⟨S1x512, .f32⟩
  | .hbm, ⟨17, _⟩ => ⟨S512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S1x512, .f32⟩
  | .hbm, ⟨26, _⟩ => ⟨S512, .f32⟩
  | .hbm, ⟨27, _⟩ => ⟨S4096x512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S1x512, .f32⟩
  | .hbm, ⟨33, _⟩ => ⟨S512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4098x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4098x512, .f32⟩
  | .hbm, ⟨49, _⟩ => ⟨S4098x512, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S4098x512, .f32⟩
  | .hbm, ⟨54, _⟩ => ⟨S4098x512, .f32⟩
  | .hbm, ⟨55, _⟩ => ⟨S2x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .bf16⟩
  | .hbm, ⟨60, _⟩ => ⟨S4096x512, .bf16⟩
  | .hbm, ⟨61, _⟩ => ⟨S4096x3072, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S8x1024 : Shape := ⟨2, ![8, 1024]⟩
abbrev S4096x512 : Shape := ⟨2, ![4096, 512]⟩
abbrev S256x4096 : Shape := ⟨2, ![256, 4096]⟩
abbrev S256x1024 : Shape := ⟨2, ![256, 1024]⟩
abbrev S256x1 : Shape := ⟨2, ![256, 1]⟩
abbrev S256x512 : Shape := ⟨2, ![256, 512]⟩
abbrev S1x1024x1024 : Shape := ⟨3, ![1, 1024, 1024]⟩
abbrev S256 : Shape := ⟨1, ![256]⟩
abbrev S512x1024 : Shape := ⟨2, ![512, 1024]⟩
abbrev S1024 : Shape := ⟨1, ![1024]⟩

abbrev nBuf : Space → Nat
  | .hbm => 51
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .bf16⟩
  | .hbm, ⟨39, _⟩ => ⟨S1024x4096, .bf16⟩
  | .hbm, ⟨40, _⟩ => ⟨S1024x4x1024, .bf16⟩
  | .hbm, ⟨41, _⟩ => ⟨S4x1024x1024, .bf16⟩
  | .hbm, ⟨42, _⟩ => ⟨S4096x1024, .bf16⟩
  | .hbm, ⟨43, _⟩ => ⟨S4x1024x1024, .bf16⟩
  | .hbm, ⟨44, _⟩ => ⟨S1024x1024, .bf16⟩
  | .hbm, ⟨45, _⟩ => ⟨S4096x4096, .bf16⟩
  | .hbm, ⟨46, _⟩ => ⟨S4096x1024, .f32⟩
  | .hbm, ⟨47, _⟩ => ⟨S8x1024, .f32⟩
  | .hbm, ⟨48, _⟩ => ⟨S4096x1024, .bf16⟩
  | .hbm, ⟨49, _⟩ => ⟨S4096x512, .f32⟩
  | .hbm, ⟨50, _⟩ => ⟨S4096x512, .f32⟩
  | .local _ .vmem, ⟨0, _⟩ => ⟨S256x4096, .bf16⟩
  | .local _ .vmem, ⟨1, _⟩ => ⟨S256x4096, .bf16⟩
  | .local _ .vmem, ⟨2, _⟩ => ⟨S256x1024, .f32⟩
  | .local _ .vmem, ⟨3, _⟩ => ⟨S256x1024, .f32⟩
  | .local _ .vmem, ⟨4, _⟩ => ⟨S4x1024x1024, .bf16⟩
  | .local _ .vmem, ⟨5, _⟩ => ⟨S4x1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S1x1024, .f32⟩
  | .local _ .vmem, ⟨11, _⟩ => ⟨S1024x1024, .bf16⟩
  | .local _ .vmem, ⟨12, _⟩ => ⟨S256x4096, .bf16⟩
  | .local _ .vmem, ⟨13, _⟩ => ⟨S256x4096, .bf16⟩
  | .local _ .vmem, ⟨14, _⟩ => ⟨S256x1024, .f32⟩
  | .local _ .vmem, ⟨15, _⟩ => ⟨S256x1024, .f32⟩
  | .local _ .vmem, ⟨16, _⟩ => ⟨S8x1024, .f32⟩
  | .local _ .vmem, ⟨17, _⟩ => ⟨S256x1024, .bf16⟩
  | .local _ .vmem, ⟨18, _⟩ => ⟨S256x1024, .bf16⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v31_3 : Ref sig .tc := ⟨.hbm, 48, rfl⟩
abbrev main_v31_4 : Ref sig .tc := ⟨.hbm, 49, rfl⟩
abbrev main_v31_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S6x1024 : Shape := ⟨2, ![6, 1024]⟩
abbrev S8x1024 : Shape := ⟨2, ![8, 1024]⟩
abbrev S4096x512 : Shape := ⟨2, ![4096, 512]⟩

abbrev nBuf : Space → Nat
  | .hbm => 168
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1024x4096, .f32⟩
  | 4 => ⟨S4096x1024, .f32⟩
  | 5 => ⟨S1024x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S_, .f32⟩
  | 25 => ⟨S4096x1, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x4096, .f32⟩
  | 35 => ⟨S_, .f32⟩
  | 36 => ⟨S4096x4096, .f32⟩
  | 37 => ⟨S4096x4096, .f32⟩
  | 38 => ⟨S_, .f32⟩
  | 39 => ⟨S4096x4096, .f32⟩
  | 40 => ⟨S4096x4096, .i1⟩
  | 41 => ⟨S_, .f32⟩
  | 42 => ⟨S4096x4096, .f32⟩
  | 43 => ⟨S4096x4096, .f32⟩
  | 44 => ⟨S_, .f32⟩
  | 45 => ⟨S4096x4096, .f32⟩
  | 46 => ⟨S4096x4096, .f32⟩
  | 47 => ⟨S4096x1024, .f32⟩
  | 48 => ⟨S4096x4096, .f32⟩
  | 49 => ⟨S4096x4096, .f32⟩
  | 50 => ⟨S_, .f32⟩
  | 51 => ⟨S4096x4096, .f32⟩
  | 52 => ⟨S4096x4096, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S_, .f32⟩
  | 74 => ⟨S4096x1, .f32⟩
  | 75 => ⟨S4096x1, .f32⟩
  | 76 => ⟨S4096x1, .f32⟩
  | 77 => ⟨S4096x1, .f32⟩
  | 78 => ⟨S_, .f32⟩
  | 79 => ⟨S4096x1, .f32⟩
  | 80 => ⟨S4096x1, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S4096x4096, .f32⟩
  | 91 => ⟨S_, .f32⟩
  | 92 => ⟨S4096x4096, .f32⟩
  | 93 => ⟨S4096x4096, .f32⟩
  | 94 => ⟨S_, .f32⟩
  | 95 => ⟨S4096x4096, .f32⟩
  | 96 => ⟨S4096x4096, .i1⟩
  | 97 => ⟨S_, .f32⟩
  | 98 => ⟨S4096x4096, .f32⟩
  | 99 => ⟨S4096x4096, .f32⟩
  | 100 => ⟨S_, .f32⟩
  | 101 => ⟨S4096x4096, .f32⟩
  | 102 => ⟨S4096x4096, .f32⟩
  | 103 => ⟨S4096x1024, .f32⟩
  | 104 => ⟨S4096x1024, .f32⟩
  | 105 => ⟨S4096x1024, .f32⟩
  | 106 => ⟨S4096x1024, .f32⟩
  | 107 => ⟨S4096x4096, .f32⟩
  | 108 => ⟨S4096x4096, .f32⟩
  | 109 => ⟨S_, .f32⟩
  | 110 => ⟨S4096x4096, .f32⟩
  | 111 => ⟨S4096x4096, .f32⟩
  | 112 => ⟨S4096x1024, .f32⟩
  | 113 => ⟨S_, .f32⟩
  | 114 => ⟨S4096x1024, .f32⟩
  | 115 => ⟨S4096x1024, .f32⟩
  | 116 => ⟨S4096x1024, .f32⟩
  | 117 => ⟨S_, .f32⟩
  | 118 => ⟨S1024, .f32⟩
  | 119 => ⟨S1x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096, .f32⟩
  | 1 => ⟨S4096x1, .f32⟩
  | 2 => ⟨S4096x1024, .f32⟩
  | 3 => ⟨S4096x1024, .f32⟩
  | 4 => ⟨S4096x1, .f32⟩
  | 5 => ⟨S4096x1024, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S4096x1024, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S_, .f32⟩
  | 34 => ⟨S6x1024, .f32⟩
  | 35 => ⟨S8x1024, .f32⟩
  | 36 => ⟨S4096x4096, .bf16⟩
  | 37 => ⟨S4096x1024, .bf16⟩
  | 38 => ⟨S4096x512, .f32⟩
  | 39 => ⟨S4096x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_20 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_21 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_22 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_23 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_24 : Ref sig .tc := ⟨.hbm, 134, rfl⟩
abbrev main_v98 : Ref sig .tc := ⟨.hbm, 135, rfl⟩
abbrev main_v99 : Ref sig .tc := ⟨.hbm, 136, rfl⟩
abbrev main_cst_25 : Ref sig .tc := ⟨.hbm, 137, rfl⟩
abbrev main_v100 : Ref sig .tc := ⟨.hbm, 138, rfl⟩
abbrev main_v101 : Ref sig .tc := ⟨.hbm, 139, rfl⟩
abbrev main_cst_26 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_27 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_28 : Ref sig .tc := ⟨.hbm, 150, rfl⟩
abbrev main_v110 : Ref sig .tc := ⟨.hbm, 151, rfl⟩
abbrev main_v111 : Ref sig .tc := ⟨.hbm, 152, rfl⟩
abbrev main_cst_29 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_30 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_31 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .hbm, ⟨3, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference5Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x512 : Shape := ⟨2, ![4096, 512]⟩
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S1024x1024, .f32⟩
  | .hbm, ⟨4, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let v5 : BitVec 32 := Scalar.extui v4
  let c0_i32_3 : BitVec 32 := 0#32
  let v6 : BitVec 1 := Scalar.cmpi .ne v5 c0_i32_3
  v6

def k0_cond3 (i : grid0.Coords) : BitVec 1 :=
  let arg0 : BitVec 32 := BitVec.ofNat 32 (i 0).val
  let c1_i32 : BitVec 32 := 1#32
  let v7 : BitVec 1 := Scalar.cmpi .eq arg0 c1_i32
  let v8 : BitVec 32 := Scalar.extui v7
  let c0_i32_4 : BitVec 32 := 0#32
  let v9 : BitVec 1 := Scalar.cmpi .ne v8 c0_i32_4
  v9

def k0_cond4 (i : grid0.Coords) : BitVec 1 :=
  let arg1 : BitVec 32 := BitVec.ofNat 32 (i 1).val
  let c1_i32_5 : BitVec 32 := 1#32
  let v10 : BitVec 1 := Scalar.cmpi .eq arg1 c1_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S1024x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S4096x3072 : Shape := ⟨2, ![4096, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x768, .f32⟩
  | .hbm, ⟨3, _⟩ => ⟨S4x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | .local _ .vmem, ⟨6, _⟩ => ⟨S1x1024x768, .bf16⟩
  | .local _ .vmem, ⟨7, _⟩ => ⟨S1x1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference7Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | .hbm, ⟨11, _⟩ => ⟨S4x1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x1024 : Shape := ⟨2, ![4096, 1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S8x1024 : Shape := ⟨2, ![8, 1024]⟩
abbrev S8x128 : Shape := ⟨2, ![8, 128]⟩
abbrev S4096x4096 : Shape := ⟨2, ![4096, 4096]⟩
abbrev S256x1024 : Shape := ⟨2, ![256, 1024]⟩
abbrev S256x4096 : Shape := ⟨2, ![256, 4096]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .bf16⟩
  | .hbm, ⟨10, _⟩ => ⟨S4x1024x1024, .bf16⟩
  | .hbm, ⟨11, _⟩ => ⟨S4096x1024, .f32⟩
  | .hbm, ⟨12, _⟩ => ⟨S8x1024, .f32⟩
  | .hbm, ⟨13, _⟩ => ⟨S8x128, .f32⟩
  | .hbm, ⟨14, _⟩ => ⟨S4096x4096, .bf16⟩
  | .hbm, ⟨15, _⟩ => ⟨S4096x4096, .bf16⟩
  | .hbm, ⟨16, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S4x1024x1024, .bf16⟩
  | .local _ .vmem, ⟨3, _⟩ => ⟨S4x1024x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x128, .f32⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S4096x1024 : Shape := ⟨2, ![4096, 1024]⟩
abbrev S1024x4096 : Shape := ⟨2, ![1024, 4096]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩
abbrev S8x128 : Shape := ⟨2, ![8, 128]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S4096x1024, .f32⟩
  | .hbm, ⟨105, _⟩ => ⟨S4096x1, .f32⟩
  | .hbm, ⟨106, _⟩ => ⟨S_, .f32⟩
  | .hbm, ⟨107, _⟩ => ⟨S4096x1, .f32⟩
  | .hbm, ⟨108, _⟩ => ⟨S4096x1, .f32⟩
  | .hbm, ⟨109, _⟩ => ⟨S_, .f32⟩
  | .hbm, ⟨110, _⟩ => ⟨S4096, .f32⟩
  | .hbm, ⟨111, _⟩ => ⟨S4096x1024, .f32⟩
  | .hbm, ⟨112, _⟩ => ⟨S4096x1024, .f32⟩
  | .hbm, ⟨113, _⟩ => ⟨S_, .f32⟩
  | .hbm, ⟨114, _⟩ => ⟨S6x1024, .f32⟩
  | .hbm, ⟨115, _⟩ => ⟨S8x1024, .f32⟩
  | .hbm, ⟨116, _⟩ => ⟨S8x128, .f32⟩
  | .hbm, ⟨117, _⟩ => ⟨S4096x4096, .bf16⟩
  | .hbm, ⟨118, _⟩ => ⟨S4096x4096, .bf16⟩
  | .hbm, ⟨119, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_cst_12 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_cst_14 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_15 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_16 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_17 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_18 : Ref sig .tc := ⟨.hbm, 90, rfl⟩
abbrev main_v63 : Ref sig .tc := ⟨.hbm, 91, rfl⟩
abbrev main_v64 : Ref sig .tc := ⟨.hbm, 92, rfl⟩
abbrev main_cst_19 : Ref sig .tc := ⟨.hbm, 93, rfl⟩
abbrev main_v65 : Ref sig .tc := ⟨.hbm, 94, rfl⟩
abbrev main_v66 : Ref sig .tc := ⟨.hbm, 95, rfl⟩
abbrev main_cst_20 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_21 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_22 : Ref sig .tc := ⟨.hbm, 106, rfl⟩
abbrev main_v75 : Ref sig .tc := ⟨.hbm, 107, rfl⟩
abbrev main_v76 : Ref sig .tc := ⟨.hbm, 108, rfl⟩
abbrev main_cst_23 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_24 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩

abbrev nD : Nat := 1
abbrev τ : Topo := Topo.v7x

variable {F : FTy → Type} [FloatOps F]
-- ==== Kernel9.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 17
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S4096x1024, .f32⟩
  | .hbm, ⟨8, _⟩ => ⟨S4096x1024, .f32⟩
  | .hbm, ⟨9, _⟩ => ⟨S4096x1, .f32⟩
  | .hbm, ⟨10, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .bf16⟩
  | .local _ .vmem, ⟨16, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel10.lean ====
abbrev S4096x1536 : Shape := ⟨2, ![4096, 1536]⟩
abbrev S3x512 : Shape := ⟨2, ![3, 512]⟩
abbrev S1x512 : Shape := ⟨2, ![1, 512]⟩
abbrev S_ : Shape := ⟨0, ![]⟩
abbrev S8x512 : Shape := ⟨2, ![8, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128 : Shape := ⟨1, ![128]⟩
abbrev S1x128 : Shape := ⟨2, ![1, 128]⟩
abbrev S256x128 : Shape := ⟨2, ![256, 128]⟩
abbrev S1x256x256 : Shape := ⟨3, ![1, 256, 256]⟩
abbrev S2x256x256 : Shape := ⟨3, ![2, 256, 256]⟩
abbrev S4096x512 : Shape := ⟨2, ![4096, 512]⟩
abbrev S512x1536 : Shape := ⟨2, ![512, 1536]⟩
abbrev S8x1536 : Shape := ⟨2, ![8, 1536]⟩
abbrev S512x512 : Shape := ⟨2, ![512, 512]⟩
abbrev S512x128 : Shape := ⟨2, ![512, 128]⟩
abbrev S512x256 : Shape := ⟨2, ![512, 256]⟩

abbrev nBuf : Space → Nat
  | .hbm => 135
  | .vmem => 9
  | .smem => 0
  | _ => 0

abbrev hbmTy0_0 (i : Nat) : BufTy := match i % 128 with
  | 0 => ⟨S4096x1536, .f32⟩
  | 1 => ⟨S3x512, .f32⟩
  | 2 => ⟨S1x512, .f32⟩
  | 3 => ⟨S_, .i32⟩
  | 4 => ⟨S_, .f32⟩
  | 5 => ⟨S8x512, .f32⟩
  | 6 => ⟨S256, .i32⟩
  | 7 => ⟨S256x1, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S256x1, .i32⟩
  | 15 => ⟨S256x1, .i32⟩
  | 16 => ⟨S_, .i32⟩
  | 17 => ⟨S256x1, .i32⟩
  | 18 => ⟨S256x1, .i1⟩
  | 19 => ⟨S_, .i32⟩
  | 20 => ⟨S256x1, .i32⟩
  | 21 => ⟨S256x1, .i1⟩
  | 22 => ⟨S_, .i32⟩
  | 23 => ⟨S_, .i1⟩
  | 24 => ⟨S256x1, .i1⟩
  | 25 => ⟨S256x1, .i1⟩
  | 26 => ⟨S256x1, .i1⟩
  | 27 => ⟨S256x1, .i32⟩
  | 28 => ⟨S256x1, .i32⟩
  | 29 => ⟨S256x1, .i32⟩
  | 30 => ⟨S256, .i32⟩
  | 31 => ⟨S1x256, .i32⟩
  | 32 => ⟨S_, .i32⟩
  | 33 => ⟨S1x256, .i32⟩
  | 34 => ⟨S1x256, .i1⟩
  | 35 => ⟨S256x256, .i32⟩
  | 36 => ⟨S256x256, .i32⟩
  | 37 => ⟨S256x256, .i1⟩
  | 38 => ⟨S_, .i1⟩
  | 39 => ⟨S256x256, .i1⟩
  | 40 => ⟨S256x256, .i1⟩
  | 41 => ⟨S256x256, .i1⟩
  | 42 => ⟨S256x256, .bf16⟩
  | 43 => ⟨S_, .i32⟩
  | 44 => ⟨S1x256, .i32⟩
  | 45 => ⟨S1x256, .i1⟩
  | 46 => ⟨S256x256, .i32⟩
  | 47 => ⟨S256x256, .i32⟩
  | 48 => ⟨S256x256, .i1⟩
  | 49 => ⟨S_, .i1⟩
  | 50 => ⟨S256x256, .i1⟩
  | 51 => ⟨S256x256, .i1⟩
  | 52 => ⟨S256x256, .i1⟩
  | 53 => ⟨S256x256, .bf16⟩
  | 54 => ⟨S_, .i32⟩
  | 55 => ⟨S1x256, .i32⟩
  | 56 => ⟨S1x256, .i1⟩
  | 57 => ⟨S256x256, .i32⟩
  | 58 => ⟨S256x256, .i32⟩
  | 59 => ⟨S256x256, .i1⟩
  | 60 => ⟨S_, .i1⟩
  | 61 => ⟨S256x256, .i1⟩
  | 62 => ⟨S256x256, .i1⟩
  | 63 => ⟨S256x256, .i1⟩
  | 64 => ⟨S256x256, .bf16⟩
  | 65 => ⟨S256, .i32⟩
  | 66 => ⟨S256x1, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S256x1, .i32⟩
  | 74 => ⟨S256x1, .i32⟩
  | 75 => ⟨S_, .i32⟩
  | 76 => ⟨S256x1, .i32⟩
  | 77 => ⟨S256x1, .i1⟩
  | 78 => ⟨S_, .i32⟩
  | 79 => ⟨S256x1, .i32⟩
  | 80 => ⟨S256x1, .i1⟩
  | 81 => ⟨S_, .i32⟩
  | 82 => ⟨S_, .i1⟩
  | 83 => ⟨S256x1, .i1⟩
  | 84 => ⟨S256x1, .i1⟩
  | 85 => ⟨S256x1, .i1⟩
  | 86 => ⟨S256x1, .i32⟩
  | 87 => ⟨S256x1, .i32⟩
  | 88 => ⟨S256x1, .i32⟩
  | 89 => ⟨S_, .i32⟩
  | 90 => ⟨S_, .i32⟩
  | 91 => ⟨S256x1, .i32⟩
  | 92 => ⟨S256x1, .i32⟩
  | 93 => ⟨S256x1, .i32⟩
  | 94 => ⟨S_, .i32⟩
  | 95 => ⟨S256x1, .i32⟩
  | 96 => ⟨S256x1, .i1⟩
  | 97 => ⟨S256x1, .i32⟩
  | 98 => ⟨S256x1, .i32⟩
  | 99 => ⟨S_, .i32⟩
  | 100 => ⟨S256x1, .i32⟩
  | 101 => ⟨S256x1, .i1⟩
  | 102 => ⟨S256x1, .i1⟩
  | 103 => ⟨S_, .i32⟩
  | 104 => ⟨S256x1, .i32⟩
  | 105 => ⟨S256x1, .i32⟩
  | 106 => ⟨S256x1, .i32⟩
  | 107 => ⟨S128, .i32⟩
  | 108 => ⟨S1x128, .i32⟩
  | 109 => ⟨S_, .i32⟩
  | 110 => ⟨S_, .i32⟩
  | 111 => ⟨S1x128, .i32⟩
  | 112 => ⟨S1x128, .i32⟩
  | 113 => ⟨S1x128, .i32⟩
  | 114 => ⟨S_, .i32⟩
  | 115 => ⟨S1x128, .i32⟩
  | 116 => ⟨S1x128, .i1⟩
  | 117 => ⟨S1x128, .i32⟩
  | 118 => ⟨S1x128, .i32⟩
  | 119 => ⟨S_, .i32⟩
  | 120 => ⟨S1x128, .i32⟩
  | 121 => ⟨S1x128, .i1⟩
  | 122 => ⟨S1x128, .i1⟩
  | 123 => ⟨S_, .i32⟩
  | 124 => ⟨S1x128, .i32⟩
  | 125 => ⟨S1x128, .i32⟩
  | 126 => ⟨S1x128, .i32⟩
  | 127 => ⟨S256x128, .i32⟩
  | _ => ⟨S4096x1536, .f32⟩

abbrev hbmTy0_1 (i : Nat) : BufTy := match i % 128 with
  | 0 => ⟨S256x128, .i32⟩
  | 1 => ⟨S256x128, .i1⟩
  | 2 => ⟨S256x128, .bf16⟩
  | 3 => ⟨S1x256x256, .bf16⟩
  | 4 => ⟨S1x256x256, .bf16⟩
  | 5 => ⟨S2x256x256, .bf16⟩
  | 6 => ⟨S4096x512, .bf16⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S8x512, .f32⟩
  | .local _ .vmem, ⟨5, _⟩ => ⟨S1x512, .f32⟩
  | .local _ .vmem, ⟨6, _⟩ => ⟨S256x128, .bf16⟩
  | .local _ .vmem, ⟨7, _⟩ => ⟨S512x512, .bf16⟩
  | .local _ .vmem, ⟨8, _⟩ => ⟨S512x512, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_call1_c : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_c_1 : Ref sig .tc := ⟨.hbm, 16, rfl⟩
abbrev main_call1_v5 : Ref sig .tc := ⟨.hbm, 17, rfl⟩
abbrev main_call1_v6 : Ref sig .tc := ⟨.hbm, 18, rfl⟩
abbrev main_call1_c_2 : Ref sig .tc := ⟨.hbm, 19, rfl⟩
abbrev main_call1_v7 : Ref sig .tc := ⟨.hbm, 20, rfl⟩
abbrev main_call1_v8 : Ref sig .tc := ⟨.hbm, 21, rfl⟩
abbrev main_call1_c_3 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_2 : Ref sig .tc := ⟨.hbm, 38, rfl⟩
abbrev main_call2_v0 : Ref sig .tc := ⟨.hbm, 39, rfl⟩
abbrev main_call2_v1 : Ref sig .tc := ⟨.hbm, 40, rfl⟩
abbrev main_v11 : Ref sig .tc := ⟨.hbm, 41, rfl⟩
abbrev main_v12 : Ref sig .tc := ⟨.hbm, 42, rfl⟩
abbrev main_c_3 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_call3_v0 : Ref sig .tc := ⟨.hbm, 50, rfl⟩
abbrev main_call3_v1 : Ref sig .tc := ⟨.hbm, 51, rfl⟩
abbrev main_v18 : Ref sig .tc := ⟨.hbm, 52, rfl⟩
abbrev main_v19 : Ref sig .tc := ⟨.hbm, 53, rfl⟩
abbrev main_c_5 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_c_6 : Ref sig .tc := ⟨.hbm, 60, rfl⟩
abbrev main_call4_v0 : Ref sig .tc := ⟨.hbm, 61, rfl⟩
abbrev main_call4_v1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_c_7 : Ref sig .tc := ⟨.hbm, 67, rfl⟩
abbrev main_call5_v0 : Ref sig .tc := ⟨.hbm, 68, rfl⟩
abbrev main_call5_c : Ref sig .tc := ⟨.hbm, 69, rfl⟩
abbrev main_call5_v1 : Ref sig .tc := ⟨.hbm, 70, rfl⟩
abbrev main_call5_c_0 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_call5_c_1 : Ref sig .tc := ⟨.hbm, 75, rfl⟩
abbrev main_call5_v5 : Ref sig .tc := ⟨.hbm, 76, rfl⟩
abbrev main_call5_v6 : Ref sig .tc := ⟨.hbm, 77, rfl⟩
abbrev main_call5_c_2 : Ref sig .tc := ⟨.hbm, 78, rfl⟩
abbrev main_call5_v7 : Ref sig .tc := ⟨.hbm, 79, rfl⟩
abbrev main_call5_v8 : Ref sig .tc := ⟨.hbm, 80, rfl⟩
abbrev main_call5_c_3 : Ref sig .tc := ⟨.hbm, 81, rfl⟩
abbrev main_call5_v9 : Ref sig .tc := ⟨.hbm, 82, rfl⟩
abbrev main_call5_v10 : Ref sig .tc := ⟨.hbm, 83, rfl⟩
abbrev main_call5_v11 : Ref sig .tc := ⟨.hbm, 84, rfl⟩
abbrev main_call5_v12 : Ref sig .tc := ⟨.hbm, 85, rfl⟩
abbrev main_call5_v13 : Ref sig .tc := ⟨.hbm, 86, rfl⟩
abbrev main_call5_v14 : Ref sig .tc := ⟨.hbm, 87, rfl⟩
abbrev main_v29 : Ref sig .tc := ⟨.hbm, 88, rfl⟩
abbrev main_c_8 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_call6_v3 : Ref sig .tc := ⟨.hbm, 93, rfl⟩
abbrev main_call6_v4 : Ref sig .tc := ⟨.hbm, 94, rfl⟩
abbrev main_call6_v5 : Ref sig .tc := ⟨.hbm, 95, rfl⟩
abbrev main_call6_v6 : Ref sig .tc := ⟨.hbm, 96, rfl⟩
abbrev main_call6_v7 : Ref sig .tc := ⟨.hbm, 97, rfl⟩
abbrev main_call6_v8 : Ref sig .tc := ⟨.hbm, 98, rfl⟩
abbrev main_call6_c : Ref sig .tc := ⟨.hbm, 99, rfl⟩
abbrev main_call6_v9 : Ref sig .tc := ⟨.hbm, 100, rfl⟩
abbrev main_call6_v10 : Ref sig .tc := ⟨.hbm, 101, rfl⟩
abbrev main_call6_v11 : Ref sig .tc := ⟨.hbm, 102, rfl⟩
abbrev main_call6_c_0 : Ref sig .tc := ⟨.hbm, 103, rfl⟩
abbrev main_call6_v12 : Ref sig .tc := ⟨.hbm, 104, rfl⟩
abbrev main_call6_v13 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_c_9 : Ref sig .tc := ⟨.hbm, 109, rfl⟩
abbrev main_call7_v0 : Ref sig .tc := ⟨.hbm, 110, rfl⟩
abbrev main_call7_v1 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_v5 : Ref sig .tc := ⟨.hbm, 115, rfl⟩
abbrev main_call7_v6 : Ref sig .tc := ⟨.hbm, 116, rfl⟩
abbrev main_call7_v7 : Ref sig .tc := ⟨.hbm, 117, rfl⟩
abbrev main_call7_v8 : Ref sig .tc := ⟨.hbm, 118, rfl⟩
abbrev main_call7_c : Ref sig .tc := ⟨.hbm, 119, rfl⟩
abbrev main_call7_v9 : Ref sig .tc := ⟨.hbm, 120, rfl⟩
abbrev main_call7_v10 : Ref sig .tc := ⟨.hbm, 121, rfl⟩
abbrev main_call7_v11 : Ref sig .tc := ⟨.hbm, 122, rfl⟩
abbrev main_call7_c_0 : Ref sig .tc := ⟨.hbm, 123, rfl⟩
abbrev main_call7_v12 : Ref sig .tc := ⟨.hbm, 124, rfl⟩
abbrev main_call7_v13 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x1536 : Shape := ⟨2, ![4096, 1536]⟩
abbrev S3x512 : Shape := ⟨2, ![3, 512]⟩
abbrev S1x512 : Shape := ⟨2, ![1, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096x8x64 : Shape := ⟨3, ![4096, 8, 64]⟩
abbrev S4096x8 : Shape := ⟨2, ![4096, 8]⟩
abbrev S4096x8x1 : Shape := ⟨3, ![4096, 8, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S3x512, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S1x512, .f32⟩
  | .hbm, ⟨11, _⟩ => ⟨S512, .f32⟩
  | .hbm, ⟨12, _⟩ => ⟨S4096x512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S512, .f32⟩
  | .hbm, ⟨21, _⟩ => ⟨S4096x512, .f32⟩
  | .hbm, ⟨22, _⟩ => ⟨S1x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S512, .f32⟩
  | .hbm, ⟨28, _⟩ => ⟨S4096x512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x8x64, .f32⟩
  | .hbm, ⟨35, _⟩ => ⟨S4096x8x64, .f32⟩
  | .hbm, ⟨36, _⟩ => ⟨S_, .f32⟩
  | .hbm, ⟨37, _⟩ => ⟨S4096x8, .f32⟩
  | .hbm, ⟨38, _⟩ => ⟨S4096x8x1, .f32⟩
  | .hbm, ⟨39, _⟩ => ⟨S_, .f32⟩
  | .hbm, ⟨40, _⟩ => ⟨S4096x8x1, .f32⟩
  | .hbm, ⟨41, _⟩ => ⟨S4096x8x1, .f32⟩
  | .hbm, ⟨42, _⟩ => ⟨S_, .f32⟩
  | .hbm, ⟨43, _⟩ => ⟨S4096x8x1, .f32⟩
  | .hbm, ⟨44, _⟩ => ⟨S4096x8x1, .f32⟩
  | .hbm, ⟨45, _⟩ => ⟨S4096x8x1, .f32⟩
  | .hbm, ⟨46, _⟩ => ⟨S4096x8x64, .f32⟩
  | .hbm, ⟨47, _⟩ => ⟨S4096x8x64, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Kernel11.lean ====
abbrev S4096x1024 : Shape := ⟨2, ![4096, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S4096x1536 : Shape := ⟨2, ![4096, 1536]⟩
abbrev S512x1024 : Shape := ⟨2, ![512, 1024]⟩
abbrev S512x1536 : Shape := ⟨2, ![512, 1536]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1024x3072, .bf16⟩
  | .hbm, ⟨3, _⟩ => ⟨S1024x4x768, .bf16⟩
  | .hbm, ⟨4, _⟩ => ⟨S4x1024x768, .bf16⟩
  | .hbm, ⟨5, _⟩ => ⟨S4096x1536, .f32⟩
  | .hbm, ⟨6, _⟩ => ⟨S4096x1536, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S4x1024x768, .bf16⟩
  | .local _ .vmem, ⟨3, _⟩ => ⟨S512x1536, .f32⟩
  | .local _ .vmem, ⟨4, _⟩ => ⟨S512x1536, .f32⟩
  | .local _ .vmem, ⟨5, _⟩ => ⟨S512x1536, .bf16⟩
  | .local _ .vmem, ⟨6, _⟩ => ⟨S512x1536, .bf16⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S4096x1024 : Shape := ⟨2, ![4096, 1024]⟩
abbrev S1024x3072 : Shape := ⟨2, ![1024, 3072]⟩
abbrev S4096x3072 : Shape := ⟨2, ![4096, 3072]⟩
abbrev S4096x1536 : Shape := ⟨2, ![4096, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1536, .f32⟩
  | .hbm, ⟨4, _⟩ => ⟨S4096x1536, .f32⟩
  | .hbm, ⟨5, _⟩ => ⟨S4096x1536, .bf16⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S1024x768 : Shape := ⟨2, ![1024, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1024x1024 : Shape := ⟨2, ![1024, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S1024x1024 : Shape := ⟨2, ![1024, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Assemble.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Assemble
open Cert.Kernel2Ideal Cert.Kernel2Ideal.Gen

variable (m : (ℓ : Loc nD τ sig) → Buf (Elt Ideal) ℓ)

/-- The cotangent `d` rows further down, zero past the last row. -/
def below (dy : FVec Ideal S4096x512 .f32) (d r : ℕ) (n : Fin 512) : EReal :=
  if h : r + d < 4096 then dy (ix2 ⟨r + d, h⟩ n) else 0

theorem below_of_lt (dy : FVec Ideal S4096x512 .f32) (d r : ℕ) (n : Fin 512) (h : r + d < 4096) :
    below dy d r n = dy (ix2 ⟨r + d, h⟩ n) := dif_pos h

theorem below_of_ge (dy : FVec Ideal S4096x512 .f32) (d r : ℕ) (n : Fin 512) (h : ¬r + d < 4096) :
    below dy d r n = 0 := dif_neg h

/-- The cotangent of the convolution's input: each tap times the rows that it reached, first the row itself. -/
def du (dy : FVec Ideal S4096x512 .f32) (w : FVec Ideal S3x512 .f32) (r : ℕ) (n : Fin 512) : EReal :=
  w (ix2 2 n) * below dy 0 r n + w (ix2 1 n) * below dy 1 r n + w (ix2 0 n) * below dy 2 r n

theorem reference_du (dy : FVec Ideal S4096x512 .f32) (w : FVec Ideal S3x512 .f32) (j : S4096x512.Idx) :
    Cert.Reference2Ideal.Read.val_main_v43 (F := Ideal) dy w j
      = du dy w (j 0).val (j 1) := by
  open Cert.Reference2Ideal.Read in
  pointwise [val_main_v43, val_main_v41, val_main_v40, val_main_v39, val_main_v38, val_main_v37, val_main_v36, val_main_v35,
    val_main_v34, val_main_v33, val_main_v32, val_main_v31, val_main_v30, val_main_v29, val_main_v25, val_main_v23, val_main_v22,
    val_main_v18, val_main_v16, val_main_v15, val_main_v10, val_main_v8, val_main_v7, val_main_cst_2, val_main_cst_3, val_main_cst_4]
  unfold du below
  rw [dif_pos (show (j 0).val + 0 < 4096 from (j 0).isLt)]
  idx_bounds j
  refine congrArg₂ (· + ·) (congrArg₂ (· + ·) ?_ ?_) ?_
  · refine congrArg₂ (· * ·) rfl (congrArg dy ?_)
    idx_ext
  · by_cases h : (j 0).val + 1 < 4096
    · rw [dif_pos h, dif_pos (by omega)]
      refine congrArg₂ (· * ·) rfl (congrArg dy ?_)
      idx_ext
    · rw [dif_neg h, dif_neg (by omega), mul_zero]
  · by_cases h : (j 0).val + 2 < 4096
    · rw [dif_pos h, dif_pos (by omega)]
      refine congrArg₂ (· * ·) rfl (congrArg dy ?_)
      idx_ext
    · rw [dif_neg h, dif_neg (by omega), mul_zero]

theorem idx : ∀ t : Fin cfg0.N, win0_0.index t = ![t.val, 0] ∧ win0_1.index t = ![t.val, 0]
    ∧ win0_2.index t = ![min ((t.val + 1) * 64) 511, 0] ∧ win0_3.index t = ![t.val, 0] ∧ win0_4.index t = ![t.val, 0]
    ∧ win0_5.index t = ![t.val, 0] ∧ win0_6.index t = ![t.val, 0] ∧ win0_7.index t = ![0, 0] ∧ win0_8.index t = ![t.val, 0]
    ∧ (grid0.coords t 0).val = t.val :=
  (by decide +kernel : ∀ t : Fin grid0.N, _)

/-- The host line pads the three taps by rows of zeros. -/
theorem padded_taps (c : Dev nD) (i : S8x512.Idx) (h : (i 0).val < 3) :
    (V m c main_v0 : FVec Ideal S8x512 .f32) i
      = (m ((c : Thread nD τ).loc main_arg6) : FVec Ideal S3x512 .f32) (ix2 ⟨(i 0).val, h⟩ (i 1)) := by
  unfold V
  simp only [hostOps0, hostOps0_1, List.flatten_cons, List.flatten_nil, List.append_nil, List.cons_append, List.nil_append]
  after_reads_at
  exact dif_pos h

theorem tap (c : Dev nD) (t : Fin cfg0.N) (k : Fin 3) (n : Fin 512) :
    (iblk m c 7 t : FVec Ideal S8x512 .f32) (ix2 ⟨k.val, by omega⟩ n)
      = m ((c : Thread nD τ).loc main_arg6) (ix2 k n) := by
  blk_simp [iblk]
  refine (padded_taps m c _ ?_).trans (congrArg (m ((c : Thread nD τ).loc main_arg6) : FVec Ideal S3x512 .f32) ?_)
  · blk_simp [idx t]
    exact k.isLt
  · blk_ext [idx t]

/-- A choice by the equality of two small words is the choice by the equality of the numbers. -/
theorem select_word_eq {α : Type} (n k : ℕ) (hn : n < 2 ^ 32) (hk : k < 2 ^ 32) (a b : α) :
    Scalar.select (IntOp.cmpi .eq (BitVec.ofNat 32 n) (BitVec.ofNat 32 k)) a b = if n = k then a else b := by
  have h : (BitVec.ofNat 32 n = BitVec.ofNat 32 k) ↔ n = k := by
    constructor
    · intro e
      have := congrArg BitVec.toNat e
      rwa [BitVec.toNat_ofNat, BitVec.toNat_ofNat, Nat.mod_eq_of_lt hn, Nat.mod_eq_of_lt hk] at this
    · intro e
      rw [e]
  by_cases e : n = k
  · simp [Scalar.select, IntOp.cmpi, e]
  · have h' : ¬ BitVec.ofNat 32 n = BitVec.ofNat 32 k := fun q => e (h.mp q)
    have q : (BitVec.ofNat 32 n == BitVec.ofNat 32 k) = false := beq_eq_false_iff_ne.mpr h'
    simp only [Scalar.select, IntOp.cmpi, q, if_neg e]
    rfl

/-- Row `d - 1` of the block after point `t`'s, where that block is within the array. -/
theorem halo (c : Dev nD) (t : Fin cfg0.N) (ht : t.val < 7) (k : Fin 8) (n : Fin 512) :
    (iblk m c 2 t : FVec Ideal S8x512 .f32) (ix2 k n)
      = (m ((c : Thread nD τ).loc main_arg1) : FVec Ideal S4096x512 .f32) (ix2 ⟨(t.val + 1) * 512 + k.val, by omega⟩ n) := by
  blk_ext [iblk, V_main_arg1, idx t]

theorem block (c : Dev nD) (t : Fin cfg0.N) (x : S512x512.Idx) (j : S4096x512.Idx) (h0 : (j 0 : ℕ) = t.val * 512 + x 0)
    (h1 : (j 1 : ℕ) = x 1) :
    (iblk m c 1 t : FVec Ideal S512x512 .f32) x
      = (m ((c : Thread nD τ).loc main_arg1) : FVec Ideal S4096x512 .f32) j := by
  blk_ext [iblk, V_main_arg1, idx t]

theorem kernel_du (c : Dev nD) (t : Fin cfg0.N) (x : S512x512.Idx) (r : ℕ) (hr : r = t.val * 512 + (x 0).val) :
    k0_pay1 (F := Ideal)
      (k0_pay9 (grid0.coords t) (iblk m c 0 t) (iblk m c 1 t) (iblk m c 2 t) (iblk m c 3 t) (iblk m c 4 t) (iblk m c 5 t) (iblk m c 6 t) (iblk m c 7 t))
      (k0_pay10 (grid0.coords t) (iblk m c 0 t) (iblk m c 1 t) (iblk m c 2 t) (iblk m c 3 t) (iblk m c 4 t) (iblk m c 5 t) (iblk m c 6 t) (iblk m c 7 t))
      (k0_pay11 (grid0.coords t) (iblk m c 0 t) (iblk m c 1 t) (iblk m c 2 t) (iblk m c 3 t) (iblk m c 4 t) (iblk m c 5 t) (iblk m c 6 t) (iblk m c 7 t))
      (View.ld (iblk m c 7 t) r0_3) (View.ld (iblk m c 7 t) r0_2) x
      = du (m ((c : Thread nD τ).loc main_arg1)) (m ((c : Thread nD τ).loc main_arg6)) r (x 1) := by
  have ht : t.val < 8 := lt_of_lt_of_eq t.isLt N_0
  have hx0 : (x 0).val < 512 := (x 0).isLt
  pointwise [k0_pay1, k0_pay9, k0_pay10, k0_pay11, k0_pay6, k0_pay7, k0_pay8]
  simp only [Scalar.cmpi]
  have e7 : (grid0.coords t 0).val = t.val := by have := idx t; tauto
  rw [e7, select_word_eq _ 511 (by omega) (by omega), select_word_eq _ 511 (by omega) (by omega), select_word_eq _ 7 (by omega) (by omega),
    select_word_eq _ 7 (by omega) (by omega), select_word_eq _ 510 (by omega) (by omega)]
  refine congrArg₂ (· + ·) (congrArg₂ (· + ·) (congrArg₂ (· * ·) (tap m c t 2 (x 1)) ?_) (congrArg₂ (· * ·) (tap m c t 1 (x 1)) ?_))
    (congrArg₂ (· * ·) (tap m c t 0 (x 1)) ?_)
  · exact (block m c t x _ hr rfl).trans (below_of_lt _ 0 r (x 1) (by omega)).symm
  · by_cases h1 : (x 0).val = 511
    · refine (if_pos h1).trans ?_
      by_cases h7 : t.val = 7
      · exact (if_pos h7).trans (below_of_ge _ _ r (x 1) (by omega)).symm
      · refine (if_neg h7).trans (Eq.trans ?_ (below_of_lt _ 1 r (x 1) (by omega)).symm)
        refine (halo m c t (by omega) 0 (x 1)).trans (congrArg (m ((c : Thread nD τ).loc main_arg1) : FVec Ideal S4096x512 .f32) ?_)
        idx_ext
    · refine (if_neg h1).trans (Eq.trans ?_ (below_of_lt _ 1 r (x 1) (by omega)).symm)
      refine block m c t _ _ ?_ rfl
      show r + 1 = t.val * 512 + ((x 0).val + 512 - 511) % 512
      omega
  · by_cases h1 : (x 0).val = 511
    · refine (if_pos h1).trans ?_
      by_cases h7 : t.val = 7
      · exact (if_pos h7).trans (below_of_ge _ _ r (x 1) (by omega)).symm
      · refine (if_neg h7).trans (Eq.trans ?_ (below_of_lt _ 2 r (x 1) (by omega)).symm)
        refine (halo m c t (by omega) 1 (x 1)).trans (congrArg (m ((c : Thread nD τ).loc main_arg1) : FVec Ideal S4096x512 .f32) ?_)
        idx_ext
    · refine (if_neg h1).trans ?_
      by_cases h2 : (x 0).val = 510
      · refine (if_pos h2).trans ?_
        by_cases h7 : t.val = 7
        · exact (if_pos h7).trans (below_of_ge _ _ r (x 1) (by omega)).symm
        · refine (if_neg h7).trans (Eq.trans ?_ (below_of_lt _ 2 r (x 1) (by omega)).symm)
          refine (halo m c t (by omega) 0 (x 1)).trans (congrArg (m ((c : Thread nD τ).loc main_arg1) : FVec Ideal S4096x512 .f32) ?_)
          idx_ext
      · refine (if_neg h2).trans (Eq.trans ?_ (below_of_lt _ 2 r (x 1) (by omega)).symm)
        refine block m c t _ _ ?_ rfl
        show r + 2 = t.val * 512 + ((x 0).val + 512 - 510) % 512
        omega

/-- The columns from 512 on: the cotangent of the convolution's input times the other factor of that input. -/
theorem point_c (c : Dev nD) (t : Fin cfg0.N) (x : S512x512.Idx) (j : S4096x512.Idx)
    (h0 : (j 0 : ℕ) = t.val * 512 + x 0) (h1 : (j 1 : ℕ) = x 1) :
    k0_pay2 (F := Ideal) (k0_pay5 (View.ld (iblk m c 0 t) r0_0)) (k0_pay9 (grid0.coords t) (iblk m c 0 t) (iblk m c 1 t) (iblk m c 2 t) (iblk m c 3 t) (iblk m c 4 t) (iblk m c 5 t) (iblk m c 6 t) (iblk m c 7 t)) (k0_pay10 (grid0.coords t) (iblk m c 0 t) (iblk m c 1 t) (iblk m c 2 t) (iblk m c 3 t) (iblk m c 4 t) (iblk m c 5 t) (iblk m c 6 t) (iblk m c 7 t)) (k0_pay11 (grid0.coords t) (iblk m c 0 t) (iblk m c 1 t) (iblk m c 2 t) (iblk m c 3 t) (iblk m c 4 t) (iblk m c 5 t) (iblk m c 6 t) (iblk m c 7 t))
        (View.ld (iblk m c 7 t) r0_3) (View.ld (iblk m c 7 t) r0_2) x
      = Cert.Reference2Ideal.Read.val_main_v46 (F := Ideal) (m ((c : Thread nD τ).loc main_arg0)) (m ((c : Thread nD τ).loc main_arg1)) (m ((c : Thread nD τ).loc main_arg6)) j := by
  have hj : j 1 = x 1 := Fin.ext h1
  pointwise [k0_pay2, k0_pay5]
  rw [kernel_du m c t x _ h0, Cert.Reference2Ideal.Read.val_main_v46_apply, Cert.Reference2Ideal.Read.val_main_v45_apply, reference_du, hj]
  refine congrArg (du _ _ _ _ * ·) ?_
  pointwise [Cert.Reference2Ideal.Read.val_main_v2]
  blk_point [iblk, V_main_arg0, idx t]

/-- The columns from 1024 on: the cotangent of the convolution's input times the other factor of that input. -/
theorem point_h (c : Dev nD) (t : Fin cfg0.N) (x : S512x512.Idx) (j : S4096x512.Idx)
    (h0 : (j 0 : ℕ) = t.val * 512 + x 0) (h1 : (j 1 : ℕ) = x 1) :
    k0_pay3 (F := Ideal) (k0_pay4 (View.ld (iblk m c 0 t) r0_0)) (k0_pay9 (grid0.coords t) (iblk m c 0 t) (iblk m c 1 t) (iblk m c 2 t) (iblk m c 3 t) (iblk m c 4 t) (iblk m c 5 t) (iblk m c 6 t) (iblk m c 7 t)) (k0_pay10 (grid0.coords t) (iblk m c 0 t) (iblk m c 1 t) (iblk m c 2 t) (iblk m c 3 t) (iblk m c 4 t) (iblk m c 5 t) (iblk m c 6 t) (iblk m c 7 t)) (k0_pay11 (grid0.coords t) (iblk m c 0 t) (iblk m c 1 t) (iblk m c 2 t) (iblk m c 3 t) (iblk m c 4 t) (iblk m c 5 t) (iblk m c 6 t) (iblk m c 7 t))
        (View.ld (iblk m c 7 t) r0_3) (View.ld (iblk m c 7 t) r0_2) x
      = Cert.Reference2Ideal.Read.val_main_v47 (F := Ideal) (m ((c : Thread nD τ).loc main_arg0)) (m ((c : Thread nD τ).loc main_arg1)) (m ((c : Thread nD τ).loc main_arg6)) j := by
  have hj : j 1 = x 1 := Fin.ext h1
  pointwise [k0_pay3, k0_pay4]
  rw [kernel_du m c t x _ h0, Cert.Reference2Ideal.Read.val_main_v47_apply, Cert.Reference2Ideal.Read.val_main_v44_apply, reference_du, hj]
  refine Eq.trans (mul_comm _ _) (congrArg (· * du _ _ _ _) ?_)
  pointwise [Cert.Reference2Ideal.Read.val_main_v1]
  blk_point [iblk, V_main_arg0, idx t]

theorem point (c : Dev nD) (t : Fin cfg0.N) (y : S512x3072.Idx) (j : S4096x3072.Idx)
    (e0 : (j 0 : ℕ) = t.val * 512 + y 0) (e1 : (j 1 : ℕ) = y 1) :
    out0_8 (F := Ideal) (grid0.coords t) (iblk m c 0 t) (iblk m c 1 t) (iblk m c 2 t) (iblk m c 3 t) (iblk m c 4 t) (iblk m c 5 t) (iblk m c 6 t) (iblk m c 7 t) y
      = Cert.Reference2Ideal.Read.val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) j := by
  pointwise [Cert.Reference2Ideal.Read.val_main_v48]
  canon_tiles x h
  case piece0 =>
    rw [dif_neg (by omega), dif_neg (by omega), dif_neg (by omega), dif_neg (by omega), dif_neg (by omega)]
    blk_point [iblk, V_main_arg5, idx t]
  case piece1 =>
    rw [dif_neg (by omega), dif_neg (by omega), dif_neg (by omega), dif_neg (by omega), dif_pos (by omega)]
    blk_point [iblk, V_main_arg4, idx t]
  case piece2 =>
    rw [dif_neg (by omega), dif_neg (by omega), dif_neg (by omega), dif_pos (by omega)]
    blk_point [iblk, V_main_arg3, idx t]
  case piece3 =>
    rw [dif_neg (by omega), dif_neg (by omega), dif_pos (by omega)]
    refine point_h m c t x _ ?_ ?_
    · show (j 0 : ℕ) = _
      omega
    · show (j 1 : ℕ) - 512 - 512 = _
      omega
  case piece4 =>
    rw [dif_neg (by omega), dif_pos (by omega)]
    refine point_c m c t x _ ?_ ?_
    · show (j 0 : ℕ) = _
      omega
    · show (j 1 : ℕ) - 512 = _
      omega
  case piece5 =>
    rw [dif_pos (by omega)]
    blk_point [iblk, V_main_arg2, idx t]

theorem final (c : Dev nD) : (dats m 0 c).arrAt 8 (cfgs 0).N = Cert.Reference2Ideal.Read.val_main_v48 (F := Ideal)
    (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 8 _ (by decide +kernel) fun t hf y => ?_
  blk_simp
  rw [after0_8]
  refine point m c t y _ ?_ ?_ <;> blk_simp [idx t] <;> omega

theorem algebraic : Cert.algebraic_Kernel2Ideal_Reference2Ideal := by
  pair_intro
  · run_from Cert.Kernel2Ideal.Gen.run_main m g
    exact V_main_arg6 m c
  · run_from Cert.Reference2Ideal.Value.run m' g'
    obtain ⟨h0, h1, h2, h3, h4, h5, h6⟩ := hagree c
    rw [h4, h5, h6]
    exact (final m c).symm

end Cert.Assemble
-- ==== Proof.GradUp.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradUp
open Cert.Kernel4Ideal Cert.Kernel4Ideal.Gen

variable (m : (ℓ : Loc nD τ sig) → Buf (Elt Ideal) ℓ)

theorem zero_fill (j : S1x1024x1024.Idx) : k0_pay1 (F := Ideal) j = 0 := by pointwise [k0_pay1]

theorem add_part (acc : FVec Ideal S1x1024x1024 .f32) (x g : FVec Ideal S2048x1024 .bf16) (j : S1x1024x1024.Idx) :
    k0_pay2 (F := Ideal) acc x g j = acc j + ∑ k : Fin 2048, x (ix2 k (j 1)) * g (ix2 k (j 2)) := by
  pointwise [k0_pay2]

theorem reference_apply (x : FVec Ideal S4096x1024 .bf16) (g : FVec Ideal S4096x4096 .bf16) (j : S4x1024x1024.Idx) :
    Cert.Reference4Ideal.Read.val_main_v7 (F := Ideal) x g j
      = ∑ k : Fin 4096, x (ix2 k (j 1)) * g (ix2 k ⟨(j 0).val * 1024 + (j 2).val, by
          have h0 : (j 0).val < 4 := (j 0).isLt; have h2 : (j 2).val < 1024 := (j 2).isLt; omega⟩) := by
  rw [Cert.Reference4Ideal.Read.val_main_v7_apply, Cert.Reference4Ideal.Read.val_main_v6_apply, Cert.Reference4Ideal.Read.val_main_v5_apply,
    Cert.Reference4Ideal.Read.val_main_v4_apply]
  refine Finset.sum_congr rfl fun k _ => ?_
  rw [mul_comm]
  refine congrArg₂ (· * ·) (congrArg x ?_) (congrArg g ?_)
  · idx_bounds_all
    idx_ext
  · idx_bounds_all
    idx_ext

theorem idx : ∀ t : Fin cfg0.N, win0_0.index t = ![t.val % 2, 0] ∧ win0_1.index t = ![t.val % 2, t.val / 2]
    ∧ win0_2.index t = ![t.val / 2, 0, 0] ∧ win0_3.index t = ![t.val / 2, 0, 0] :=
  (by decide +kernel : ∀ t : Fin grid0.N, _)

theorem accumulated (c : Dev nD) (t : Fin cfg0.N) (ht : t.val % 2 = 1) (y : S1x1024x1024.Idx) (j : S4x1024x1024.Idx)
    (h0 : (j 0 : ℕ) = t.val / 2) (h1 : (j 1 : ℕ) = y 1) (h2 : (j 2 : ℕ) = y 2) :
    (outsAt0 m c t.val t.isLt).1 y = Cert.Reference4Ideal.Read.val_main_v7 (F := Ideal)
      (m ((c : Thread nD τ).loc main_arg0)) (m ((c : Thread nD τ).loc main_arg1)) j := by
  rw [Pipeline.eq_sum_fin_of_reset_step_apply_of_flush (fun n h => (outsAt0 m c n h).1) 2 (fun _ => 0) _
    (fun t h j => by rw [outsAt0_A m c t h (by omega)]; frame_out; rw [add_part, zero_fill])
    (fun t h j => by rw [outsAt0_B m c t h (by omega)]; frame_out; rw [add_part])
    t ht _, zero_add, reference_apply]
  refine Fin.sum_mul_add_congr fun s k hl => ?_
  blk_point [iblk, V, idx t, idx ⟨_, Pipeline.run_point_lt_of_flush t ht s⟩]

theorem final_f32 (c : Dev nD) : (dats m 0 c).arrAt 2 (cfgs 0).N = Cert.Reference4Ideal.Read.val_main_v7 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  refine accumulated m c t ((flush0_2 t).mp hf) y _ ?_ ?_ ?_ <;> idx_bounds y <;> blk_simp [idx t] <;> omega

theorem rounded (v : FVec Ideal S1x1024x1024 .f32) (j : S1x1024x1024.Idx) : k0_pay3 (F := Ideal) v j = v j := by
  pointwise [k0_pay3]

theorem final_bf16 (c : Dev nD) : (dats m 0 c).arrAt 3 (cfgs 0).N = Cert.Reference4Ideal.Read.val_main_v8 (F := Ideal)
    (m ((c : Thread nD τ).loc main_arg0)) (m ((c : Thread nD τ).loc main_arg1)) := by
  refine (dats m 0 c).arrAt_eq_of_covers 3 _ (by decide +kernel) fun t hf y => ?_
  have ht : t.val % 2 = 1 := (flush0_3 t).mp hf
  have h := accumulated m c t ht y
  blk_simp
  rw [after0_3, outsAt0_B m c t (by omega) ht]
  rw [outsAt0_B m c t (by omega) ht] at h
  frame_out
  frame_out at h
  rw [rounded]
  refine h _ ?_ ?_ ?_ <;> idx_bounds y <;> blk_simp [idx t] <;> omega

theorem algebraic : Cert.algebraic_Kernel4Ideal_Reference4Ideal := by
  pair_intro
  · run_from Cert.Kernel4Ideal.Gen.run_main m g
  · run_from Cert.Reference4Ideal.Value.run m' g'
    · exact (final_f32 m c).symm
    · exact (final_bf16 m c).symm

end Cert.GradUp
-- ==== Proof.GradDown.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradDown
open Cert.Kernel5Ideal Cert.Kernel5Ideal.Gen

variable (m : (ℓ : Loc nD τ sig) → Buf (Elt Ideal) ℓ)

theorem zero_fill (j : S1024x1024.Idx) : k0_pay1 (F := Ideal) j = 0 := by pointwise [k0_pay1]

theorem add_part (acc : FVec Ideal S1024x1024 .f32) (x g : FVec Ideal S2048x1024 .bf16) (j : S1024x1024.Idx) :
    k0_pay2 (F := Ideal) acc x g j = acc j + ∑ k : Fin 2048, x (ix2 k (j 0)) * g (ix2 k (j 1)) := by
  pointwise [k0_pay2]

theorem reference_apply (x : FVec Ideal S4096x4096 .bf16) (g : FVec Ideal S4096x1024 .bf16) (j : S4096x1024.Idx) :
    Cert.Reference5Ideal.Read.val_main_v5 (F := Ideal) x g j
      = ∑ k : Fin 4096, x (ix2 k (j 0)) * g (ix2 k (j 1)) := by
  rw [Cert.Reference5Ideal.Read.val_main_v5_apply, Cert.Reference5Ideal.Read.val_main_v4_apply]
  refine Finset.sum_congr rfl fun k _ => ?_
  rw [mul_comm]
  refine congrArg₂ (· * ·) (congrArg x ?_) (congrArg g ?_)
  · idx_bounds_all
    idx_ext
  · idx_bounds_all
    idx_ext

theorem idx : ∀ t : Fin cfg0.N, win0_0.index t = ![t.val % 2, t.val / 2] ∧ win0_1.index t = ![t.val % 2, 0]
    ∧ win0_2.index t = ![t.val / 2, 0] ∧ win0_3.index t = ![t.val / 2, 0] :=
  (by decide +kernel : ∀ t : Fin grid0.N, _)

theorem accumulated (c : Dev nD) (t : Fin cfg0.N) (ht : t.val % 2 = 1) (y : S1024x1024.Idx) (j : S4096x1024.Idx)
    (h0 : (j 0 : ℕ) = t.val / 2 * 1024 + y 0) (h1 : (j 1 : ℕ) = y 1) :
    (outsAt0 m c t.val t.isLt).1 y = Cert.Reference5Ideal.Read.val_main_v5 (F := Ideal)
      (m ((c : Thread nD τ).loc main_arg0)) (m ((c : Thread nD τ).loc main_arg1)) j := by
  rw [Pipeline.eq_sum_fin_of_reset_step_apply_of_flush (fun n h => (outsAt0 m c n h).1) 2 (fun _ => 0) _
    (fun t h j => by rw [outsAt0_A m c t h (by omega)]; frame_out; rw [add_part, zero_fill])
    (fun t h j => by rw [outsAt0_B m c t h (by omega)]; frame_out; rw [add_part])
    t ht _, zero_add, reference_apply]
  refine Fin.sum_mul_add_congr fun s k hl => ?_
  blk_point [iblk, V, idx t, idx ⟨_, Pipeline.run_point_lt_of_flush t ht s⟩]

theorem final_f32 (c : Dev nD) : (dats m 0 c).arrAt 2 (cfgs 0).N = Cert.Reference5Ideal.Read.val_main_v5 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  refine accumulated m c t ((flush0_2 t).mp hf) y _ ?_ ?_ <;> idx_bounds y <;> blk_simp [idx t] <;> omega

theorem rounded (v : FVec Ideal S1024x1024 .f32) (j : S1024x1024.Idx) : k0_pay3 (F := Ideal) v j = v j := by
  pointwise [k0_pay3]

theorem final_bf16 (c : Dev nD) : (dats m 0 c).arrAt 3 (cfgs 0).N = Cert.Reference5Ideal.Read.val_main_v6 (F := Ideal)
    (m ((c : Thread nD τ).loc main_arg0)) (m ((c : Thread nD τ).loc main_arg1)) := by
  refine (dats m 0 c).arrAt_eq_of_covers 3 _ (by decide +kernel) fun t hf y => ?_
  have ht : t.val % 2 = 1 := (flush0_3 t).mp hf
  have h := accumulated m c t ht y
  blk_simp
  rw [after0_3, outsAt0_B m c t (by omega) ht]
  rw [outsAt0_B m c t (by omega) ht] at h
  frame_out
  frame_out at h
  rw [rounded]
  refine h _ ?_ ?_ <;> idx_bounds y <;> blk_simp [idx t] <;> omega

theorem algebraic : Cert.algebraic_Kernel5Ideal_Reference5Ideal := by
  pair_intro
  · run_from Cert.Kernel5Ideal.Gen.run_main m g
  · run_from Cert.Reference5Ideal.Value.run m' g'
    · exact (final_f32 m c).symm
    · exact (final_bf16 m c).symm

end Cert.GradDown
-- ==== Proof.GradOut.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradOut
open Cert.Kernel6Ideal Cert.Kernel6Ideal.Gen

variable (m : (ℓ : Loc nD τ sig) → Buf (Elt Ideal) ℓ)

theorem zero_fill (j : S512x1024.Idx) : k0_pay1 (F := Ideal) j = 0 := by pointwise [k0_pay1]

theorem add_left (g : FVec Ideal S2048x1024 .bf16) (acc : FVec Ideal S512x1024 .f32) (x : FVec Ideal S2048x512 .bf16)
    (j : S512x1024.Idx) :
    k0_pay2 (F := Ideal) g acc x j = acc j + ∑ k : Fin 2048, x (ix2 k (j 0)) * g (ix2 k (j 1)) := by
  pointwise [k0_pay2]

theorem add_right (g : FVec Ideal S2048x1024 .bf16) (acc : FVec Ideal S512x1024 .f32) (x : FVec Ideal S2048x512 .bf16)
    (j : S512x1024.Idx) :
    k0_pay3 (F := Ideal) g acc x j = acc j + ∑ k : Fin 2048, x (ix2 k (j 0)) * g (ix2 k (j 1)) := by
  pointwise [k0_pay3]

theorem rounded (v : FVec Ideal S512x1024 .f32) (j : S512x1024.Idx) : k0_pay4 (F := Ideal) v j = v j := by
  pointwise [k0_pay4]

/-- The reference reads the first group in its first 512 rows. -/
theorem reference_left (x x' : FVec Ideal S4096x512 .bf16) (g : FVec Ideal S4096x1024 .bf16) (j : S1024x1024.Idx)
    (h : (j 0).val < 512) :
    Cert.Reference6Ideal.Read.val_main_v6 (F := Ideal) x x' g j
      = ∑ k : Fin 4096, x (ix2 k ⟨(j 0).val, h⟩) * g (ix2 k (j 1)) := by
  rw [Cert.Reference6Ideal.Read.val_main_v6_apply, Cert.Reference6Ideal.Read.val_main_v5_apply]
  refine Finset.sum_congr rfl fun k _ => ?_
  rw [mul_comm]
  refine congrArg₂ (· * ·) ?_ (congrArg g ?_)
  · rw [Cert.Reference6Ideal.Read.val_main_v1_apply]
    pointwise [Cert.Reference6Ideal.Read.val_main_v0]
    rw [dif_pos (by simpa using h)]
  · idx_bounds_all
    idx_ext

/-- The reference reads the second group in its last 512 rows. -/
theorem reference_right (x x' : FVec Ideal S4096x512 .bf16) (g : FVec Ideal S4096x1024 .bf16) (j : S1024x1024.Idx)
    (h : 512 ≤ (j 0).val) :
    Cert.Reference6Ideal.Read.val_main_v6 (F := Ideal) x x' g j
      = ∑ k : Fin 4096, x' (ix2 k ⟨(j 0).val - 512, by have : (j 0).val < 1024 := (j 0).isLt; omega⟩) * g (ix2 k (j 1)) := by
  rw [Cert.Reference6Ideal.Read.val_main_v6_apply, Cert.Reference6Ideal.Read.val_main_v5_apply]
  refine Finset.sum_congr rfl fun k _ => ?_
  rw [mul_comm]
  refine congrArg₂ (· * ·) ?_ (congrArg g ?_)
  · rw [Cert.Reference6Ideal.Read.val_main_v1_apply]
    pointwise [Cert.Reference6Ideal.Read.val_main_v0]
    rw [dif_neg (by simpa using h)]
  · idx_bounds_all
    idx_ext

theorem idx : ∀ t : Fin cfg0.N, win0_0.index t = ![t.val % 2, 0] ∧ win0_1.index t = ![t.val % 2, 0]
    ∧ win0_2.index t = ![t.val % 2, 0] ∧ win0_3.index t = ![t.val / 2, 0] ∧ win0_4.index t = ![t.val / 2, 0] :=
  (by decide +kernel : ∀ t : Fin grid0.N, _)

/-- The product of a block of a group's rows with a block of cotangent rows, at one element. -/
def rowProduct (x : FVec Ideal S2048x512 .bf16) (g : FVec Ideal S2048x1024 .bf16) (j : S512x1024.Idx) : EReal :=
  ∑ k : Fin 2048, x (ix2 k (j 0)) * g (ix2 k (j 1))

/-- What one grid point adds: the product over its rows, of the group whose half it computes. -/
def part (c : Dev nD) (t : Fin cfg0.N) (j : S512x1024.Idx) : EReal :=
  if t.val < 2 then rowProduct (iblk m c 0 t) (iblk m c 2 t) j else rowProduct (iblk m c 1 t) (iblk m c 2 t) j

theorem accumulated (c : Dev nD) (t : Fin cfg0.N) (ht : t.val % 2 = 1) (y : S512x1024.Idx) (j : S1024x1024.Idx)
    (h0 : (j 0 : ℕ) = t.val / 2 * 512 + y 0) (h1 : (j 1 : ℕ) = y 1) :
    (outsAt0 m c t.val t.isLt).1 y = Cert.Reference6Ideal.Read.val_main_v6 (F := Ideal) (m ((c : Thread nD τ).loc main_arg0))
      (m ((c : Thread nD τ).loc main_arg1)) (m ((c : Thread nD τ).loc main_arg2)) j := by
  rw [Pipeline.eq_sum_fin_of_reset_step_apply_of_flush (fun n h => (outsAt0 m c n h).1) 2 (fun _ => 0) (part m c)
    (fun t h j => by
      by_cases h2 : t.val < 2
      · rw [outsAt0_A m c t h h2 (by omega) (by omega)]; frame_out; rw [add_left, zero_fill, part, if_pos h2]; rfl
      · rw [outsAt0_C m c t h h2 (by omega) (by omega)]; frame_out; rw [add_right, zero_fill, part, if_neg h2]; rfl)
    (fun t h j => by
      by_cases h2 : t.val < 2
      · rw [outsAt0_B m c t h h2 (by omega) (by omega)]; frame_out; rw [add_left, part, if_pos h2]; rfl
      · rw [outsAt0_D m c t h h2 (by omega) (by omega)]; frame_out; rw [add_right, part, if_neg h2]; rfl)
    t ht _, zero_add]
  idx_bounds y
  by_cases h2 : t.val < 2
  · rw [reference_left _ _ _ _ (by omega)]
    refine (Finset.sum_congr rfl fun s _ => if_pos (by have := s.isLt; dsimp only; omega)).trans ?_
    refine Fin.sum_mul_add_congr fun s k hl => ?_
    blk_point [iblk, V, idx t, idx ⟨_, Pipeline.run_point_lt_of_flush t ht s⟩]
  · rw [reference_right _ _ _ _ (by omega)]
    refine (Finset.sum_congr rfl fun s _ => if_neg (by have := s.isLt; dsimp only; omega)).trans ?_
    refine Fin.sum_mul_add_congr fun s k hl => ?_
    blk_point [iblk, V, idx t, idx ⟨_, Pipeline.run_point_lt_of_flush t ht s⟩]

theorem final_f32 (c : Dev nD) : (dats m 0 c).arrAt 3 (cfgs 0).N = Cert.Reference6Ideal.Read.val_main_v6 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3]
  refine accumulated m c t ((flush0_3 t).mp hf) y _ ?_ ?_ <;> idx_bounds y <;> blk_simp [idx t] <;> omega

theorem final_bf16 (c : Dev nD) : (dats m 0 c).arrAt 4 (cfgs 0).N = Cert.Reference6Ideal.Read.val_main_v7 (F := Ideal) (m ((c : Thread nD τ).loc main_arg0))
      (m ((c : Thread nD τ).loc main_arg1)) (m ((c : Thread nD τ).loc main_arg2)) := by
  refine (dats m 0 c).arrAt_eq_of_covers 4 _ (by decide +kernel) fun t hf y => ?_
  have ht : t.val % 2 = 1 := (flush0_4 t).mp hf
  have h := accumulated m c t ht y
  by_cases h2 : t.val < 2
  · blk_simp
    rw [after0_4, outsAt0_B m c t (by omega) h2 (by omega) ht]
    rw [outsAt0_B m c t (by omega) h2 (by omega) ht] at h
    frame_out
    frame_out at h
    rw [rounded]
    refine h _ ?_ ?_ <;> idx_bounds y <;> blk_simp [idx t] <;> omega
  · blk_simp
    rw [after0_4, outsAt0_D m c t (by omega) h2 (by omega) ht]
    rw [outsAt0_D m c t (by omega) h2 (by omega) ht] at h
    frame_out
    frame_out at h
    rw [rounded]
    refine h _ ?_ ?_ <;> idx_bounds y <;> blk_simp [idx t] <;> omega

theorem algebraic : Cert.algebraic_Kernel6Ideal_Reference6Ideal := by
  pair_intro
  · run_from Cert.Kernel6Ideal.Gen.run_main m g
  · run_from Cert.Reference6Ideal.Value.run m' g'
    · exact (final_f32 m c).symm
    · exact (final_bf16 m c).symm

end Cert.GradOut
-- ==== Proof.GradIn.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradIn
open Cert.Kernel7Ideal Cert.Kernel7Ideal.Gen

variable (m : (ℓ : Loc nD τ sig) → Buf (Elt Ideal) ℓ)

theorem zero_fill (j : S1x1024x768.Idx) : k0_pay1 (F := Ideal) j = 0 := by pointwise [k0_pay1]

theorem add_part (acc : FVec Ideal S1x1024x768 .f32) (x : FVec Ideal S2048x1024 .bf16) (g : FVec Ideal S2048x768 .bf16) (j : S1x1024x768.Idx) :
    k0_pay2 (F := Ideal) acc x g j = acc j + ∑ k : Fin 2048, x (ix2 k (j 1)) * g (ix2 k (j 2)) := by
  pointwise [k0_pay2]

theorem reference_apply (x : FVec Ideal S4096x1024 .bf16) (g : FVec Ideal S4096x3072 .bf16) (j : S4x1024x768.Idx) :
    Cert.Reference7Ideal.Read.val_main_v7 (F := Ideal) x g j
      = ∑ k : Fin 4096, x (ix2 k (j 1)) * g (ix2 k ⟨(j 0).val * 768 + (j 2).val, by
          have h0 : (j 0).val < 4 := (j 0).isLt; have h2 : (j 2).val < 768 := (j 2).isLt; omega⟩) := by
  rw [Cert.Reference7Ideal.Read.val_main_v7_apply, Cert.Reference7Ideal.Read.val_main_v6_apply, Cert.Reference7Ideal.Read.val_main_v5_apply,
    Cert.Reference7Ideal.Read.val_main_v4_apply]
  refine Finset.sum_congr rfl fun k _ => ?_
  rw [mul_comm]
  refine congrArg₂ (· * ·) (congrArg x ?_) (congrArg g ?_)
  · idx_bounds_all
    idx_ext
  · idx_bounds_all
    idx_ext

theorem idx : ∀ t : Fin cfg0.N, win0_0.index t = ![t.val % 2, 0] ∧ win0_1.index t = ![t.val % 2, t.val / 2]
    ∧ win0_2.index t = ![t.val / 2, 0, 0] ∧ win0_3.index t = ![t.val / 2, 0, 0] :=
  (by decide +kernel : ∀ t : Fin grid0.N, _)

theorem accumulated (c : Dev nD) (t : Fin cfg0.N) (ht : t.val % 2 = 1) (y : S1x1024x768.Idx) (j : S4x1024x768.Idx)
    (h0 : (j 0 : ℕ) = t.val / 2) (h1 : (j 1 : ℕ) = y 1) (h2 : (j 2 : ℕ) = y 2) :
    (outsAt0 m c t.val t.isLt).1 y = Cert.Reference7Ideal.Read.val_main_v7 (F := Ideal)
      (m ((c : Thread nD τ).loc main_arg0)) (m ((c : Thread nD τ).loc main_arg1)) j := by
  rw [Pipeline.eq_sum_fin_of_reset_step_apply_of_flush (fun n h => (outsAt0 m c n h).1) 2 (fun _ => 0) _
    (fun t h j => by rw [outsAt0_A m c t h (by omega)]; frame_out; rw [add_part, zero_fill])
    (fun t h j => by rw [outsAt0_B m c t h (by omega)]; frame_out; rw [add_part])
    t ht _, zero_add, reference_apply]
  refine Fin.sum_mul_add_congr fun s k hl => ?_
  blk_point [iblk, V, idx t, idx ⟨_, Pipeline.run_point_lt_of_flush t ht s⟩]

theorem final_f32 (c : Dev nD) : (dats m 0 c).arrAt 2 (cfgs 0).N = Cert.Reference7Ideal.Read.val_main_v7 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  refine accumulated m c t ((flush0_2 t).mp hf) y _ ?_ ?_ ?_ <;> idx_bounds y <;> blk_simp [idx t] <;> omega

theorem rounded (v : FVec Ideal S1x1024x768 .f32) (j : S1x1024x768.Idx) : k0_pay3 (F := Ideal) v j = v j := by
  pointwise [k0_pay3]

theorem final_bf16 (c : Dev nD) : (dats m 0 c).arrAt 3 (cfgs 0).N = Cert.Reference7Ideal.Read.val_main_v8 (F := Ideal)
    (m ((c : Thread nD τ).loc main_arg0)) (m ((c : Thread nD τ).loc main_arg1)) := by
  refine (dats m 0 c).arrAt_eq_of_covers 3 _ (by decide +kernel) fun t hf y => ?_
  have ht : t.val % 2 = 1 := (flush0_3 t).mp hf
  have h := accumulated m c t ht y
  blk_simp
  rw [after0_3, outsAt0_B m c t (by omega) ht]
  rw [outsAt0_B m c t (by omega) ht] at h
  frame_out
  frame_out at h
  rw [rounded]
  refine h _ ?_ ?_ ?_ <;> idx_bounds y <;> blk_simp [idx t] <;> omega

theorem algebraic : Cert.algebraic_Kernel7Ideal_Reference7Ideal := by
  pair_intro
  · run_from Cert.Kernel7Ideal.Gen.run_main m g
  · run_from Cert.Reference7Ideal.Value.run m' g'
    · exact (final_f32 m c).symm
    · exact (final_bf16 m c).symm

end Cert.GradIn
-- ==== Proof.NormGrad.lean ====
module

public import Idealize.ShloMosaic.Lib.Pipeline.ValueKit
public import Idealize.ShloMosaic.Lib.Pointwise
public import Idealize.ShloMosaic.Lib.Claim

@[expose] public section

set_option maxRecDepth 16384

noncomputable section

open Idealize.ShloMosaic

namespace Cert.NormGrad

/-! # The gradient of a layer norm over rows of 1024 numbers

Two spellings of the gradient that a layer norm hands down to its input meet here. One is the closed form a kernel
uses, with two means over the row. The other follows the derivative of the mean, the variance and the reciprocal root
one after the other. They agree on rows of real numbers. -/

/-- A value that is a real number, neither infinite. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem isReal_max {x y : EReal} (hx : IsReal x) (hy : IsReal y) : IsReal (max x y) := by
  rcases le_total x y with h | h
  · rwa [max_eq_right h]
  · rwa [max_eq_left h]

/-- A sum of real numbers is the real number of the sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ i, IsReal (f i)) : IsReal (∑ i ∈ s, f i) := by
  choose r hr using h
  exact ⟨∑ i ∈ s, r i, by rw [← coe_sum]; exact Finset.sum_congr rfl fun i _ => hr i⟩

/-- What lies under the infinity in absolute value is real. -/
theorem IsReal.of_abs_lt {x : EReal} (h : Ideal.cmp .olt (max x (-x)) (Ideal.ofBits .f32 0x7F800000#32) = 1#1) :
    IsReal x := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- The words of the constants, as numbers. -/
theorem word_1024 : Ideal.ofBits .f32 0x44800000#32 = ((1024 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_inv_1024 : Ideal.ofBits .f32 0x3A800000#32 = ((1 / 1024 : ℝ) : EReal) := by
  simp [Ideal.ofBits, Ideal.ieee, -EReal.coe_mul]; norm_num
theorem word_inv_2048 : Ideal.ofBits .f32 0x3A000000#32 = ((1 / 2048 : ℝ) : EReal) := by
  simp [Ideal.ofBits, Ideal.ieee, -EReal.coe_mul]; norm_num
theorem word_eps : ∃ e : ℝ, 0 < e ∧ Ideal.ofBits .f32 0x3727C5AC#32 = (e : EReal) :=
  ⟨10995116 * 2 ^ (-40 : Int), by positivity, by simp [Ideal.ofBits, Ideal.ieee, -EReal.coe_mul]; try norm_num⟩
theorem word_alpha : ∃ e : ℝ, Ideal.ofBits .f32 0x3F9837F0#32 = (e : EReal) :=
  ⟨_, by simp [Ideal.ofBits, Ideal.ieee, -EReal.coe_mul]; rfl⟩

/-- A quotient of real numbers. -/
theorem div_real (a : ℝ) {b : ℝ} (h : b ≠ 0) : Ideal.div (a : EReal) (b : EReal) = ((a / b : ℝ) : EReal) := by
  rw [Ideal.div_coe h, ← EReal.coe_mul]
  congr 1
  ring

/-- A row. -/
abbrev Row := Fin 1024 → EReal

/-- The mean of a row. -/
def mean (p : Row) : EReal := Ideal.div (∑ x, p x) (Ideal.ofBits .f32 0x44800000#32)
/-- A row less its mean. -/
def dev (p : Row) : Row := fun k => p k - mean p
/-- A row's variance, kept off zero. -/
def width (p : Row) : EReal := mean (fun k => dev p k * dev p k) + Ideal.ofBits .f32 0x3727C5AC#32
/-- The reciprocal deviation. -/
def scale (p : Row) : EReal := Ideal.rsqrt (width p)
/-- The normed row. -/
def normed (p : Row) : Row := fun k => dev p k * scale p

/-- The gradient in closed form: `p` the row normed, `g` the cotangent of the normed row. -/
def back (p g : Row) : Row := fun k =>
  scale p * (g k - mean g - normed p k * mean (fun x => g x * normed p x))

/-- The cotangent of one square in the variance. -/
def pull (p g : Row) : EReal :=
  Ideal.div ((∑ x, dev p x * g x) * (Ideal.ofBits .f32 0xBF000000#32 * Ideal.div (scale p) (width p)))
    (Ideal.ofBits .f32 0x44800000#32)

/-- The gradient step by step, through the product, the reciprocal root, the variance and the mean. -/
def steps (p g : Row) : Row := fun k =>
  (g k * scale p + pull p g * (Ideal.ofBits .f32 0x40000000#32 * dev p k))
    + Ideal.div ((∑ x, -(g x * scale p)) + ∑ x, -(pull p g * (Ideal.ofBits .f32 0x40000000#32 * dev p x)))
        (Ideal.ofBits .f32 0x44800000#32)

theorem mean_coe (f : Fin 1024 → ℝ) : mean (fun k => (f k : EReal)) = (((∑ x, f x) / 1024 : ℝ) : EReal) := by
  rw [mean, word_1024, coe_sum, div_real _ (by norm_num)]

theorem dev_coe (f : Fin 1024 → ℝ) :
    dev (fun k => (f k : EReal)) = fun k => ((f k - (∑ x, f x) / 1024 : ℝ) : EReal) := by
  funext k
  rw [dev, mean_coe, EReal.coe_sub]

/-- Deviations from the mean cancel. -/
theorem sum_dev (f : Fin 1024 → ℝ) : ∑ k, (f k - (∑ x, f x) / 1024) = 0 := by
  rw [Finset.sum_sub_distrib, Finset.sum_const, Finset.card_univ, Fintype.card_fin, nsmul_eq_mul]
  push_cast
  ring

/-- The kept variance of a real row is a positive number. -/
theorem width_coe (f : Fin 1024 → ℝ) : ∃ w : ℝ, 0 < w ∧ width (fun k => (f k : EReal)) = (w : EReal) := by
  obtain ⟨e, he, hw⟩ := word_eps
  refine ⟨(∑ k, (f k - (∑ x, f x) / 1024) * (f k - (∑ x, f x) / 1024)) / 1024 + e, ?_, ?_⟩
  · have : 0 ≤ ∑ k, (f k - (∑ x, f x) / 1024) * (f k - (∑ x, f x) / 1024) :=
      Finset.sum_nonneg fun k _ => mul_self_nonneg _
    positivity
  · rw [width, hw, dev_coe, EReal.coe_add, ← mean_coe]
    simp only [EReal.coe_mul]

/-- The reciprocal root of a positive number. -/
theorem rsqrt_pos {w : ℝ} (h : 0 < w) : Ideal.rsqrt (w : EReal) = (((Real.sqrt w)⁻¹ : ℝ) : EReal) := by
  rw [Ideal.rsqrt_coe, if_neg (not_lt.mpr h.le), if_neg h.ne']

theorem mean_isReal {p : Row} (hp : ∀ k, IsReal (p k)) : IsReal (mean p) := by
  choose f hf using hp
  obtain rfl : p = fun k => (f k : EReal) := funext hf
  exact ⟨_, mean_coe f⟩

theorem dev_isReal {p : Row} (hp : ∀ k, IsReal (p k)) (k : Fin 1024) : IsReal (dev p k) := (hp k).sub (mean_isReal hp)

theorem scale_isReal {p : Row} (hp : ∀ k, IsReal (p k)) : IsReal (scale p) := by
  choose f hf using hp
  obtain rfl : p = fun k => (f k : EReal) := funext hf
  obtain ⟨w, hw, h⟩ := width_coe f
  exact ⟨_, by rw [scale, h, rsqrt_pos hw]⟩

theorem normed_isReal {p : Row} (hp : ∀ k, IsReal (p k)) (k : Fin 1024) : IsReal (normed p k) :=
  (dev_isReal hp k).mul (scale_isReal hp)

/-- Both spellings, over the reals: `d` the deviations, `s` the reciprocal root of `w`. -/
theorem real_steps (d g : Fin 1024 → ℝ) (s w : ℝ) (hw : s / w = s * s * s) (hd : ∑ x, d x = 0) (k : Fin 1024) :
    (g k * s + (∑ x, d x * g x) * (-(1 / 2) * (s / w)) / 1024 * (2 * d k))
        + ((∑ x, -(g x * s)) + ∑ x, -((∑ x, d x * g x) * (-(1 / 2) * (s / w)) / 1024 * (2 * d x))) / 1024
      = s * (g k - (∑ x, g x) / 1024 - d k * s * ((∑ x, g x * (d x * s)) / 1024)) := by
  have h1 : ∑ x, g x * (d x * s) = (∑ x, d x * g x) * s := by
    rw [Finset.sum_mul]; exact Finset.sum_congr rfl fun x _ => by ring
  have h2 : ∑ x, -(g x * s) = -((∑ x, g x) * s) := by rw [Finset.sum_neg_distrib, Finset.sum_mul]
  have h3 (a : ℝ) : ∑ x, -(a * (2 * d x)) = 0 := by
    rw [Finset.sum_neg_distrib, ← Finset.mul_sum, ← Finset.mul_sum, hd]; ring
  rw [h1, h2, h3, hw]
  ring

/-- The two gradients agree on a row of real numbers. -/
theorem steps_eq_back {p g : Row} (hp : ∀ k, IsReal (p k)) (hg : ∀ k, IsReal (g k)) (k : Fin 1024) :
    steps p g k = back p g k := by
  choose f hf using hp
  choose G hG using hg
  obtain rfl : p = fun k => (f k : EReal) := funext hf
  obtain rfl : g = fun k => (G k : EReal) := funext hG
  obtain ⟨w, hw, hwidth⟩ := width_coe f
  have hscale : scale (fun k => (f k : EReal)) = (((Real.sqrt w)⁻¹ : ℝ) : EReal) := by rw [scale, hwidth, rsqrt_pos hw]
  have hs : (Real.sqrt w)⁻¹ / w = (Real.sqrt w)⁻¹ * (Real.sqrt w)⁻¹ * (Real.sqrt w)⁻¹ := by
    have h := Real.mul_self_sqrt hw.le
    have h0 : Real.sqrt w ≠ 0 := (Real.sqrt_pos.mpr hw).ne'
    rw [show (Real.sqrt w)⁻¹ / w = (Real.sqrt w)⁻¹ / (Real.sqrt w * Real.sqrt w) by rw [h]]
    field_simp
  have hpull : pull (fun k => (f k : EReal)) (fun k => (G k : EReal))
      = (((∑ x, (f x - (∑ x, f x) / 1024) * G x) * (-(1 / 2) * ((Real.sqrt w)⁻¹ / w)) / 1024 : ℝ) : EReal) := by
    rw [pull, hscale, hwidth, dev_coe, word_neg_half, word_1024, div_real _ hw.ne']
    simp only [← EReal.coe_mul, coe_sum]
    rw [div_real _ (by norm_num)]
  rw [steps, back, hpull, hscale, word_two, word_1024]
  simp only [normed, hscale, dev_coe, ← EReal.coe_mul, ← EReal.coe_neg, coe_sum, ← EReal.coe_add, mean_coe,
    ← EReal.coe_sub]
  rw [div_real _ (by norm_num), ← EReal.coe_add]
  exact congrArg _ (real_steps _ _ _ _ hs (sum_dev f) k)

end Cert.NormGrad
-- ==== Proof.FeedForwardRows.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.NormGrad
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.FeedForward
open Cert.Kernel8Ideal Cert.Kernel8Ideal.Gen

open Cert.NormGrad

section Kernel

variable (v0 : FVec Ideal S256x1024 .f32) (v44 : FVec Ideal S256x1024 .f32) (v51 : FVec Ideal S256x1024 .bf16)
  (v56 : FVec Ideal S1024x1024 .bf16) (v59 v63 : FVec Ideal S1x1024 .f32) (v84 : FVec Ideal S256x1024 .f32)

/-- The scaled residual plus the block's share of the second product, at one element of a block. -/
def pre (j : S256x1024.Idx) : EReal :=
  Ideal.ofBits .f32 0x3F9837F0#32 * v0 j + (v44 j + ∑ k : Fin 1024, v51 (ix2 (j 0) k) * v56 (ix2 k (j 1)))

/-- One row of it. -/
def preRow (i : Fin 256) : Row := fun x => pre v0 v44 v51 v56 (ix2 i x)

theorem kernel_dev (j : S256x1024.Idx) :
    k0_pay18 (F := Ideal) v0 v44 v51 v56 j = dev (preRow v0 v44 v51 v56 (j 0)) (j 1) := by
  pointwise [k0_pay18, preRow, pre, dev, mean]

theorem kernel_scale (j : S256x1.Idx) :
    k0_pay19 (F := Ideal) v0 v44 v51 v56 j = scale (preRow v0 v44 v51 v56 (j 0)) := by
  pointwise [k0_pay19]
  simp only [kernel_dev]
  rfl

theorem kernel_normed (j : S256x1024.Idx) :
    k0_pay20 (F := Ideal) v0 v44 v51 v56 j = normed (preRow v0 v44 v51 v56 (j 0)) (j 1) := by
  pointwise [k0_pay20]
  rw [kernel_dev, kernel_scale]
  rfl

/-- The error of the block's output, at one element. -/
def err (j : S256x1024.Idx) : EReal :=
  normed (preRow v0 v44 v51 v56 (j 0)) (j 1) * v59 (ix2 0 (j 1)) + v63 (ix2 0 (j 1)) - v84 j

theorem kernel_err (j : S256x1024.Idx) :
    k0_pay21 (F := Ideal) v0 v44 v51 v56 v59 v63 v84 j = err v0 v44 v51 v56 v59 v63 v84 j := by
  pointwise [k0_pay21, err]
  rw [kernel_normed]

/-- The cotangent of the normed row. -/
def cotRow (i : Fin 256) : Row := fun x =>
  err v0 v44 v51 v56 v59 v63 v84 (ix2 i x) * Ideal.ofBits .f32 0x3A800000#32 * v59 (ix2 0 x)

theorem kernel_dx (j : S256x1024.Idx) : k0_pay22 (F := Ideal) v0 v44 v51 v56 v59 v63 v84 j
    = err v0 v44 v51 v56 v59 v63 v84 j * Ideal.ofBits .f32 0x3A800000#32 := by
  pointwise [k0_pay22]
  rw [kernel_err]

theorem kernel_cot (j : S256x1024.Idx) : k0_pay23 (F := Ideal) v0 v44 v51 v56 v59 v63 v84 j
    = cotRow v0 v44 v51 v56 v59 v63 v84 (j 0) (j 1) := by
  pointwise [k0_pay23]
  rw [kernel_dx]
  pointwise [cotRow]

theorem kernel_mean (j : S256x1.Idx) : k0_pay24 (F := Ideal) v0 v44 v51 v56 v59 v63 v84 j
    = mean (cotRow v0 v44 v51 v56 v59 v63 v84 (j 0)) := by
  pointwise [k0_pay24]
  simp only [kernel_cot]
  rfl

theorem kernel_mean_normed (j : S256x1.Idx) : k0_pay25 (F := Ideal) v0 v44 v51 v56 v59 v63 v84 j
    = mean (fun x => cotRow v0 v44 v51 v56 v59 v63 v84 (j 0) x * normed (preRow v0 v44 v51 v56 (j 0)) x) := by
  pointwise [k0_pay25]
  simp only [kernel_cot, kernel_normed]
  rfl

theorem kernel_back (j : S256x1024.Idx) :
    k0_pay26 (F := Ideal) (k0_pay19 v0 v44 v51 v56) (k0_pay20 v0 v44 v51 v56) (k0_pay23 v0 v44 v51 v56 v59 v63 v84)
        (k0_pay24 v0 v44 v51 v56 v59 v63 v84) (k0_pay25 v0 v44 v51 v56 v59 v63 v84) j
      = back (preRow v0 v44 v51 v56 (j 0)) (cotRow v0 v44 v51 v56 v59 v63 v84 (j 0)) (j 1) := by
  pointwise [k0_pay26]
  rw [kernel_scale, kernel_normed, kernel_cot, kernel_mean, kernel_mean_normed]
  rfl

theorem kernel_sum_normed (acc : FVec Ideal S1x1024 .f32) (j : S1x1024.Idx) :
    k0_pay30 (F := Ideal) (k0_pay20 v0 v44 v51 v56) (k0_pay22 v0 v44 v51 v56 v59 v63 v84) acc j
      = acc j + ∑ i : Fin 256, err v0 v44 v51 v56 v59 v63 v84 (ix2 i (j 1)) * Ideal.ofBits .f32 0x3A800000#32
          * normed (preRow v0 v44 v51 v56 i) (j 1) := by
  pointwise [k0_pay30]
  simp only [kernel_dx, kernel_normed]
  rfl

theorem kernel_sum (acc : FVec Ideal S1x1024 .f32) (j : S1x1024.Idx) :
    k0_pay31 (F := Ideal) (k0_pay22 v0 v44 v51 v56 v59 v63 v84) acc j
      = acc j + ∑ i : Fin 256, err v0 v44 v51 v56 v59 v63 v84 (ix2 i (j 1)) * Ideal.ofBits .f32 0x3A800000#32 := by
  pointwise [k0_pay31]
  simp only [kernel_dx]

theorem kernel_loss (acc : FVec Ideal S8x128 .f32) (j : S8x128.Idx) :
    k0_pay1 (F := Ideal) (k0_pay32 acc) (k0_pay33 (k0_pay21 v0 v44 v51 v56 v59 v63 v84)) k0_pay34 j
      = acc j + (∑ i : Fin 256, ∑ x : Fin 1024, err v0 v44 v51 v56 v59 v63 v84 (ix2 i x) * err v0 v44 v51 v56 v59 v63 v84 (ix2 i x))
          * Ideal.ofBits .f32 0x3A000000#32 := by
  pointwise [k0_pay1, k0_pay32, k0_pay33, k0_pay34]
  simp only [kernel_err]

end Kernel

section Reference
open Cert.Reference8Ideal.Read

variable (x0 : FVec Ideal S4096x1024 .f32) (x1 : FVec Ideal S1024x4096 .f32) (x2 x3 : FVec Ideal S4096x1024 .f32)
  (x4 x5 : FVec Ideal S1x1024 .f32)

/-- One row of the reference's scaled residual plus product. -/
def refRow (i : Fin 4096) : Row := fun x => val_main_v6 (F := Ideal) x0 x1 x2 (ix2 i x)

theorem reference_dev (j : S4096x1024.Idx) : val_main_v21 (F := Ideal) x0 x1 x2 j = dev (refRow x0 x1 x2 (j 0)) (j 1) := by
  pointwise [val_main_v21, val_main_v20, val_main_v10, val_main_v9, val_main_v8, val_main_v7, val_main_cst_0, val_main_cst_1,
    refRow, dev, mean]

theorem reference_width (j : Cert.Reference8Ideal.S4096x1.Idx) : val_main_v23 (F := Ideal) x0 x1 x2 j = width (refRow x0 x1 x2 (j 0)) := by
  pointwise [val_main_v23, val_main_v22, val_main_v19, val_main_v18, val_main_v17, val_main_v16, val_main_v13,
    val_main_cst_3, val_main_cst_4, val_main_cst_5]
  rw [show val_main_v12 (F := Ideal) x0 x1 x2 = val_main_v21 (F := Ideal) x0 x1 x2 from rfl]
  simp only [reference_dev]
  rfl

theorem reference_scale (j : Cert.Reference8Ideal.S4096x1.Idx) : val_main_v24 (F := Ideal) x0 x1 x2 j = scale (refRow x0 x1 x2 (j 0)) := by
  pointwise [val_main_v24]
  rw [reference_width]
  rfl

theorem reference_normed (j : S4096x1024.Idx) :
    val_main_v29 (F := Ideal) x0 x1 x2 j = normed (refRow x0 x1 x2 (j 0)) (j 1) := by
  pointwise [val_main_v29, val_main_v28]
  rw [reference_dev, reference_scale]
  rfl

/-- The reference's error at one element. -/
def refErr (j : S4096x1024.Idx) : EReal :=
  normed (refRow x0 x1 x2 (j 0)) (j 1) * x4 (ix2 0 (j 1)) + x5 (ix2 0 (j 1)) - x3 j

theorem reference_err (j : S4096x1024.Idx) :
    val_main_v34 (F := Ideal) x0 x1 x2 x3 x4 x5 j = refErr x0 x1 x2 x3 x4 x5 j := by
  pointwise [val_main_v34, val_main_v33, val_main_v32, val_main_v31, val_main_v30, refErr]
  rw [reference_normed]

/-- Half the derivative of the square, over the row length. -/
def half : EReal := Ideal.div (Ideal.ofBits .f32 0x3F000000#32 * Ideal.ofBits .f32 0x3F800000#32) (Ideal.ofBits .f32 0x44800000#32)

theorem reference_dx (j : S4096x1024.Idx) : val_main_v48 (F := Ideal) x0 x1 x2 x3 x4 x5 j
    = half * (Ideal.ofBits .f32 0x40000000#32 * refErr x0 x1 x2 x3 x4 x5 j) := by
  pointwise [val_main_v48, val_main_v47, val_main_v46, val_main_v45, val_main_v44, val_main_v43, val_main_v37, val_main_v36,
    val_main_cst_7, val_main_cst_12, val_main_cst_13, val_main_cst_14, half]
  rw [reference_err]

/-- The reference's cotangent of a normed row. -/
def refCot (i : Fin 4096) : Row := fun x => val_main_v55 (F := Ideal) x0 x1 x2 x3 x4 x5 (ix2 i x)

theorem reference_pull (j : Cert.Reference8Ideal.S4096x1.Idx) : val_main_v66 (F := Ideal) x0 x1 x2 x3 x4 x5 j
    = pull (refRow x0 x1 x2 (j 0)) (refCot x0 x1 x2 x3 x4 x5 (j 0)) := by
  pointwise [val_main_v66, val_main_v65, val_main_v61, val_main_v58, val_main_v57, val_main_v56, val_main_v27, val_main_v26,
    val_main_v25, val_main_cst_6, val_main_cst_17, val_main_cst_19]
  simp only [reference_dev, reference_scale, reference_width]
  rfl

theorem reference_via_scale (j : S4096x1024.Idx) : val_main_v60 (F := Ideal) x0 x1 x2 x3 x4 x5 j
    = refCot x0 x1 x2 x3 x4 x5 (j 0) (j 1) * scale (refRow x0 x1 x2 (j 0)) := by
  pointwise [val_main_v60, val_main_v59, refCot]
  rw [reference_scale]
  rfl

theorem reference_via_width (j : S4096x1024.Idx) : val_main_v69 (F := Ideal) x0 x1 x2 x3 x4 x5 j
    = pull (refRow x0 x1 x2 (j 0)) (refCot x0 x1 x2 x3 x4 x5 (j 0)) * (Ideal.ofBits .f32 0x40000000#32 * dev (refRow x0 x1 x2 (j 0)) (j 1)) := by
  pointwise [val_main_v69, val_main_v68, val_main_v67, val_main_v15, val_main_v14, val_main_cst_2, val_main_cst_20]
  rw [show val_main_v12 (F := Ideal) x0 x1 x2 = val_main_v21 (F := Ideal) x0 x1 x2 from rfl]
  rw [Fin.sum_univ_one]
  simp only [reference_dev, reference_pull]
  rfl

theorem reference_steps (j : S4096x1024.Idx) : val_main_v79 (F := Ideal) x0 x1 x2 x3 x4 x5 j
    = steps (refRow x0 x1 x2 (j 0)) (refCot x0 x1 x2 x3 x4 x5 (j 0)) (j 1) := by
  pointwise [val_main_v79, val_main_v78, val_main_v77, val_main_v76, val_main_v75, val_main_v74, val_main_v73,
    val_main_v72, val_main_v71, val_main_v70, val_main_v64, val_main_v63, val_main_v62, val_main_cst_18, val_main_cst_21,
    val_main_cst_22, val_main_cst_23]
  rw [Fin.sum_univ_one]
  simp only [reference_via_scale, reference_via_width]
  rfl

end Reference

end Cert.FeedForward
-- ==== Proof.FeedForward.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.FeedForwardRows
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.FeedForward
open Cert.Kernel8Ideal Cert.Kernel8Ideal.Gen

open Cert.NormGrad

/-- What one chip's columns of the first product give after the maximum with 0. -/
def act (x : FVec Ideal S256x1024 .f32) (w : FVec Ideal S1x1024x1024 .bf16) (j : S256x1024.Idx) : EReal :=
  max (∑ k : Fin 1024, x (ix2 (j 0) k) * w (ix3 0 k (j 1))) 0

section Chips

variable (x : FVec Ideal S256x1024 .f32) (w : FVec Ideal S1x1024x1024 .bf16) (j : S256x1024.Idx)

theorem relu0 : k0_pay5 (F := Ideal) x w j = act x w j := by pointwise [k0_pay5, k0_pay3, k0_pay2, act]
theorem relu1 : k0_pay9 (F := Ideal) x w j = act x w j := by pointwise [k0_pay9, k0_pay7, k0_pay2, act]
theorem relu2 : k0_pay12 (F := Ideal) (k0_pay2 x) w j = act x w j := by pointwise [k0_pay12, k0_pay10, k0_pay2, act]
theorem relu3 : k0_pay16 (F := Ideal) (k0_pay2 x) w j = act x w j := by pointwise [k0_pay16, k0_pay14, k0_pay2, act]
theorem square0 : k0_pay4 (F := Ideal) x w j = act x w j * act x w j := by pointwise [k0_pay4, k0_pay3, k0_pay2, act]
theorem square1 : k0_pay8 (F := Ideal) x w j = act x w j * act x w j := by pointwise [k0_pay8, k0_pay7, k0_pay2, act]
theorem square2 : k0_pay11 (F := Ideal) (k0_pay2 x) w j = act x w j * act x w j := by pointwise [k0_pay11, k0_pay10, k0_pay2, act]
theorem square3 : k0_pay15 (F := Ideal) (k0_pay2 x) w j = act x w j * act x w j := by pointwise [k0_pay15, k0_pay14, k0_pay2, act]

/-- One chip's share of the second product. -/
def share (u : FVec Ideal S1x1024x1024 .bf16) : EReal :=
  ∑ k : Fin 1024, act x w (ix2 (j 0) k) * act x w (ix2 (j 0) k) * u (ix3 0 k (j 1))

theorem first_share (u : FVec Ideal S1x1024x1024 .bf16) : k0_pay6 (F := Ideal) x w u j = share x w j u := by
  pointwise [k0_pay6, share]
  simp only [square0]

theorem three_shares (a : FVec Ideal S256x1024 .f32) (w1 w2 u1 u2 : FVec Ideal S1x1024x1024 .bf16) :
    k0_pay13 (F := Ideal) (k0_pay2 x) a (k0_pay8 x w1) u1 w2 u2 j = a j + share x w1 j u1 + share x w2 j u2 := by
  pointwise [k0_pay13, share]
  simp only [square1, square2]

theorem last_share (u : FVec Ideal S1x1024x1024 .bf16) :
    ∑ k : Fin 1024, k0_pay15 (F := Ideal) (k0_pay2 x) w (ix2 (j 0) k) * k0_pay17 (F := Ideal) u (ix2 k (j 1)) = share x w j u := by
  pointwise [k0_pay17, share]
  simp only [square3]

end Chips

section Stored

variable {sp : Space} (v : View sig .tc sp S8x1024 .f32) (f : v.ty.Contents (Elt Ideal)) (w1 w0 : S1x1024.Idx → EReal)
  (L : List (View.Piece (Elt Ideal) S8x1024 .f32)) (y : S8x1024.Idx)

/-- Row 1 was stored last, row 0 before it: what the buffer holds. -/
theorem stored : v.read (Elt Ideal) (v.writes (Elt Ideal) f (⟨Rect.unit ![1, 0] ![1, 1024] inb_S8x1024_S1x1024_1_0, w1⟩
      :: ⟨Rect.unit ![0, 0] ![1, 1024] inb_S8x1024_S1x1024_0_0, w0⟩ :: L)) y
    = if (y 0).val = 0 then w0 (ix2 0 (y 1)) else if (y 0).val = 1 then w1 (ix2 0 (y 1))
      else v.read (Elt Ideal) (v.writes (Elt Ideal) f L) y := by
  by_cases h0 : (y 0).val = 0
  · rw [if_pos h0]
    rw [View.read_writes_cons_unit_of_not_mem v f _ _ _ y rfl 0 (by left; rw [h0]; decide)]
    exact View.read_writes_cons_unit_of_mem v f _ _ _ y (ix2 0 (y 1)) rfl (Fin.forall_fin_two.mpr ⟨h0, (Nat.zero_add _).symm⟩)
  · rw [if_neg h0]
    by_cases h1 : (y 0).val = 1
    · rw [if_pos h1]
      exact View.read_writes_cons_unit_of_mem v f _ _ _ y (ix2 0 (y 1)) rfl (Fin.forall_fin_two.mpr ⟨h1, (Nat.zero_add _).symm⟩)
    · rw [if_neg h1, View.read_writes_cons_unit_of_not_mem v f _ _ _ y rfl 0 (by right; show 1 + 1 ≤ (y 0).val; omega),
        View.read_writes_cons_unit_of_not_mem v f _ _ _ y rfl 0 (by right; show 0 + 1 ≤ (y 0).val; omega)]

theorem row_read (X : FVec Ideal S8x1024 .f32) (k : ℕ) (inb : ∀ a, (![k, 0] : Fin 2 → ℕ) a + (![1, 1024] : Fin 2 → ℕ) a ≤ S8x1024.size a)
    (h : (y 0).val = k) : View.ld (Val := Elt Ideal) (e' := .f32) X (Rect.unit (s := S8x1024) ![k, 0] ![1, 1024] inb) (ix2 0 (y 1) : S1x1024.Idx) = X y :=
  congrArg X (funext (Fin.forall_fin_two.mpr ⟨Fin.ext (by rw [h]; rfl), Fin.ext (by show 0 + 1 * (y 1).val = (y 1).val; omega)⟩))

theorem filled (z : FVec Ideal S8x1024 .f32) (x : S8x1024.Idx) :
    View.canon (Val := Elt Ideal) (e := .f32) [⟨Rect.unit (s := S8x1024) ![0, 0] ![8, 1024] inb_S8x1024_S8x1024_0_0, z⟩] x = z x :=
  congrFun (View.canon_cons_unit_lit (Val := Elt Ideal) (e := .f32) (S := S8x1024) inb_S8x1024_S8x1024_0_0 z [] (by decide)) x

/-- The buffer just filled, row 0 read. -/
theorem fresh_row0 (z : FVec Ideal S8x1024 .f32) (h : (y 0).val = 0) :
    v.readCov (Val := Elt Ideal) [⟨Rect.unit ![0, 0] ![8, 1024] inb_S8x1024_S8x1024_0_0, z⟩]
      (Rect.unit (s := S8x1024) ![0, 0] ![1, 1024] inb_S8x1024_S1x1024_0_0).toLoadRect (ix2 0 (y 1) : S1x1024.Idx) = z y := by
  rw [View.readCov_eq_canon']
  dsimp only
  refine (filled z _).trans ?_
  exact row_read y z 0 _ h

/-- The buffer filled and its row 0 stored, row 1 read. -/
theorem fresh_row1 (z : FVec Ideal S8x1024 .f32) (h : (y 0).val = 1) :
    v.readCov (Val := Elt Ideal) [⟨Rect.unit ![0, 0] ![1, 1024] inb_S8x1024_S1x1024_0_0, w0⟩, ⟨Rect.unit ![0, 0] ![8, 1024] inb_S8x1024_S8x1024_0_0, z⟩]
      (Rect.unit (s := S8x1024) ![1, 0] ![1, 1024] inb_S8x1024_S1x1024_1_0).toLoadRect (ix2 0 (y 1) : S1x1024.Idx) = z y := by
  rw [View.readCov_eq_canon', ← View.read_writes_junk_eq_canon v]
  dsimp only
  rw [View.read_writes_cons_unit_of_not_mem v _ _ _ _ _ rfl 0 (by right; exact le_refl 1), View.read_writes_junk_eq_canon]
  refine (filled z _).trans ?_
  exact row_read y z 1 _ h

/-- The buffer filled, then its first two rows stored. -/
theorem fresh_stored (v : View sig .tc sp S8x1024 .f32) (z : FVec Ideal S8x1024 .f32) :
    View.canon (Val := Elt Ideal) (e := .f32) [⟨Rect.unit ![1, 0] ![1, 1024] inb_S8x1024_S1x1024_1_0, w1⟩,
      ⟨Rect.unit ![0, 0] ![1, 1024] inb_S8x1024_S1x1024_0_0, w0⟩, ⟨Rect.unit ![0, 0] ![8, 1024] inb_S8x1024_S8x1024_0_0, z⟩] y
    = if (y 0).val = 0 then w0 (ix2 0 (y 1)) else if (y 0).val = 1 then w1 (ix2 0 (y 1)) else z y := by
  rw [← View.read_writes_junk_eq_canon v, stored, View.read_writes_junk_eq_canon,
    filled]

end Stored

variable (m : (ℓ : Loc nD τ sig) → Buf (Elt Ideal) ℓ)

theorem up_at (c : Dev nD) (j : S4x1024x1024.Idx) (i : S1024x4096.Idx) (h0 : (i 0 : ℕ) = j 1) (h1 : (i 1 : ℕ) = (j 0).val * 1024 + j 2) :
    V m c main_v2 j = m ((c : Thread nD τ).loc main_arg1) i := by
  unfold V
  simp only [hostOps0, List.flatten_cons, List.flatten_nil, List.append_nil, List.cons_append, List.nil_append]
  after_reads_at
  exact congrArg _ (funext (Fin.forall_fin_two.mpr ⟨Fin.ext h0.symm, Fin.ext h1.symm⟩))

theorem down_at (c : Dev nD) (j : S4x1024x1024.Idx) (i : S4096x1024.Idx) (h0 : (i 0 : ℕ) = (j 0).val * 1024 + j 1) (h1 : (i 1 : ℕ) = j 2) :
    V m c main_v4 j = m ((c : Thread nD τ).loc main_arg2) i := by
  unfold V
  simp only [hostOps0, List.flatten_cons, List.flatten_nil, List.append_nil, List.cons_append, List.nil_append]
  after_reads_at
  exact congrArg _ (funext (Fin.forall_fin_two.mpr ⟨Fin.ext h0.symm, Fin.ext h1.symm⟩))

theorem idx : ∀ t : Fin cfg0.N, win0_0.index t = ![t.val, 0] ∧ win0_1.index t = ![0, 0, 0]
    ∧ win0_2.index t = ![0, 0, 0] ∧ win0_3.index t = ![t.val, 0] ∧ win0_4.index t = ![0, 0] ∧ win0_5.index t = ![0, 0]
    ∧ win0_6.index t = ![t.val, 0] ∧ win0_7.index t = ![0, 0] ∧ win0_8.index t = ![0, 0]
    ∧ win0_9.index t = ![t.val, 0] ∧ win0_10.index t = ![t.val, 0] ∧ win0_11.index t = ![t.val, 0] :=
  (by decide +kernel : ∀ t : Fin grid0.N, _)

section Blocks

variable (c : Dev nD) (t : Fin cfg0.N)

theorem up_whole (j : S4x1024x1024.Idx) : iblk m c 1 t j = V m c main_v2 j := by blk_point [iblk, idx t]

theorem down_whole (j : S4x1024x1024.Idx) : iblk m c 2 t j = V m c main_v4 j := by blk_point [iblk, idx t]

theorem chip_axis (y : S1x1024x1024.Idx) : (y 0).val = 0 := Nat.lt_one_iff.mp (y 0).isLt

/-- The block of the first weight that belongs to chip `k`. -/
theorem up_block (k : ℕ) (hk : k < 4) (inb : ∀ a, (![k, 0, 0] : Fin 3 → ℕ) a + (![1, 1024, 1024] : Fin 3 → ℕ) a ≤ S4x1024x1024.size a)
    (y : S1x1024x1024.Idx) (i : S1024x4096.Idx) (h0 : (i 0 : ℕ) = y 1) (h1 : (i 1 : ℕ) = k * 1024 + y 2) :
    View.ld (iblk m c 1 t) (Rect.unit (s := S4x1024x1024) ![k, 0, 0] ![1, 1024, 1024] inb) y = m ((c : Thread nD τ).loc main_arg1) i := by
  refine (up_whole m c t _).trans (up_at m c _ i ?_ ?_)
  · show (i 0).val = 0 + 1 * (y 1).val
    omega
  · have h := chip_axis y
    show (i 1).val = (k + 1 * (y 0).val) * 1024 + (0 + 1 * (y 2).val)
    omega

/-- The block of the second weight that belongs to chip `k`. -/
theorem down_block (k : ℕ) (hk : k < 4) (inb : ∀ a, (![k, 0, 0] : Fin 3 → ℕ) a + (![1, 1024, 1024] : Fin 3 → ℕ) a ≤ S4x1024x1024.size a)
    (y : S1x1024x1024.Idx) (i : S4096x1024.Idx) (h0 : (i 0 : ℕ) = k * 1024 + y 1) (h1 : (i 1 : ℕ) = y 2) :
    View.ld (iblk m c 2 t) (Rect.unit (s := S4x1024x1024) ![k, 0, 0] ![1, 1024, 1024] inb) y = m ((c : Thread nD τ).loc main_arg2) i := by
  refine (down_whole m c t _).trans (down_at m c _ i ?_ ?_)
  · have h := chip_axis y
    show (i 0).val = (k + 1 * (y 0).val) * 1024 + (0 + 1 * (y 1).val)
    omega
  · show (i 1).val = 0 + 1 * (y 2).val
    omega

/-- The chip's columns of the reference's hidden activations. -/
theorem act_at (k : ℕ) (hk : k < 4) (inb : ∀ a, (![k, 0, 0] : Fin 3 → ℕ) a + (![1, 1024, 1024] : Fin 3 → ℕ) a ≤ S4x1024x1024.size a)
    (y : S256x1024.Idx) (j : S4096x4096.Idx) (h0 : (j 0 : ℕ) = t.val * 256 + y 0) (h1 : (j 1 : ℕ) = k * 1024 + y 1) :
    act (iblk m c 0 t) (View.ld (iblk m c 1 t) (Rect.unit (s := S4x1024x1024) ![k, 0, 0] ![1, 1024, 1024] inb)) y
      = Cert.Reference8Ideal.Read.val_main_v1 (F := Ideal) (m ((c : Thread nD τ).loc main_arg0)) (m ((c : Thread nD τ).loc main_arg1)) j := by
  pointwise [act, Cert.Reference8Ideal.Read.val_main_v1, Cert.Reference8Ideal.Read.val_main_v0,
    Cert.Reference8Ideal.Read.val_main_call0_v0, Cert.Reference8Ideal.Read.val_main_call0_cst]
  refine congrArg (max · 0) (Finset.sum_congr rfl fun x _ => congrArg₂ (· * ·) ?_ ?_)
  · blk_point [iblk, V, idx t]
  · exact (up_whole m c t _).trans (up_at m c _ (ix2 x (j 1)) rfl h1)

/-- The chip's share of the reference's second product. -/
theorem share_at (k : ℕ) (hk : k < 4) (inb : ∀ a, (![k, 0, 0] : Fin 3 → ℕ) a + (![1, 1024, 1024] : Fin 3 → ℕ) a ≤ S4x1024x1024.size a)
    (y : S256x1024.Idx) (i : Fin 4096) (h0 : (i : ℕ) = t.val * 256 + y 0) :
    share (iblk m c 0 t) (View.ld (iblk m c 1 t) (Rect.unit (s := S4x1024x1024) ![k, 0, 0] ![1, 1024, 1024] inb)) y
        (View.ld (iblk m c 2 t) (Rect.unit (s := S4x1024x1024) ![k, 0, 0] ![1, 1024, 1024] inb))
      = ∑ x : Fin 1024, Cert.Reference8Ideal.Read.val_main_v2 (F := Ideal) (m ((c : Thread nD τ).loc main_arg0)) (m ((c : Thread nD τ).loc main_arg1))
          (ix2 i ⟨k * 1024 + x, by omega⟩) * m ((c : Thread nD τ).loc main_arg2) (ix2 ⟨k * 1024 + x, by omega⟩ (y 1)) := by
  refine Finset.sum_congr rfl fun x _ => ?_
  rw [act_at m c t k hk inb (ix2 (y 0) x) (ix2 i ⟨k * 1024 + x, by omega⟩) h0 rfl,
    down_block m c t k hk inb (ix3 0 x (y 1)) (ix2 ⟨k * 1024 + x, by omega⟩ (y 1)) rfl rfl]
  rfl

/-- The first three chips' hidden columns of a block against their rows of the second weight. -/
abbrev acc : FVec Ideal S256x1024 .f32 :=
  k0_pay13 (k0_pay2 (iblk m c 0 t))
    (k0_pay6 (iblk m c 0 t)
      (View.ld (iblk m c 1 t) (Rect.unit ![0, 0, 0] ![1, 1024, 1024] inb_S4x1024x1024_S1x1024x1024_0_0_0))
      (View.ld (iblk m c 2 t) (Rect.unit ![0, 0, 0] ![1, 1024, 1024] inb_S4x1024x1024_S1x1024x1024_0_0_0)))
    (k0_pay8 (iblk m c 0 t)
      (View.ld (iblk m c 1 t) (Rect.unit ![1, 0, 0] ![1, 1024, 1024] inb_S4x1024x1024_S1x1024x1024_1_0_0)))
    (View.ld (iblk m c 2 t) (Rect.unit ![1, 0, 0] ![1, 1024, 1024] inb_S4x1024x1024_S1x1024x1024_1_0_0))
    (View.ld (iblk m c 1 t) (Rect.unit ![2, 0, 0] ![1, 1024, 1024] inb_S4x1024x1024_S1x1024x1024_2_0_0))
    (View.ld (iblk m c 2 t) (Rect.unit ![2, 0, 0] ![1, 1024, 1024] inb_S4x1024x1024_S1x1024x1024_2_0_0))

/-- The last chip's hidden columns. -/
abbrev hid : FVec Ideal S256x1024 .bf16 :=
  k0_pay15 (k0_pay2 (iblk m c 0 t))
    (View.ld (iblk m c 1 t) (Rect.unit ![3, 0, 0] ![1, 1024, 1024] inb_S4x1024x1024_S1x1024x1024_3_0_0))

/-- The last chip's rows of the second weight. -/
abbrev down : FVec Ideal S1024x1024 .bf16 :=
  k0_pay17 (View.ld (iblk m c 2 t) (Rect.unit ![3, 0, 0] ![1, 1024, 1024] inb_S4x1024x1024_S1x1024x1024_3_0_0))

theorem pre_at (y : S256x1024.Idx) (j : S4096x1024.Idx) (h0 : (j 0 : ℕ) = t.val * 256 + y 0) (h1 : (j 1 : ℕ) = y 1) :
    pre (iblk m c 0 t) (acc m c t) (hid m c t) (down m c t) y
      = Cert.Reference8Ideal.Read.val_main_v6 (F := Ideal) (m ((c : Thread nD τ).loc main_arg0)) (m ((c : Thread nD τ).loc main_arg1)) (m ((c : Thread nD τ).loc main_arg2)) j := by
  have hj : j 1 = y 1 := Fin.ext h1
  pointwise [Cert.Reference8Ideal.Read.val_main_v6, Cert.Reference8Ideal.Read.val_main_v5, Cert.Reference8Ideal.Read.val_main_v4,
    Cert.Reference8Ideal.Read.val_main_v3, Cert.Reference8Ideal.Read.val_main_cst]
  rw [pre, last_share, show acc m c t y = _ from three_shares (iblk m c 0 t) y _ _ _ _ _, first_share, share_at m c t 0 (by decide) _ y (j 0) h0, share_at m c t 1 (by decide) _ y (j 0) h0,
    share_at m c t 2 (by decide) _ y (j 0) h0, share_at m c t 3 (by decide) _ y (j 0) h0]
  refine congrArg₂ (· + ·) (congrArg₂ (· * ·) rfl ?_) ?_
  · blk_point [iblk, V, idx t]
  · refine (Fin.sum_univ_four (fun k : Fin 4 => ∑ x : Fin 1024, Cert.Reference8Ideal.Read.val_main_v2 (F := Ideal) (m ((c : Thread nD τ).loc main_arg0)) (m ((c : Thread nD τ).loc main_arg1))
          (ix2 (j 0) ⟨k * 1024 + x, by omega⟩) * m ((c : Thread nD τ).loc main_arg2) (ix2 ⟨k * 1024 + x, by omega⟩ (y 1)))).symm.trans ?_
    refine Fin.sum_mul_add_congr fun s k hl => ?_
    exact congrArg₂ (· * ·) (congrArg _ rfl) (congrArg _ (congrArg _ hj.symm))

theorem row_at (y : Fin 256) (i : Fin 4096) (h : (i : ℕ) = t.val * 256 + y) :
    preRow (iblk m c 0 t) (acc m c t) (hid m c t) (down m c t) y
      = refRow (m ((c : Thread nD τ).loc main_arg0)) (m ((c : Thread nD τ).loc main_arg1)) (m ((c : Thread nD τ).loc main_arg2)) i :=
  funext fun x => pre_at m c t (ix2 y x) (ix2 i x) h rfl

theorem err_at (y : S256x1024.Idx) (j : S4096x1024.Idx) (h0 : (j 0 : ℕ) = t.val * 256 + y 0) (h1 : (j 1 : ℕ) = y 1) :
    err (iblk m c 0 t) (acc m c t) (hid m c t) (down m c t) (iblk m c 4 t) (iblk m c 5 t) (iblk m c 3 t) y
      = refErr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) j := by
  have hj : y 1 = j 1 := Fin.ext h1.symm
  refine congrArg₂ (· - ·) (congrArg₂ (· + ·) (congrArg₂ (· * ·) ?_ ?_) ?_) ?_
  · exact (congrArg (normed · (y 1)) (row_at m c t (y 0) (j 0) h0)).trans (congrArg _ hj)
  · blk_point [iblk, V, idx t]
  · blk_point [iblk, V, idx t]
  · blk_point [iblk, V, idx t]

end Blocks

section Finite
open Cert.Reference8Ideal.Read

/-- Half the derivative of a square, over the row length, is the real number divided by the row length. -/
theorem half_twice {e : EReal} (he : IsReal e) :
    half * (Ideal.ofBits .f32 0x40000000#32 * e) = e * Ideal.ofBits .f32 0x3A800000#32 := by
  obtain ⟨r, rfl⟩ := he
  rw [half, word_half, word_one, word_two, word_1024, word_inv_1024, ← EReal.coe_mul, div_real _ (by norm_num), ← EReal.coe_mul,
    ← EReal.coe_mul, ← EReal.coe_mul]
  congr 1
  ring

/-- A sum of real numbers times a real number. -/
theorem sum_times {ι : Type} [Fintype ι] {s : ι → EReal} (hs : ∀ i, IsReal (s i)) {w : EReal} (hw : IsReal w) :
    (∑ i, s i) * w = ∑ i, s i * w := by
  choose r hr using hs
  obtain ⟨v, rfl⟩ := hw
  simp only [hr, ← EReal.coe_mul, coe_sum, Finset.sum_mul]

/-- Half the sum of the rows' means. -/
theorem half_means {ι : Type} [Fintype ι] {s : ι → EReal} (hs : ∀ i, IsReal (s i)) :
    Ideal.ofBits .f32 0x3F000000#32 * (∑ i, Ideal.div (s i) (Ideal.ofBits .f32 0x44800000#32))
      = ∑ i, s i * Ideal.ofBits .f32 0x3A000000#32 := by
  choose r hr using hs
  simp only [hr, word_half, word_1024, word_inv_2048, div_real _ (show (1024 : ℝ) ≠ 0 by norm_num), ← EReal.coe_mul, coe_sum,
    Finset.mul_sum]
  congr 1
  exact Finset.sum_congr rfl fun i _ => by ring

variable {x0 : FVec Ideal S4096x1024 .f32} {x1 : FVec Ideal S1024x4096 .f32} {x2 x3 : FVec Ideal S4096x1024 .f32}
  {x4 x5 : FVec Ideal S1x1024 .f32} (h0 : ∀ j, IsReal (x0 j)) (h1 : ∀ j, IsReal (x1 j)) (h2 : ∀ j, IsReal (x2 j))
  (h3 : ∀ j, IsReal (x3 j)) (h4 : ∀ j, IsReal (x4 j)) (h5 : ∀ j, IsReal (x5 j))

include h0 h1 in
theorem hidden_real (j : S4096x4096.Idx) : IsReal (val_main_v2 (F := Ideal) x0 x1 j) := by
  have h : IsReal (val_main_v1 (F := Ideal) x0 x1 j) := by
    pointwise [val_main_v1, val_main_v0, val_main_call0_v0, val_main_call0_cst]
    exact isReal_max (IsReal.sum _ _ fun k => (h0 _).mul (h1 _)) IsReal.zero
  exact h.mul h

include h0 h1 h2 in
theorem row_real (i : Fin 4096) (x : Fin 1024) : IsReal (refRow x0 x1 x2 i x) := by
  obtain ⟨a, ha⟩ := word_alpha
  rw [refRow]
  pointwise [val_main_v6, val_main_v5, val_main_v4, val_main_v3, val_main_cst]
  rw [ha]
  exact ((IsReal.coe a).mul (h0 _)).add (IsReal.sum _ _ fun k => (hidden_real h0 h1 _).mul (h2 _))

include h0 h1 h2 h3 h4 h5 in
theorem err_real (j : S4096x1024.Idx) : IsReal (refErr x0 x1 x2 x3 x4 x5 j) :=
  (((normed_isReal (fun x => row_real h0 h1 h2 (j 0) x) (j 1)).mul (h4 _)).add (h5 _)).sub (h3 _)

include h0 h1 h2 h3 h4 h5 in
theorem dx_eq (j : S4096x1024.Idx) : val_main_v48 (F := Ideal) x0 x1 x2 x3 x4 x5 j
    = refErr x0 x1 x2 x3 x4 x5 j * Ideal.ofBits .f32 0x3A800000#32 := by
  rw [reference_dx, half_twice (err_real h0 h1 h2 h3 h4 h5 j)]

include h0 h1 h2 h3 h4 h5 in
theorem cot_eq (i : Fin 4096) (x : Fin 1024) : refCot x0 x1 x2 x3 x4 x5 i x
    = refErr x0 x1 x2 x3 x4 x5 (ix2 i x) * Ideal.ofBits .f32 0x3A800000#32 * x4 (ix2 0 x) := by
  rw [refCot]
  pointwise [val_main_v55, val_main_v54]
  rw [dx_eq h0 h1 h2 h3 h4 h5]

include h0 h1 h2 h3 h4 h5 in
theorem cot_real (i : Fin 4096) (x : Fin 1024) : IsReal (refCot x0 x1 x2 x3 x4 x5 i x) := by
  rw [cot_eq h0 h1 h2 h3 h4 h5, word_inv_1024]
  exact ((err_real h0 h1 h2 h3 h4 h5 _).mul (IsReal.coe _)).mul (h4 _)

include h0 h1 h2 h3 h4 h5 in
theorem reference_grad (j : S4096x1024.Idx) : val_main_v79 (F := Ideal) x0 x1 x2 x3 x4 x5 j
    = back (refRow x0 x1 x2 (j 0)) (refCot x0 x1 x2 x3 x4 x5 (j 0)) (j 1) := by
  rw [reference_steps]
  exact steps_eq_back (row_real h0 h1 h2 _) (cot_real h0 h1 h2 h3 h4 h5 _) _

include h0 h1 h2 h3 h4 h5 in
theorem reference_sums (j : S8x1024.Idx) : val_main_v81 (F := Ideal) x0 x1 x2 x3 x4 x5 j
    = if (j 0).val = 0 then ∑ i : Fin 4096, refErr x0 x1 x2 x3 x4 x5 (ix2 i (j 1)) * Ideal.ofBits .f32 0x3A800000#32 * normed (refRow x0 x1 x2 i) (j 1)
      else if (j 0).val = 1 then ∑ i : Fin 4096, refErr x0 x1 x2 x3 x4 x5 (ix2 i (j 1)) * Ideal.ofBits .f32 0x3A800000#32 else 0 := by
  pointwise [val_main_v81, val_main_v80, val_main_v53, val_main_v52, val_main_v51, val_main_v50, val_main_v49,
    val_main_cst_15, val_main_cst_16, val_main_cst_24]
  simp only [dx_eq h0 h1 h2 h3 h4 h5, reference_normed]
  by_cases e0 : (j 0).val = 0
  · rw [dif_pos (by omega), if_pos e0]
    exact Finset.sum_congr rfl fun x _ => mul_comm _ _
  · rw [dif_neg (by omega), if_neg e0]
    by_cases e1 : (j 0).val = 1
    · rw [dif_pos (by omega), if_pos e1]
    · rw [dif_neg (by omega), if_neg e1]

include h0 h1 h2 h3 h4 h5 in
theorem reference_loss (j : S8x128.Idx) : val_main_v82 (F := Ideal) x0 x1 x2 x3 x4 x5 j
    = ∑ i : Fin 4096, (∑ x : Fin 1024, refErr x0 x1 x2 x3 x4 x5 (ix2 i x) * refErr x0 x1 x2 x3 x4 x5 (ix2 i x)) * Ideal.ofBits .f32 0x3A000000#32 := by
  rw [← half_means fun i => IsReal.sum _ _ fun x => (err_real h0 h1 h2 h3 h4 h5 _).mul (err_real h0 h1 h2 h3 h4 h5 _)]
  pointwise [val_main_v82, val_main_v42, val_main_v41, val_main_v40, val_main_v39, val_main_v38, val_main_v35, val_main_cst_8,
    val_main_cst_9, val_main_cst_10, val_main_cst_11]
  simp only [reference_err]

end Finite

/-- Every argument array holds real numbers. -/
structure Reals (c : Dev nD) : Prop where
  a0 : ∀ j, IsReal (m ((c : Thread nD τ).loc main_arg0) j)
  a1 : ∀ j, IsReal (m ((c : Thread nD τ).loc main_arg1) j)
  a2 : ∀ j, IsReal (m ((c : Thread nD τ).loc main_arg2) j)
  a3 : ∀ j, IsReal (m ((c : Thread nD τ).loc main_arg3) j)
  a4 : ∀ j, IsReal (m ((c : Thread nD τ).loc main_arg4) j)
  a5 : ∀ j, IsReal (m ((c : Thread nD τ).loc main_arg5) j)

instance preFacts : Cert.Pre_finite8.Facts := ⟨by decide, by decide, by decide⟩

theorem reals (hm : Cert.Pre_Kernel8Ideal_finite8 m) (c : Dev nD) : Reals m c := by
  obtain ⟨h0, h1, h2, h3, h4, h5⟩ := hm c
  exact ⟨fun j => IsReal.of_abs_lt (congrFun h0 j), fun j => IsReal.of_abs_lt (congrFun h1 j), fun j => IsReal.of_abs_lt (congrFun h2 j),
    fun j => IsReal.of_abs_lt (congrFun h3 j), fun j => IsReal.of_abs_lt (congrFun h4 j), fun j => IsReal.of_abs_lt (congrFun h5 j)⟩

section Values

variable {m} {c : Dev nD} (hr : Reals m c) (t : Fin cfg0.N)

include hr in
theorem cot_at (y : Fin 256) (i : Fin 4096) (h : (i : ℕ) = t.val * 256 + y) :
    cotRow (iblk m c 0 t) (acc m c t) (hid m c t) (down m c t) (iblk m c 4 t) (iblk m c 5 t) (iblk m c 3 t) y
      = refCot (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i := by
  funext x
  rw [cot_eq hr.a0 hr.a1 hr.a2 hr.a3 hr.a4 hr.a5, cotRow, err_at m c t (ix2 y x) (ix2 i x) h rfl]
  refine congrArg₂ (· * ·) rfl ?_
  blk_point [iblk, V, idx t]

include hr in
theorem grad_at (y : S256x1024.Idx) (j : S4096x1024.Idx) (h0 : (j 0 : ℕ) = t.val * 256 + y 0) (h1 : (j 1 : ℕ) = y 1) :
    back (preRow (iblk m c 0 t) (acc m c t) (hid m c t) (down m c t) (y 0))
        (cotRow (iblk m c 0 t) (acc m c t) (hid m c t) (down m c t) (iblk m c 4 t) (iblk m c 5 t) (iblk m c 3 t) (y 0)) (y 1)
      = Cert.Reference8Ideal.Read.val_main_v79 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) j := by
  have hj : y 1 = j 1 := Fin.ext h1.symm
  rw [reference_grad hr.a0 hr.a1 hr.a2 hr.a3 hr.a4 hr.a5]
  exact congr (congrArg₂ back (row_at m c t (y 0) (j 0) h0) (cot_at hr t (y 0) (j 0) h0)) hj

include hr in
theorem final_grad : (dats m 0 c).arrAt 6 (cfgs 0).N
    = Cert.Reference8Ideal.Read.val_main_v79 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  by_cases h : t.val % 16 = 0
  · rw [outsAt0_A m c t h]
    frame_out
    refine (kernel_back ..).trans (grad_at hr t y _ ?_ ?_) <;> blk_simp [idx t] <;> omega
  · rw [outsAt0_B m c t h]
    frame_out
    refine (kernel_back ..).trans (grad_at hr t y _ ?_ ?_) <;> blk_simp [idx t] <;> omega

include hr in
theorem final_grad_bf16 : (dats m 0 c).arrAt 11 (cfgs 0).N
    = Cert.Reference8Ideal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  by_cases h : t.val % 16 = 0
  · rw [outsAt0_A m c t h]
    frame_out
    refine (kernel_back ..).trans (grad_at hr t y _ ?_ ?_) <;> blk_simp [idx t] <;> omega
  · rw [outsAt0_B m c t h]
    frame_out
    refine (kernel_back ..).trans (grad_at hr t y _ ?_ ?_) <;> blk_simp [idx t] <;> omega

/-- What one grid point adds to the two rows of sums. -/
def part (m : (ℓ : Loc nD τ sig) → Buf (Elt Ideal) ℓ) (c : Dev nD) (t : Fin cfg0.N) (y : S8x1024.Idx) : EReal :=
  if (y 0).val = 0 then ∑ i : Fin 256, err (iblk m c 0 t) (acc m c t) (hid m c t) (down m c t) (iblk m c 4 t) (iblk m c 5 t) (iblk m c 3 t)
      (ix2 i (y 1)) * Ideal.ofBits .f32 0x3A800000#32 * normed (preRow (iblk m c 0 t) (acc m c t) (hid m c t) (down m c t) i) (y 1)
  else if (y 0).val = 1 then ∑ i : Fin 256, err (iblk m c 0 t) (acc m c t) (hid m c t) (down m c t) (iblk m c 4 t) (iblk m c 5 t) (iblk m c 3 t)
      (ix2 i (y 1)) * Ideal.ofBits .f32 0x3A800000#32
  else 0

theorem zero_sums (y : S8x1024.Idx) : k0_pay28 (F := Ideal) y = 0 := by pointwise [k0_pay28]

theorem sums_first (h : t.val % 16 = 0) (y : S8x1024.Idx) : (outsAt0 m c t.val t.isLt).2.1 y = 0 + part m c t y := by
  rw [outsAt0_A m c t h]
  frame_out
  rw [fresh_stored _ _ _ (ms0_7 t).view, part]
  by_cases e0 : (y 0).val = 0
  · rw [if_pos e0, if_pos e0]
    refine (kernel_sum_normed ..).trans (congrArg (· + _) ?_)
    exact (fresh_row0 _ y _ e0).trans (zero_sums y)
  · rw [if_neg e0, if_neg e0]
    by_cases e1 : (y 0).val = 1
    · rw [if_pos e1, if_pos e1]
      refine (kernel_sum ..).trans (congrArg (· + _) ?_)
      exact (fresh_row1 _ _ y _ e1).trans (zero_sums y)
    · rw [if_neg e1, if_neg e1, add_zero, zero_sums]

theorem sums_next (h : ¬ t.val % 16 = 0) (hp : t.val - 1 < cfg0.N) (y : S8x1024.Idx) :
    (outsAt0 m c t.val t.isLt).2.1 y = (outsAt0 m c (t.val - 1) hp).2.1 y + part m c t y := by
  rw [outsAt0_B m c t h]
  frame_out
  rw [stored]
  simp only [View.writes_nil, Idealize.ShloMosaic.Memref.IsWhole.read_unread]
  rw [part]
  by_cases e0 : (y 0).val = 0
  · rw [if_pos e0, if_pos e0]
    exact (kernel_sum_normed ..).trans (congrArg (· + _) (row_read y _ 0 _ e0))
  · rw [if_neg e0, if_neg e0]
    by_cases e1 : (y 0).val = 1
    · rw [if_pos e1, if_pos e1]
      exact (kernel_sum ..).trans (congrArg (· + _) (row_read y _ 1 _ e1))
    · rw [if_neg e1, if_neg e1, add_zero]

include hr in
theorem sums_total (ht : t.val % 16 = 15) (y : S8x1024.Idx) : (outsAt0 m c t.val t.isLt).2.1 y
    = Cert.Reference8Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) y := by
  have hN : t.val < 16 := t.isLt
  rw [Pipeline.eq_sum_fin_of_reset_step_apply_of_flush (fun n h => (outsAt0 m c n h).2.1) 16 (fun _ => 0) (part m c)
    (fun t h j => sums_first t h j) (fun t h j => sums_next t h _ j) t ht _, zero_add,
    reference_sums hr.a0 hr.a1 hr.a2 hr.a3 hr.a4 hr.a5]
  by_cases e0 : (y 0).val = 0
  · rw [if_pos e0]
    refine (Finset.sum_congr rfl fun s _ => if_pos e0).trans ?_
    refine Fin.sum_mul_add_congr fun s k hl => ?_
    refine congrArg₂ (· * ·) (congrArg (· * _) (err_at m c _ _ _ ?_ rfl)) (congrArg (normed · _) (row_at m c _ _ _ ?_))
    all_goals
      show s.val * 256 + k.val = (16 * (t.val / 16) + s.val) * 256 + k.val
      omega
  · rw [if_neg e0]
    by_cases e1 : (y 0).val = 1
    · rw [if_pos e1]
      refine (Finset.sum_congr rfl fun s _ => (if_neg e0).trans (if_pos e1)).trans ?_
      refine Fin.sum_mul_add_congr fun s k hl => ?_
      refine congrArg (· * _) (err_at m c _ _ _ ?_ rfl)
      show s.val * 256 + k.val = (16 * (t.val / 16) + s.val) * 256 + k.val
      omega
    · rw [if_neg e1]
      exact Finset.sum_eq_zero fun s _ => (if_neg e0).trans (if_neg e1)

theorem zero_loss (y : S8x128.Idx) : k0_pay29 (F := Ideal) y = 0 := by pointwise [k0_pay29]

/-- What one grid point adds to the loss. -/
def lossPart (m : (ℓ : Loc nD τ sig) → Buf (Elt Ideal) ℓ) (c : Dev nD) (t : Fin cfg0.N) (y : S8x128.Idx) : EReal :=
  (∑ i : Fin 256, ∑ x : Fin 1024, err (iblk m c 0 t) (acc m c t) (hid m c t) (down m c t) (iblk m c 4 t) (iblk m c 5 t) (iblk m c 3 t) (ix2 i x)
    * err (iblk m c 0 t) (acc m c t) (hid m c t) (down m c t) (iblk m c 4 t) (iblk m c 5 t) (iblk m c 3 t) (ix2 i x))
      * Ideal.ofBits .f32 0x3A000000#32

theorem loss_first (h : t.val % 16 = 0) (y : S8x128.Idx) : (outsAt0 m c t.val t.isLt).2.2.1 y = 0 + lossPart m c t y := by
  rw [outsAt0_A m c t h]
  frame_out
  exact (kernel_loss ..).trans (congrArg (· + _) (zero_loss y))

theorem loss_next (h : ¬ t.val % 16 = 0) (hp : t.val - 1 < cfg0.N) (y : S8x128.Idx) :
    (outsAt0 m c t.val t.isLt).2.2.1 y = (outsAt0 m c (t.val - 1) hp).2.2.1 y + lossPart m c t y := by
  rw [outsAt0_B m c t h]
  frame_out
  exact kernel_loss ..

/-- What the row `i` of the reference adds to the loss. -/
def rowLoss (m : (ℓ : Loc nD τ sig) → Buf (Elt Ideal) ℓ) (c : Dev nD) (i : Fin 4096) : EReal :=
  (∑ x : Fin 1024, refErr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i x)
    * refErr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i x)) * Ideal.ofBits .f32 0x3A000000#32

include hr in
theorem lossPart_eq (ht : t.val < 16) (y : S8x128.Idx) :
    lossPart m c t y = ∑ i : Fin 256, rowLoss m c ⟨t.val * 256 + i, by omega⟩ := by
  have he : ∀ (i : Fin 256) (x : Fin 1024),
      err (iblk m c 0 t) (acc m c t) (hid m c t) (down m c t) (iblk m c 4 t) (iblk m c 5 t) (iblk m c 3 t) (ix2 i x)
        = refErr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 256 + i, by omega⟩ x) := fun i x => err_at m c t (ix2 i x) _ rfl rfl
  rw [lossPart]
  simp only [he]
  refine sum_times (fun i => IsReal.sum _ _ fun x => ?_) ⟨_, word_inv_2048⟩
  exact (err_real hr.a0 hr.a1 hr.a2 hr.a3 hr.a4 hr.a5 _).mul (err_real hr.a0 hr.a1 hr.a2 hr.a3 hr.a4 hr.a5 _)

include hr in
theorem loss_total (ht : t.val % 16 = 15) (y : S8x128.Idx) : (outsAt0 m c t.val t.isLt).2.2.1 y
    = Cert.Reference8Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) y := by
  have hN : t.val < 16 := t.isLt
  have hs : ∀ s : Fin 16, 16 * (t.val / 16) + s.val < 16 := fun s => by have := s.isLt; omega
  rw [Pipeline.eq_sum_fin_of_reset_step_apply_of_flush (fun n h => (outsAt0 m c n h).2.2.1) 16 (fun _ => 0) (lossPart m c)
    (fun t h j => loss_first t h j) (fun t h j => loss_next t h _ j) t ht _, zero_add]
  refine Eq.trans ?_ (reference_loss hr.a0 hr.a1 hr.a2 hr.a3 hr.a4 hr.a5 y).symm
  refine (Finset.sum_congr rfl fun s _ => lossPart_eq hr ⟨16 * (t.val / 16) + s.val, hs s⟩ (hs s) y).trans ?_
  refine Fin.sum_mul_add_congr fun s k hl => ?_
  refine congrArg (rowLoss m c) (Fin.ext ?_)
  show (16 * (t.val / 16) + s.val) * 256 + k.val = s.val * 256 + k.val
  omega

include hr in
theorem final_sums : (dats m 0 c).arrAt 7 (cfgs 0).N = Cert.Reference8Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  refine (sums_total hr t ((flush0_7 t).mp hf) _).trans (congrArg _ ?_)
  blk_ext [idx t]

include hr in
theorem final_loss : (dats m 0 c).arrAt 8 (cfgs 0).N = Cert.Reference8Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  refine (loss_total hr t ((flush0_8 t).mp hf) _).trans (congrArg _ ?_)
  blk_ext [idx t]

theorem relu_at (y : S256x4096.Idx) (j : S4096x4096.Idx) (e0 : (j 0 : ℕ) = t.val * 256 + y 0) (e1 : (j 1 : ℕ) = y 1) :
    (outsAt0 m c t.val t.isLt).2.2.2.1 y = Cert.Reference8Ideal.Read.val_main_v83 (F := Ideal) (m ((c : Thread nD τ).loc main_arg0)) (m ((c : Thread nD τ).loc main_arg1)) j := by
  by_cases e : t.val % 16 = 0
  · rw [outsAt0_A m c t e]
    frame_out
    canon_tiles x h
    case piece0 => exact (relu3 ..).trans (act_at m c t 3 (by decide) _ x j (by omega) (by omega))
    case piece1 => exact (relu2 ..).trans (act_at m c t 2 (by decide) _ x j (by omega) (by omega))
    case piece2 => exact (relu1 ..).trans (act_at m c t 1 (by decide) _ x j (by omega) (by omega))
    case piece3 => exact (relu0 ..).trans (act_at m c t 0 (by decide) _ x j (by omega) (by omega))
  · rw [outsAt0_B m c t e]
    frame_out
    canon_tiles x h
    case piece0 => exact (relu3 ..).trans (act_at m c t 3 (by decide) _ x j (by omega) (by omega))
    case piece1 => exact (relu2 ..).trans (act_at m c t 2 (by decide) _ x j (by omega) (by omega))
    case piece2 => exact (relu1 ..).trans (act_at m c t 1 (by decide) _ x j (by omega) (by omega))
    case piece3 => exact (relu0 ..).trans (act_at m c t 0 (by decide) _ x j (by omega) (by omega))

theorem square_at (k : ℕ) (hk : k < 4) (inb : ∀ a, (![k, 0, 0] : Fin 3 → ℕ) a + (![1, 1024, 1024] : Fin 3 → ℕ) a ≤ S4x1024x1024.size a)
    (y : S256x1024.Idx) (j : S4096x4096.Idx) (h0 : (j 0 : ℕ) = t.val * 256 + y 0) (h1 : (j 1 : ℕ) = k * 1024 + y 1) :
    act (iblk m c 0 t) (View.ld (iblk m c 1 t) (Rect.unit (s := S4x1024x1024) ![k, 0, 0] ![1, 1024, 1024] inb)) y
        * act (iblk m c 0 t) (View.ld (iblk m c 1 t) (Rect.unit (s := S4x1024x1024) ![k, 0, 0] ![1, 1024, 1024] inb)) y
      = Cert.Reference8Ideal.Read.val_main_v84 (F := Ideal) (m ((c : Thread nD τ).loc main_arg0)) (m ((c : Thread nD τ).loc main_arg1)) j :=
  congrArg₂ (· * ·) (act_at m c t k hk inb y j h0 h1) (act_at m c t k hk inb y j h0 h1)

theorem hidden_at (y : S256x4096.Idx) (j : S4096x4096.Idx) (e0 : (j 0 : ℕ) = t.val * 256 + y 0) (e1 : (j 1 : ℕ) = y 1) :
    (outsAt0 m c t.val t.isLt).2.2.2.2.1 y = Cert.Reference8Ideal.Read.val_main_v84 (F := Ideal) (m ((c : Thread nD τ).loc main_arg0)) (m ((c : Thread nD τ).loc main_arg1)) j := by
  by_cases e : t.val % 16 = 0
  · rw [outsAt0_A m c t e]
    frame_out
    canon_tiles x h
    case piece0 => exact (square3 ..).trans (square_at t 3 (by decide) _ x j (by omega) (by omega))
    case piece1 => exact (square2 ..).trans (square_at t 2 (by decide) _ x j (by omega) (by omega))
    case piece2 => exact (square1 ..).trans (square_at t 1 (by decide) _ x j (by omega) (by omega))
    case piece3 => exact (square0 ..).trans (square_at t 0 (by decide) _ x j (by omega) (by omega))
  · rw [outsAt0_B m c t e]
    frame_out
    canon_tiles x h
    case piece0 => exact (square3 ..).trans (square_at t 3 (by decide) _ x j (by omega) (by omega))
    case piece1 => exact (square2 ..).trans (square_at t 2 (by decide) _ x j (by omega) (by omega))
    case piece2 => exact (square1 ..).trans (square_at t 1 (by decide) _ x j (by omega) (by omega))
    case piece3 => exact (square0 ..).trans (square_at t 0 (by decide) _ x j (by omega) (by omega))

theorem final_relu : (dats m 0 c).arrAt 9 (cfgs 0).N = Cert.Reference8Ideal.Read.val_main_v83 (F := Ideal) (m ((c : Thread nD τ).loc main_arg0)) (m ((c : Thread nD τ).loc main_arg1)) := by
  refine (dats m 0 c).arrAt_eq_of_covers 9 _ (by decide +kernel) fun t hf y => ?_
  blk_simp
  rw [after0_9]
  refine relu_at t y _ ?_ ?_ <;> blk_simp [idx t] <;> omega

theorem final_hidden : (dats m 0 c).arrAt 10 (cfgs 0).N = Cert.Reference8Ideal.Read.val_main_v84 (F := Ideal) (m ((c : Thread nD τ).loc main_arg0)) (m ((c : Thread nD τ).loc main_arg1)) := by
  refine (dats m 0 c).arrAt_eq_of_covers 10 _ (by decide +kernel) fun t hf y => ?_
  blk_simp
  rw [after0_10]
  refine hidden_at t y _ ?_ ?_ <;> blk_simp [idx t] <;> omega

end Values

set_option maxHeartbeats 1000000 in
/-- The six results of the forward of the multilayer perceptron are those of the reference, for real arguments. -/
theorem algebraic : Cert.algebraic_Kernel8Ideal_Reference8Ideal_pre_finite8 := by
  pair_intro
  · run_from Cert.Kernel8Ideal.Gen.run_main m g
  · run_from Cert.Reference8Ideal.Value.run m' g'
    all_goals have hr := reals m (by assumption) c
    all_goals obtain ⟨h0, h1, h2, h3, h4, h5⟩ := hagree c
    · rw [Cert.Reference8Ideal.Read.val_main_v79_eq, h0, h1, h2, h3, h4, h5]
      exact (final_grad hr).symm
    · rw [Cert.Reference8Ideal.Read.val_main_v81_eq, h0, h1, h2, h3, h4, h5]
      exact (final_sums hr).symm
    · rw [Cert.Reference8Ideal.Read.val_main_v82_eq, h0, h1, h2, h3, h4, h5]
      exact (final_loss hr).symm
    · exact final_relu.symm
    · exact final_hidden.symm
    · rw [Cert.Reference8Ideal.Read.val_main_v85_eq, h0, h1, h2, h3, h4, h5]
      exact (final_grad_bf16 hr).symm

end Cert.FeedForward
-- ==== Proof.MixNorm.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MixNorm
open Cert.Kernel9Ideal Cert.Kernel9Ideal.Gen

variable (m : (ℓ : Loc nD τ sig) → Buf (Elt Ideal) ℓ)

/-- The scaled residual plus the two halves' products, at one element of a block. -/
def mixed (v0 : FVec Ideal S512x512 .bf16) (v1 : FVec Ideal S512x1024 .bf16) (v4 : FVec Ideal S512x512 .bf16) (v5 : FVec Ideal S512x1024 .bf16) (v9 : FVec Ideal S512x1024 .f32) (j : S512x1024.Idx) : EReal :=
  Ideal.ofBits .f32 0x3F9837F0#32 * v9 j
    + (∑ k : Fin 512, v0 (ix2 (j 0) k) * v1 (ix2 k (j 1)) + ∑ k : Fin 512, v4 (ix2 (j 0) k) * v5 (ix2 k (j 1)))

/-- The kernel takes each row's mean off. -/
theorem centred (v0 : FVec Ideal S512x512 .bf16) (v1 : FVec Ideal S512x1024 .bf16) (v4 : FVec Ideal S512x512 .bf16) (v5 : FVec Ideal S512x1024 .bf16) (v9 : FVec Ideal S512x1024 .f32) (j : S512x1024.Idx) :
    k0_pay2 (F := Ideal) v0 v1 v4 v5 v9 j = mixed v0 v1 v4 v5 v9 j
      - Ideal.div (∑ x : Fin 1024, mixed v0 v1 v4 v5 v9 (ix2 (j 0) x)) (Ideal.ofBits .f32 0x44800000#32) := by
  pointwise [k0_pay2, mixed]

theorem scale (v0 : FVec Ideal S512x512 .bf16) (v1 : FVec Ideal S512x1024 .bf16) (v4 : FVec Ideal S512x512 .bf16) (v5 : FVec Ideal S512x1024 .bf16) (v9 : FVec Ideal S512x1024 .f32) (j : S512x1.Idx) :
    k0_pay3 (F := Ideal) v0 v1 v4 v5 v9 j
      = Ideal.rsqrt (Ideal.div (∑ x : Fin 1024, k0_pay2 (F := Ideal) v0 v1 v4 v5 v9 (ix2 (j 0) x) * k0_pay2 (F := Ideal) v0 v1 v4 v5 v9 (ix2 (j 0) x))
          (Ideal.ofBits .f32 0x44800000#32) + Ideal.ofBits .f32 0x3727C5AC#32) := by
  pointwise [k0_pay3]

theorem normed (v0 : FVec Ideal S512x512 .bf16) (v1 : FVec Ideal S512x1024 .bf16) (v4 : FVec Ideal S512x512 .bf16) (v5 : FVec Ideal S512x1024 .bf16) (v9 : FVec Ideal S512x1024 .f32) (j : S512x1024.Idx) :
    k0_pay4 (F := Ideal) v0 v1 v4 v5 v9 j
      = k0_pay2 (F := Ideal) v0 v1 v4 v5 v9 j * k0_pay3 (F := Ideal) v0 v1 v4 v5 v9 (ix2 (j 0) 0) := by
  pointwise [k0_pay4]

section Reference
open Cert.Reference9Ideal.Read

theorem reference_centred (x0 x1 : FVec Ideal S4096x512 .bf16) (x2 : FVec Ideal S1024x1024 .f32) (x3 : FVec Ideal S4096x1024 .f32) (j : S4096x1024.Idx) :
    val_main_v11 (F := Ideal) x0 x1 x2 x3 j = val_main_v5 (F := Ideal) x0 x1 x2 x3 j
      - Ideal.div (∑ x : Fin 1024, val_main_v5 (F := Ideal) x0 x1 x2 x3 (ix2 (j 0) x)) (Ideal.ofBits .f32 0x44800000#32) := by
  pointwise [val_main_v11, val_main_v10, val_main_v9, val_main_v8, val_main_v7, val_main_v6, val_main_cst_0, val_main_cst_1]

theorem reference_scale (x0 x1 : FVec Ideal S4096x512 .bf16) (x2 : FVec Ideal S1024x1024 .f32) (x3 : FVec Ideal S4096x1024 .f32) (j : S4096x1.Idx) :
    val_main_v19 (F := Ideal) x0 x1 x2 x3 j
      = Ideal.rsqrt (Ideal.div (∑ x : Fin 1024, val_main_v11 (F := Ideal) x0 x1 x2 x3 (ix2 (j 0) x) * val_main_v11 (F := Ideal) x0 x1 x2 x3 (ix2 (j 0) x))
          (Ideal.ofBits .f32 0x44800000#32) + Ideal.ofBits .f32 0x3727C5AC#32) := by
  pointwise [val_main_v19, val_main_v18, val_main_v17, val_main_v16, val_main_v15, val_main_v14, val_main_v13, val_main_v12,
    val_main_cst_2, val_main_cst_3, val_main_cst_4]

theorem reference_normed (x0 x1 : FVec Ideal S4096x512 .bf16) (x2 : FVec Ideal S1024x1024 .f32) (x3 : FVec Ideal S4096x1024 .f32) (j : S4096x1024.Idx) :
    val_main_v45 (F := Ideal) x0 x1 x2 x3 j
      = val_main_v11 (F := Ideal) x0 x1 x2 x3 j * val_main_v19 (F := Ideal) x0 x1 x2 x3 (ix2 (j 0) 0) := by
  rw [show val_main_v11 (F := Ideal) x0 x1 x2 x3 = val_main_v43 (F := Ideal) x0 x1 x2 x3 from rfl]
  pointwise [val_main_v45, val_main_v44]

end Reference

theorem idx : ∀ t : Fin cfg0.N, win0_0.index t = ![t.val, 0] ∧ win0_1.index t = ![t.val, 0]
    ∧ win0_2.index t = ![0, 0] ∧ win0_3.index t = ![t.val, 0] ∧ win0_4.index t = ![0, 0] ∧ win0_5.index t = ![0, 0]
    ∧ win0_6.index t = ![t.val, 0] ∧ win0_7.index t = ![t.val, 0] ∧ win0_8.index t = ![t.val, 0]
    ∧ win0_9.index t = ![t.val, 0] :=
  (by decide +kernel : ∀ t : Fin grid0.N, _)

theorem mixed_at (c : Dev nD) (t : Fin cfg0.N) (y : S512x1024.Idx) (j : S4096x1024.Idx)
    (h0 : (j 0 : ℕ) = t.val * 512 + y 0) (h1 : (j 1 : ℕ) = y 1) :
    mixed (iblk m c 0 t) (View.ld (iblk m c 2 t) r0_1) (iblk m c 1 t) (View.ld (iblk m c 2 t) r0_2) (iblk m c 3 t) y
      = Cert.Reference9Ideal.Read.val_main_v5 (F := Ideal) (m ((c : Thread nD τ).loc main_arg0)) (m ((c : Thread nD τ).loc main_arg1)) (m ((c : Thread nD τ).loc main_arg2)) (m ((c : Thread nD τ).loc main_arg3)) j := by
  pointwise [mixed, Cert.Reference9Ideal.Read.val_main_v5, Cert.Reference9Ideal.Read.val_main_v3,
    Cert.Reference9Ideal.Read.val_main_v2, Cert.Reference9Ideal.Read.val_main_cst, Cert.Reference9Ideal.Read.val_main_v4,
    Cert.Reference9Ideal.Read.val_main_v1, Cert.Reference9Ideal.Read.val_main_v0]
  blk_point [iblk, V, idx t]

theorem centred_at (c : Dev nD) (t : Fin cfg0.N) (y : S512x1024.Idx) (j : S4096x1024.Idx)
    (h0 : (j 0 : ℕ) = t.val * 512 + y 0) (h1 : (j 1 : ℕ) = y 1) :
    k0_pay2 (F := Ideal) (iblk m c 0 t) (View.ld (iblk m c 2 t) r0_1) (iblk m c 1 t) (View.ld (iblk m c 2 t) r0_2) (iblk m c 3 t) y
      = Cert.Reference9Ideal.Read.val_main_v11 (F := Ideal) (m ((c : Thread nD τ).loc main_arg0)) (m ((c : Thread nD τ).loc main_arg1)) (m ((c : Thread nD τ).loc main_arg2)) (m ((c : Thread nD τ).loc main_arg3)) j := by
  rw [centred, reference_centred]
  exact congrArg₂ (· - ·) (mixed_at m c t y j h0 h1) (congrArg (Ideal.div · _)
    (Finset.sum_congr rfl fun x _ => mixed_at m c t (ix2 (y 0) x) (ix2 (j 0) x) h0 rfl))

theorem scale_at (c : Dev nD) (t : Fin cfg0.N) (y : S512x1.Idx) (j : S4096x1.Idx)
    (h0 : (j 0 : ℕ) = t.val * 512 + y 0) :
    k0_pay3 (F := Ideal) (iblk m c 0 t) (View.ld (iblk m c 2 t) r0_1) (iblk m c 1 t) (View.ld (iblk m c 2 t) r0_2) (iblk m c 3 t) y
      = Cert.Reference9Ideal.Read.val_main_v19 (F := Ideal) (m ((c : Thread nD τ).loc main_arg0)) (m ((c : Thread nD τ).loc main_arg1)) (m ((c : Thread nD τ).loc main_arg2)) (m ((c : Thread nD τ).loc main_arg3)) j := by
  rw [scale, reference_scale]
  refine congrArg (fun s => Ideal.rsqrt (Ideal.div s _ + _)) (Finset.sum_congr rfl fun x _ => ?_)
  exact congrArg₂ (· * ·) (centred_at m c t (ix2 (y 0) x) (ix2 (j 0) x) h0 rfl)
    (centred_at m c t (ix2 (y 0) x) (ix2 (j 0) x) h0 rfl)

theorem normed_at (c : Dev nD) (t : Fin cfg0.N) (y : S512x1024.Idx) (j : S4096x1024.Idx)
    (h0 : (j 0 : ℕ) = t.val * 512 + y 0) (h1 : (j 1 : ℕ) = y 1) :
    k0_pay4 (F := Ideal) (iblk m c 0 t) (View.ld (iblk m c 2 t) r0_1) (iblk m c 1 t) (View.ld (iblk m c 2 t) r0_2) (iblk m c 3 t) y
      = Cert.Reference9Ideal.Read.val_main_v45 (F := Ideal) (m ((c : Thread nD τ).loc main_arg0)) (m ((c : Thread nD τ).loc main_arg1)) (m ((c : Thread nD τ).loc main_arg2)) (m ((c : Thread nD τ).loc main_arg3)) j := by
  rw [normed, reference_normed]
  exact congrArg₂ (· * ·) (centred_at m c t y j h0 h1) (scale_at m c t (ix2 (y 0) 0) (ix2 (j 0) 0) h0)

theorem out_at (c : Dev nD) (t : Fin cfg0.N) (y : S512x1024.Idx) (j : S4096x1024.Idx)
    (h0 : (j 0 : ℕ) = t.val * 512 + y 0) (h1 : (j 1 : ℕ) = y 1) :
    k0_pay5 (F := Ideal) (iblk m c 0 t) (View.ld (iblk m c 2 t) r0_1) (iblk m c 1 t) (View.ld (iblk m c 2 t) r0_2) (iblk m c 3 t) (iblk m c 4 t) (iblk m c 5 t) y
      = Cert.Reference9Ideal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have hn := normed_at m c t y j h0 h1
  rw [show Cert.Reference9Ideal.Read.val_main_v45 (F := Ideal) = Cert.Reference9Ideal.Read.val_main_v37 (F := Ideal) from rfl] at hn
  pointwise [k0_pay5, Cert.Reference9Ideal.Read.val_main_v41, Cert.Reference9Ideal.Read.val_main_v40,
    Cert.Reference9Ideal.Read.val_main_v39, Cert.Reference9Ideal.Read.val_main_v38]
  refine congrArg₂ (· + ·) (congrArg₂ (· * ·) hn ?_) ?_ <;> blk_point [iblk, V, idx t]

theorem final_x1 (c : Dev nD) : (dats m 0 c).arrAt 6 (cfgs 0).N
    = Cert.Reference9Ideal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out [k0_pay6]
  refine out_at m c t y _ ?_ ?_ <;> blk_simp [idx t] <;> omega

theorem final_xhat (c : Dev nD) : (dats m 0 c).arrAt 7 (cfgs 0).N
    = Cert.Reference9Ideal.Read.val_main_v45 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  refine normed_at m c t y _ ?_ ?_ <;> blk_simp [idx t] <;> omega

theorem final_rstd (c : Dev nD) : (dats m 0 c).arrAt 8 (cfgs 0).N
    = Cert.Reference9Ideal.Read.val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  frame_out
  refine scale_at m c t y _ ?_
  blk_simp [idx t]
  try omega

theorem final_bf16 (c : Dev nD) : (dats m 0 c).arrAt 9 (cfgs 0).N
    = Cert.Reference9Ideal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  frame_out [k0_pay6]
  pointwise [k0_pay1, Cert.Reference9Ideal.Read.val_main_v46]
  refine out_at m c t y _ ?_ ?_ <;> blk_simp [idx t] <;> omega

theorem algebraic : Cert.algebraic_Kernel9Ideal_Reference9Ideal := by
  pair_intro
  · run_from Cert.Kernel9Ideal.Gen.run_main m g
  · run_from Cert.Reference9Ideal.Value.run m' g'
    all_goals obtain ⟨h0, h1, h2, h3, h4, h5⟩ := hagree c
    · rw [Cert.Reference9Ideal.Read.val_main_v41_eq, h0, h1, h2, h3, h4, h5]
      exact (final_x1 m c).symm
    · rw [Cert.Reference9Ideal.Read.val_main_v45_eq, h0, h1, h2, h3]
      exact (final_xhat m c).symm
    · exact (final_rstd m c).symm
    · rw [Cert.Reference9Ideal.Read.val_main_v46_eq, h0, h1, h2, h3, h4, h5]
      exact (final_bf16 m c).symm

end Cert.MixNorm
-- ==== Proof.Proj.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proj
open Cert.Kernel11Ideal Cert.Kernel11Ideal.Gen

variable (m : (ℓ : Loc nD τ sig) → Buf (Elt Ideal) ℓ)

theorem idx : ∀ t : Fin cfg0.N, win0_0.index t = ![t.val, 0] ∧ win0_1.index t = ![0, 0, 0]
    ∧ win0_2.index t = ![t.val, 0] ∧ win0_3.index t = ![t.val, 0] ∧ win0_4.index t = ![t.val, 0] :=
  (by decide +kernel : ∀ t : Fin grid0.N, _)

theorem point_gates (c : Dev nD) (t : Fin cfg0.N) (y : S512x1536.Idx) (j : S4096x1536.Idx)
    (h0 : (j 0 : ℕ) = t.val * 512 + y 0) (h1 : (j 1 : ℕ) = y 1) :
    out0_2 (iblk m c 0 t) (iblk m c 1 t) y = Cert.Reference11Ideal.Read.val_main_v1 (F := Ideal)
      (m ((c : Thread nD τ).loc main_arg0)) (m ((c : Thread nD τ).loc main_arg1)) j := by
  rw [Cert.Reference11Ideal.Read.val_main_v1_apply, Cert.Reference11Ideal.Read.val_main_v0_apply]
  canon_tiles x h
  all_goals
    pointwise [k0_pay3, k0_pay2, k0_pay1]
    blk_point [iblk, V, idx t]

theorem point_qkv (c : Dev nD) (t : Fin cfg0.N) (y : S512x1536.Idx) (j : S4096x1536.Idx)
    (h0 : (j 0 : ℕ) = t.val * 512 + y 0) (h1 : (j 1 : ℕ) = y 1) :
    out0_3 (iblk m c 0 t) (iblk m c 1 t) y = Cert.Reference11Ideal.Read.val_main_v2 (F := Ideal)
      (m ((c : Thread nD τ).loc main_arg0)) (m ((c : Thread nD τ).loc main_arg1)) j := by
  rw [Cert.Reference11Ideal.Read.val_main_v2_apply, Cert.Reference11Ideal.Read.val_main_v0_apply]
  canon_tiles x h
  all_goals
    pointwise [k0_pay5, k0_pay4, k0_pay1]
    blk_point [iblk, V, idx t]

theorem final_gates (c : Dev nD) : (dats m 0 c).arrAt 2 (cfgs 0).N = Cert.Reference11Ideal.Read.val_main_v1 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  refine point_gates m c t y _ ?_ ?_ <;> blk_simp [idx t] <;> omega

theorem final_qkv (c : Dev nD) : (dats m 0 c).arrAt 3 (cfgs 0).N = Cert.Reference11Ideal.Read.val_main_v3 (F := Ideal)
      (m ((c : Thread nD τ).loc main_arg0)) (m ((c : Thread nD τ).loc main_arg1)) := by
  refine (dats m 0 c).arrAt_eq_of_covers 3 _ (by decide +kernel) fun t hf y => ?_
  blk_simp
  rw [after0_3]
  refine point_qkv m c t y _ ?_ ?_ <;> blk_simp [idx t] <;> omega

theorem final_x (c : Dev nD) : (dats m 0 c).arrAt 4 (cfgs 0).N = Cert.Reference11Ideal.Read.val_main_v4 (F := Ideal)
      (m ((c : Thread nD τ).loc main_arg0)) := by
  refine (dats m 0 c).arrAt_eq_of_covers 4 _ (by decide +kernel) fun t hf y => ?_
  blk_simp
  rw [after0_4]
  frame_out
  pointwise [k0_pay1, Cert.Reference11Ideal.Read.val_main_v4]
  blk_point [iblk, V, idx t]

theorem algebraic : Cert.algebraic_Kernel11Ideal_Reference11Ideal := by
  pair_intro
  · run_from Cert.Kernel11Ideal.Gen.run_main m g
  · run_from Cert.Reference11Ideal.Value.run m' g'
    · exact (final_gates m c).symm
    · exact (final_qkv m c).symm
    · exact (final_x m c).symm

end Cert.Proj
-- ==== Proof.BackwardRows.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.NormGrad
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Backward
open Cert.Kernel3Ideal Cert.Kernel3Ideal.Gen

open Cert.NormGrad

section Kernel

variable (d : FVec Ideal S256x1024 .f32) (r : FVec Ideal S256x1024 .bf16) (w u : FVec Ideal S1x1024x1024 .bf16)
  (j : S256x1024.Idx)

/-- The gradient that reaches one chip's hidden columns of a block, through the square and the maximum with 0. -/
def hid (j : S256x1024.Idx) : EReal :=
  (∑ k : Fin 1024, d (ix2 (j 0) k) * w (ix3 0 (j 1) k)) * (Ideal.ofBits .f32 0x40000000#32 * r j)

theorem hid0 : k0_pay6 (F := Ideal) d r w j = hid d r w j := by pointwise [k0_pay6, k0_pay5, hid]
theorem hid1 : k0_pay8 (F := Ideal) d r w j = hid d r w j := by pointwise [k0_pay8, k0_pay5, hid]
theorem hid2 : k0_pay9 (F := Ideal) (k0_pay5 d) r w j = hid d r w j := by pointwise [k0_pay9, k0_pay5, hid]
theorem hid3 : k0_pay11 (F := Ideal) (k0_pay5 d) r w j = hid d r w j := by pointwise [k0_pay11, k0_pay5, hid]

/-- One chip's share of the gradient handed through the first product. -/
def share : EReal := ∑ k : Fin 1024, hid d r w (ix2 (j 0) k) * u (ix3 0 (j 1) k)

theorem first_share : k0_pay7 (F := Ideal) d r w u j = Ideal.ofBits .f32 0x3F9837F0#32 * d j + share d r w u j := by
  pointwise [k0_pay7, share]
  simp only [hid0]

theorem three_shares (a : FVec Ideal S256x1024 .f32) (r1 r2 : FVec Ideal S256x1024 .bf16) (w1 w2 u1 u2 : FVec Ideal S1x1024x1024 .bf16) :
    k0_pay10 (F := Ideal) (k0_pay5 d) a (k0_pay8 d r1 w1) u1 r2 w2 u2 j = a j + share d r1 w1 u1 j + share d r2 w2 u2 j := by
  pointwise [k0_pay10, share]
  simp only [hid1, hid2]

theorem four_shares (a : FVec Ideal S256x1024 .f32) : k0_pay12 (F := Ideal) a (k0_pay11 (k0_pay5 d) r w) u j = a j + share d r w u j := by
  pointwise [k0_pay12, share]
  simp only [hid3]

variable (a : FVec Ideal S256x1024 .f32) (b : FVec Ideal S256x1024 .bf16) (xh : FVec Ideal S256x1024 .f32)
  (s : FVec Ideal S256x1 .f32) (g : FVec Ideal S1x1024 .f32) (o : FVec Ideal S512x1024 .bf16)

/-- The cotangent of one normed row of the block. -/
def cotRow (i : Fin 256) : Row := fun x => k0_pay12 (F := Ideal) a b u (ix2 i x) * g (ix2 0 x)

/-- The closed form of the layer norm's gradient, from the saved normed row and reciprocal deviation. -/
def back' : EReal :=
  s (ix2 (j 0) 0) * (cotRow u a b g (j 0) (j 1) - mean (cotRow u a b g (j 0))
    - xh j * mean (fun x => cotRow u a b g (j 0) x * xh (ix2 (j 0) x)))

theorem kernel_back : k0_pay14 (F := Ideal) a b u xh s g j = back' u j a b xh s g := by
  pointwise [k0_pay14, k0_pay13, back', cotRow, mean]

theorem kernel_half0 (y : S256x512.Idx) : k0_pay16 (F := Ideal) a b u xh s g o y
    = ∑ k : Fin 1024, back' u (ix2 (y 0) k) a b xh s g * o (ix2 (y 1) k) := by
  pointwise [k0_pay16, k0_pay15]
  simp only [kernel_back]

theorem kernel_half1 (y : S256x512.Idx) : k0_pay1 (F := Ideal) (k0_pay15 a b u xh s g) (k0_pay17 o) y
    = ∑ k : Fin 1024, back' u (ix2 (y 0) k) a b xh s g * o (ix2 (y 1) k) := by
  pointwise [k0_pay1, k0_pay17, k0_pay15]
  simp only [kernel_back]

theorem kernel_sum_normed (v : FVec Ideal S256x1024 .f32) (acc : FVec Ideal S1x1024 .f32) (y : S1x1024.Idx) :
    k0_pay3 (F := Ideal) v (k0_pay13 xh) acc y = acc y + ∑ i : Fin 256, v (ix2 i (y 1)) * xh (ix2 i (y 1)) := by
  pointwise [k0_pay3, k0_pay13]

theorem kernel_sum (v : FVec Ideal S256x1024 .f32) (acc : FVec Ideal S1x1024 .f32) (y : S1x1024.Idx) :
    k0_pay4 (F := Ideal) v acc y = acc y + ∑ i : Fin 256, v (ix2 i (y 1)) := by
  pointwise [k0_pay4]

end Kernel

section Reference
open Cert.Reference3Ideal.Read

variable (x0 : FVec Ideal S4096x1024 .f32) (x1 x2 : FVec Ideal S1x1024 .f32) (x3 : FVec Ideal S1024x4096 .f32)
  (x4 : FVec Ideal S4096x1024 .f32) (x5 : FVec Ideal S1024x1024 .f32) (x6 : FVec Ideal S4096x1024 .f32)

/-- One row of the layer norm's input. -/
def row (i : Fin 4096) : Row := fun x => x0 (ix2 i x)

/-- The first product, at one element. -/
def up (j : S4096x4096.Idx) : EReal :=
  ∑ k : Fin 1024, (normed (row x0 (j 0)) k * x1 (ix2 0 k) + x2 (ix2 0 k)) * x3 (ix2 k (j 1))

/-- The gradient that reaches the first product. -/
def refHid (j : S4096x4096.Idx) : EReal :=
  (∑ k : Fin 1024, x6 (ix2 (j 0) k) * x4 (ix2 (j 1) k)) * (Ideal.ofBits .f32 0x40000000#32 * max (up x0 x1 x2 x3 j) 0)

/-- The gradient that reaches the layer norm's output. -/
def refDx (j : S4096x1024.Idx) : EReal :=
  Ideal.ofBits .f32 0x3F9837F0#32 * x6 j + ∑ k : Fin 4096, refHid x0 x1 x2 x3 x4 x6 (ix2 (j 0) k) * x3 (ix2 (j 1) k)

/-- The cotangent of one normed row. -/
def refCot (i : Fin 4096) : Row := fun x => refDx x0 x1 x2 x3 x4 x6 (ix2 i x) * x1 (ix2 0 x)

theorem reference_dev (j : S4096x1024.Idx) : val_main_v5 (F := Ideal) x0 j = dev (row x0 (j 0)) (j 1) := by
  pointwise [val_main_v5, val_main_v4, val_main_v3, val_main_v2, val_main_v1, val_main_v0, val_main_cst, val_main_cst_0,
    row, dev, mean]

theorem reference_width (j : Cert.Reference3Ideal.S4096x1.Idx) : val_main_v14 (F := Ideal) x0 j = width (row x0 (j 0)) := by
  pointwise [val_main_v14, val_main_v13, val_main_v10, val_main_v9, val_main_v8, val_main_v7, val_main_v6,
    val_main_cst_1, val_main_cst_2, val_main_cst_3]
  simp only [reference_dev]
  rfl

theorem reference_scale (j : Cert.Reference3Ideal.S4096x1.Idx) : val_main_v15 (F := Ideal) x0 j = scale (row x0 (j 0)) := by
  pointwise [val_main_v15]
  rw [reference_width]
  rfl

theorem reference_normed (j : S4096x1024.Idx) : val_main_v17 (F := Ideal) x0 j = normed (row x0 (j 0)) (j 1) := by
  pointwise [val_main_v17, val_main_v16]
  rw [show val_main_v12 (F := Ideal) x0 = val_main_v5 (F := Ideal) x0 from rfl]
  rw [reference_dev, reference_scale]
  rfl

theorem reference_up (j : S4096x4096.Idx) : val_main_v22 (F := Ideal) x0 x1 x2 x3 j = up x0 x1 x2 x3 j := by
  pointwise [val_main_v22, val_main_v21, val_main_v20, val_main_v19, val_main_v18, up]
  simp only [reference_normed]
  rfl

theorem reference_relu (j : S4096x4096.Idx) : val_main_v23 (F := Ideal) x0 x1 x2 x3 j = max (up x0 x1 x2 x3 j) 0 := by
  pointwise [val_main_v23, val_main_call0_v0, val_main_call0_cst]
  rw [reference_up]

/-- Where the product is not positive, the factor from the maximum with 0 already makes the gradient 0. -/
theorem through_relu (a u : EReal) : (if 0 < u then a * (Ideal.ofBits .f32 0x40000000#32 * max u 0) else 0)
    = a * (Ideal.ofBits .f32 0x40000000#32 * max u 0) := by
  by_cases h : 0 < u
  · rw [if_pos h]
  · rw [if_neg h, max_eq_right (not_lt.mp h), mul_zero, mul_zero]

theorem reference_hid (j : S4096x4096.Idx) : val_main_v34 (F := Ideal) x0 x1 x2 x3 x4 x6 j = refHid x0 x1 x2 x3 x4 x6 j := by
  pointwise [val_main_v34, val_main_v33, val_main_v32, val_main_v31, val_main_v29, val_main_v28, val_main_v25, val_main_v24,
    val_main_cst_4, val_main_cst_6, val_main_cst_7, refHid]
  rw [reference_up, reference_relu]
  exact through_relu _ _

theorem reference_hid' (j : S4096x4096.Idx) : val_main_v79 (F := Ideal) x0 x1 x2 x3 x4 x6 j = refHid x0 x1 x2 x3 x4 x6 j := by
  pointwise [val_main_v79, val_main_v78, val_main_v77, val_main_v76, val_main_v75, val_main_v71, val_main_v70, val_main_v67, val_main_v66,
    val_main_cst_16, val_main_cst_18, val_main_cst_19, refHid]
  rw [show val_main_v64 (F := Ideal) x0 x1 x2 x3 = val_main_v22 (F := Ideal) x0 x1 x2 x3 from rfl,
    show val_main_v65 (F := Ideal) x0 x1 x2 x3 = val_main_v23 (F := Ideal) x0 x1 x2 x3 from rfl]
  rw [reference_up, reference_relu]
  exact through_relu _ _

theorem reference_dx (j : S4096x1024.Idx) : val_main_v83 (F := Ideal) x0 x1 x2 x3 x4 x6 j = refDx x0 x1 x2 x3 x4 x6 j := by
  pointwise [val_main_v83, val_main_v82, val_main_v81, val_main_v80, val_main_v74, val_main_cst_20, refDx]
  simp only [reference_hid']
  exact add_comm _ _

theorem reference_cot (j : S4096x1024.Idx) : val_main_v90 (F := Ideal) x0 x1 x2 x3 x4 x6 j = refCot x0 x1 x2 x3 x4 x6 (j 0) (j 1) := by
  pointwise [val_main_v90, val_main_v89, refCot]
  rw [reference_dx]

theorem reference_pull (j : Cert.Reference3Ideal.S4096x1.Idx) : val_main_v101 (F := Ideal) x0 x1 x2 x3 x4 x6 j
    = pull (row x0 (j 0)) (refCot x0 x1 x2 x3 x4 x6 (j 0)) := by
  pointwise [val_main_v101, val_main_v100, val_main_v96, val_main_v93, val_main_v92, val_main_v91, val_main_v55, val_main_v54,
    val_main_v53, val_main_cst_14, val_main_cst_23, val_main_cst_25]
  rw [show val_main_v49 (F := Ideal) x0 = val_main_v5 (F := Ideal) x0 from rfl, show val_main_v52 (F := Ideal) x0 = val_main_v15 (F := Ideal) x0 from rfl,
    show val_main_v51 (F := Ideal) x0 = val_main_v14 (F := Ideal) x0 from rfl]
  simp only [reference_dev, reference_scale, reference_width, reference_cot]
  rfl

theorem reference_via_scale (j : S4096x1024.Idx) : val_main_v95 (F := Ideal) x0 x1 x2 x3 x4 x6 j
    = refCot x0 x1 x2 x3 x4 x6 (j 0) (j 1) * scale (row x0 (j 0)) := by
  pointwise [val_main_v95, val_main_v94]
  rw [show val_main_v52 (F := Ideal) x0 = val_main_v15 (F := Ideal) x0 from rfl]
  rw [reference_scale, reference_cot]
  rfl

theorem reference_via_width (j : S4096x1024.Idx) : val_main_v104 (F := Ideal) x0 x1 x2 x3 x4 x6 j
    = pull (row x0 (j 0)) (refCot x0 x1 x2 x3 x4 x6 (j 0)) * (Ideal.ofBits .f32 0x40000000#32 * dev (row x0 (j 0)) (j 1)) := by
  pointwise [val_main_v104, val_main_v103, val_main_v102, val_main_v43, val_main_v42, val_main_cst_10, val_main_cst_26]
  rw [show val_main_v40 (F := Ideal) x0 = val_main_v5 (F := Ideal) x0 from rfl]
  rw [Fin.sum_univ_one]
  simp only [reference_dev, reference_pull]
  rfl

theorem reference_steps (j : S4096x1024.Idx) : val_main_v114 (F := Ideal) x0 x1 x2 x3 x4 x6 j
    = steps (row x0 (j 0)) (refCot x0 x1 x2 x3 x4 x6 (j 0)) (j 1) := by
  pointwise [val_main_v114, val_main_v113, val_main_v112, val_main_v111, val_main_v110, val_main_v109, val_main_v108,
    val_main_v107, val_main_v106, val_main_v105, val_main_v99, val_main_v98, val_main_v97, val_main_cst_24, val_main_cst_27,
    val_main_cst_28, val_main_cst_29]
  rw [Fin.sum_univ_one]
  simp only [reference_via_scale, reference_via_width]
  rfl

theorem reference_sums (j : S8x1024.Idx) : val_main_v119 (F := Ideal) x0 x1 x2 x3 x4 x6 j
    = if (j 0).val = 0 then ∑ i : Fin 4096, refDx x0 x1 x2 x3 x4 x6 (ix2 i (j 1)) * normed (row x0 i) (j 1)
      else if (j 0).val = 1 then ∑ i : Fin 4096, refDx x0 x1 x2 x3 x4 x6 (ix2 i (j 1)) else 0 := by
  pointwise [val_main_v119, val_main_v118, val_main_v88, val_main_v87, val_main_v86, val_main_v85, val_main_v84,
    val_main_cst_21, val_main_cst_22, val_main_cst_31]
  rw [show val_main_v57 (F := Ideal) x0 = val_main_v17 (F := Ideal) x0 from rfl]
  simp only [reference_dx, reference_normed]
  by_cases e0 : (j 0).val = 0
  · rw [dif_pos (by omega), if_pos e0]
    exact Finset.sum_congr rfl fun x _ => mul_comm _ _
  · rw [dif_neg (by omega), if_neg e0]
    by_cases e1 : (j 0).val = 1
    · rw [dif_pos (by omega), if_pos e1]
    · rw [dif_neg (by omega), if_neg e1]

end Reference

end Cert.Backward
-- ==== Proof.BackwardBlocks.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.BackwardRows
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Backward
open Cert.Kernel3Ideal Cert.Kernel3Ideal.Gen

open Cert.NormGrad

section Stored

variable {sp : Space} (v : View sig .tc sp S8x1024 .f32) (f : v.ty.Contents (Elt Ideal)) (w1 w0 : S1x1024.Idx → EReal)
  (L : List (View.Piece (Elt Ideal) S8x1024 .f32)) (y : S8x1024.Idx)

/-- Row 1 was stored last, row 0 before it: what the buffer holds. -/
theorem stored : v.read (Elt Ideal) (v.writes (Elt Ideal) f (⟨Rect.unit ![1, 0] ![1, 1024] inb_S8x1024_S1x1024_1_0, w1⟩
      :: ⟨Rect.unit ![0, 0] ![1, 1024] inb_S8x1024_S1x1024_0_0, w0⟩ :: L)) y
    = if (y 0).val = 0 then w0 (ix2 0 (y 1)) else if (y 0).val = 1 then w1 (ix2 0 (y 1))
      else v.read (Elt Ideal) (v.writes (Elt Ideal) f L) y := by
  by_cases h0 : (y 0).val = 0
  · rw [if_pos h0]
    rw [View.read_writes_cons_unit_of_not_mem v f _ _ _ y rfl 0 (by left; rw [h0]; decide)]
    exact View.read_writes_cons_unit_of_mem v f _ _ _ y (ix2 0 (y 1)) rfl (Fin.forall_fin_two.mpr ⟨h0, (Nat.zero_add _).symm⟩)
  · rw [if_neg h0]
    by_cases h1 : (y 0).val = 1
    · rw [if_pos h1]
      exact View.read_writes_cons_unit_of_mem v f _ _ _ y (ix2 0 (y 1)) rfl (Fin.forall_fin_two.mpr ⟨h1, (Nat.zero_add _).symm⟩)
    · rw [if_neg h1, View.read_writes_cons_unit_of_not_mem v f _ _ _ y rfl 0 (by right; show 1 + 1 ≤ (y 0).val; omega),
        View.read_writes_cons_unit_of_not_mem v f _ _ _ y rfl 0 (by right; show 0 + 1 ≤ (y 0).val; omega)]

theorem row_read (X : FVec Ideal S8x1024 .f32) (k : ℕ) (inb : ∀ a, (![k, 0] : Fin 2 → ℕ) a + (![1, 1024] : Fin 2 → ℕ) a ≤ S8x1024.size a)
    (h : (y 0).val = k) : View.ld (Val := Elt Ideal) (e' := .f32) X (Rect.unit (s := S8x1024) ![k, 0] ![1, 1024] inb) (ix2 0 (y 1) : S1x1024.Idx) = X y :=
  congrArg X (funext (Fin.forall_fin_two.mpr ⟨Fin.ext (by rw [h]; rfl), Fin.ext (by show 0 + 1 * (y 1).val = (y 1).val; omega)⟩))

theorem filled (z : FVec Ideal S8x1024 .f32) (x : S8x1024.Idx) :
    View.canon (Val := Elt Ideal) (e := .f32) [⟨Rect.unit (s := S8x1024) ![0, 0] ![8, 1024] inb_S8x1024_S8x1024_0_0, z⟩] x = z x :=
  congrFun (View.canon_cons_unit_lit (Val := Elt Ideal) (e := .f32) (S := S8x1024) inb_S8x1024_S8x1024_0_0 z [] (by decide)) x

/-- The buffer just filled, row 0 read. -/
theorem fresh_row0 (z : FVec Ideal S8x1024 .f32) (h : (y 0).val = 0) :
    v.readCov (Val := Elt Ideal) [⟨Rect.unit ![0, 0] ![8, 1024] inb_S8x1024_S8x1024_0_0, z⟩]
      (Rect.unit (s := S8x1024) ![0, 0] ![1, 1024] inb_S8x1024_S1x1024_0_0).toLoadRect (ix2 0 (y 1) : S1x1024.Idx) = z y := by
  rw [View.readCov_eq_canon']
  dsimp only
  refine (filled z _).trans ?_
  exact row_read y z 0 _ h

/-- The buffer filled and its row 0 stored, row 1 read. -/
theorem fresh_row1 (z : FVec Ideal S8x1024 .f32) (h : (y 0).val = 1) :
    v.readCov (Val := Elt Ideal) [⟨Rect.unit ![0, 0] ![1, 1024] inb_S8x1024_S1x1024_0_0, w0⟩, ⟨Rect.unit ![0, 0] ![8, 1024] inb_S8x1024_S8x1024_0_0, z⟩]
      (Rect.unit (s := S8x1024) ![1, 0] ![1, 1024] inb_S8x1024_S1x1024_1_0).toLoadRect (ix2 0 (y 1) : S1x1024.Idx) = z y := by
  rw [View.readCov_eq_canon', ← View.read_writes_junk_eq_canon v]
  dsimp only
  rw [View.read_writes_cons_unit_of_not_mem v _ _ _ _ _ rfl 0 (by right; exact le_refl 1), View.read_writes_junk_eq_canon]
  refine (filled z _).trans ?_
  exact row_read y z 1 _ h

/-- The buffer filled, then its first two rows stored. -/
theorem fresh_stored (v : View sig .tc sp S8x1024 .f32) (z : FVec Ideal S8x1024 .f32) :
    View.canon (Val := Elt Ideal) (e := .f32) [⟨Rect.unit ![1, 0] ![1, 1024] inb_S8x1024_S1x1024_1_0, w1⟩,
      ⟨Rect.unit ![0, 0] ![1, 1024] inb_S8x1024_S1x1024_0_0, w0⟩, ⟨Rect.unit ![0, 0] ![8, 1024] inb_S8x1024_S8x1024_0_0, z⟩] y
    = if (y 0).val = 0 then w0 (ix2 0 (y 1)) else if (y 0).val = 1 then w1 (ix2 0 (y 1)) else z y := by
  rw [← View.read_writes_junk_eq_canon v, stored, View.read_writes_junk_eq_canon,
    filled]

end Stored

variable (m : (ℓ : Loc nD τ sig) → Buf (Elt Ideal) ℓ)

/-! The host's lines before the call, element by element. -/

theorem xhat_at (c : Dev nD) (j : S4096x1024.Idx) :
    V m c main_v17 j = normed (row (m ((c : Thread nD τ).loc main_arg0)) (j 0)) (j 1) := by
  unfold V
  simp only [hostOps0, hostOps0_1, hostOps0_2, List.flatten_cons, List.flatten_nil, List.append_nil, List.cons_append, List.nil_append]
  after_reads_at
  exact congrArg (fun z => (z - mean (row (m ((c : Thread nD τ).loc main_arg0)) (j 0))) * scale (row (m ((c : Thread nD τ).loc main_arg0)) (j 0)))
    (congrArg _ (funext (Fin.forall_fin_two.mpr ⟨rfl, rfl⟩)))

theorem scale_at (c : Dev nD) (j : S4096x1.Idx) :
    V m c main_v13 j = scale (row (m ((c : Thread nD τ).loc main_arg0)) (j 0)) := by
  unfold V
  simp only [hostOps0, hostOps0_1, hostOps0_2, List.flatten_cons, List.flatten_nil, List.append_nil, List.cons_append, List.nil_append]
  after_reads_at
  rfl

theorem relu_at (c : Dev nD) (j : S4096x4096.Idx) :
    V m c main_v24 j = max (up (m ((c : Thread nD τ).loc main_arg0)) (m ((c : Thread nD τ).loc main_arg1)) (m ((c : Thread nD τ).loc main_arg2)) (m ((c : Thread nD τ).loc main_arg3)) j) 0 := by
  unfold V
  simp only [hostOps0, hostOps0_1, hostOps0_2, List.flatten_cons, List.flatten_nil, List.append_nil, List.cons_append, List.nil_append]
  after_reads_at
  rfl

theorem up_at (c : Dev nD) (j : S4x1024x1024.Idx) (i : S1024x4096.Idx) (h0 : (i 0 : ℕ) = j 1) (h1 : (i 1 : ℕ) = (j 0).val * 1024 + j 2) :
    V m c main_v27 j = m ((c : Thread nD τ).loc main_arg3) i := by
  unfold V
  simp only [hostOps0, hostOps0_1, hostOps0_2, List.flatten_cons, List.flatten_nil, List.append_nil, List.cons_append, List.nil_append]
  after_reads_at
  exact congrArg _ (funext (Fin.forall_fin_two.mpr ⟨Fin.ext h0.symm, Fin.ext h1.symm⟩))

theorem down_at (c : Dev nD) (j : S4x1024x1024.Idx) (i : S4096x1024.Idx) (h0 : (i 0 : ℕ) = (j 0).val * 1024 + j 1) (h1 : (i 1 : ℕ) = j 2) :
    V m c main_v29 j = m ((c : Thread nD τ).loc main_arg4) i := by
  unfold V
  simp only [hostOps0, hostOps0_1, hostOps0_2, List.flatten_cons, List.flatten_nil, List.append_nil, List.cons_append, List.nil_append]
  after_reads_at
  exact congrArg _ (funext (Fin.forall_fin_two.mpr ⟨Fin.ext h0.symm, Fin.ext h1.symm⟩))

theorem out_at (c : Dev nD) (j : S1024x1024.Idx) :
    V m c main_v30 j = m ((c : Thread nD τ).loc main_arg5) j := by
  unfold V
  simp only [hostOps0, hostOps0_1, hostOps0_2, List.flatten_cons, List.flatten_nil, List.append_nil, List.cons_append, List.nil_append]
  after_reads_at

theorem idx : ∀ t : Fin cfg0.N, win0_0.index t = ![t.val, 0] ∧ win0_1.index t = ![t.val, 0]
    ∧ win0_2.index t = ![0, 0, 0] ∧ win0_3.index t = ![0, 0, 0] ∧ win0_4.index t = ![t.val, 0] ∧ win0_5.index t = ![t.val, 0]
    ∧ win0_6.index t = ![0, 0] ∧ win0_7.index t = ![0, 0] ∧ win0_8.index t = ![t.val, 0]
    ∧ win0_9.index t = ![t.val, 0] ∧ win0_10.index t = ![0, 0] ∧ win0_11.index t = ![t.val, 0] ∧ win0_12.index t = ![t.val, 0]
    ∧ win0_13.index t = ![t.val, 0] :=
  (by decide +kernel : ∀ t : Fin grid0.N, _)

section Blocks

variable (c : Dev nD) (t : Fin cfg0.N)

theorem relu_whole (y : S256x4096.Idx) (j : S4096x4096.Idx) (h0 : (j 0 : ℕ) = t.val * 256 + y 0) (h1 : (j 1 : ℕ) = y 1) :
    iblk m c 0 t y = V m c main_v24 j := by blk_point [iblk, idx t]

theorem cot_whole (y : S256x1024.Idx) (j : S4096x1024.Idx) (h0 : (j 0 : ℕ) = t.val * 256 + y 0) (h1 : (j 1 : ℕ) = y 1) :
    iblk m c 1 t y = m ((c : Thread nD τ).loc main_arg6) j := by blk_point [iblk, V_main_arg6, idx t]

theorem up_whole (j : S4x1024x1024.Idx) : iblk m c 2 t j = V m c main_v27 j := by blk_point [iblk, idx t]

theorem down_whole (j : S4x1024x1024.Idx) : iblk m c 3 t j = V m c main_v29 j := by blk_point [iblk, idx t]

theorem xhat_whole (y : S256x1024.Idx) (j : S4096x1024.Idx) (h0 : (j 0 : ℕ) = t.val * 256 + y 0) (h1 : (j 1 : ℕ) = y 1) :
    iblk m c 4 t y = V m c main_v17 j := by blk_point [iblk, idx t]

theorem scale_whole (y : S256x1.Idx) (j : S4096x1.Idx) (h0 : (j 0 : ℕ) = t.val * 256 + y 0) :
    iblk m c 5 t y = V m c main_v13 j := by
  have h1 : (j 1 : ℕ) = y 1 := by
    have a := (j 1).isLt
    have b := (y 1).isLt
    exact (Nat.lt_one_iff.mp a).trans (Nat.lt_one_iff.mp b).symm
  blk_point [iblk, idx t]

theorem gain_whole (j : S1x1024.Idx) : iblk m c 6 t j = m ((c : Thread nD τ).loc main_arg1) j := by
  blk_point [iblk, V_main_arg1, idx t]

theorem out_whole (j : S1024x1024.Idx) : iblk m c 7 t j = V m c main_v30 j := by blk_point [iblk, idx t]

theorem chip_axis (y : S1x1024x1024.Idx) : (y 0).val = 0 := Nat.lt_one_iff.mp (y 0).isLt

/-- The block of the first weight that belongs to chip `k`. -/
theorem up_block (k : ℕ) (hk : k < 4) (inb : ∀ a, (![k, 0, 0] : Fin 3 → ℕ) a + (![1, 1024, 1024] : Fin 3 → ℕ) a ≤ S4x1024x1024.size a)
    (y : S1x1024x1024.Idx) (i : S1024x4096.Idx) (h0 : (i 0 : ℕ) = y 1) (h1 : (i 1 : ℕ) = k * 1024 + y 2) :
    View.ld (iblk m c 2 t) (Rect.unit (s := S4x1024x1024) ![k, 0, 0] ![1, 1024, 1024] inb) y = m ((c : Thread nD τ).loc main_arg3) i := by
  refine (up_whole m c t _).trans (up_at m c _ i ?_ ?_)
  · show (i 0).val = 0 + 1 * (y 1).val
    omega
  · have h := chip_axis y
    show (i 1).val = (k + 1 * (y 0).val) * 1024 + (0 + 1 * (y 2).val)
    omega

/-- The block of the second weight that belongs to chip `k`. -/
theorem down_block (k : ℕ) (hk : k < 4) (inb : ∀ a, (![k, 0, 0] : Fin 3 → ℕ) a + (![1, 1024, 1024] : Fin 3 → ℕ) a ≤ S4x1024x1024.size a)
    (y : S1x1024x1024.Idx) (i : S4096x1024.Idx) (h0 : (i 0 : ℕ) = k * 1024 + y 1) (h1 : (i 1 : ℕ) = y 2) :
    View.ld (iblk m c 3 t) (Rect.unit (s := S4x1024x1024) ![k, 0, 0] ![1, 1024, 1024] inb) y = m ((c : Thread nD τ).loc main_arg4) i := by
  refine (down_whole m c t _).trans (down_at m c _ i ?_ ?_)
  · have h := chip_axis y
    show (i 0).val = (k + 1 * (y 0).val) * 1024 + (0 + 1 * (y 1).val)
    omega
  · show (i 1).val = 0 + 1 * (y 2).val
    omega

/-- The columns of the saved activations that belong to chip `k`. -/
theorem relu_block (k o : ℕ) (ho : o = k * 1024) (inb : ∀ a, (![0, o] : Fin 2 → ℕ) a + (![256, 1024] : Fin 2 → ℕ) a ≤ S256x4096.size a)
    (y : S256x1024.Idx) (j : S4096x4096.Idx) (h0 : (j 0 : ℕ) = t.val * 256 + y 0) (h1 : (j 1 : ℕ) = k * 1024 + y 1) :
    View.ld (iblk m c 0 t) (Rect.unit (s := S256x4096) ![0, o] ![256, 1024] inb) y = max (up (m ((c : Thread nD τ).loc main_arg0)) (m ((c : Thread nD τ).loc main_arg1)) (m ((c : Thread nD τ).loc main_arg2)) (m ((c : Thread nD τ).loc main_arg3)) j) 0 := by
  refine (relu_whole m c t _ j ?_ ?_).trans (relu_at m c j)
  · show (j 0).val = t.val * 256 + (0 + 1 * (y 0).val)
    omega
  · show (j 1).val = o + 1 * (y 1).val
    omega

/-- The chip's columns of the gradient that reaches the first product. -/
theorem hid_at (k o : ℕ) (hk : k < 4) (ho : o = k * 1024)
    (inb0 : ∀ a, (![0, o] : Fin 2 → ℕ) a + (![256, 1024] : Fin 2 → ℕ) a ≤ S256x4096.size a)
    (inb : ∀ a, (![k, 0, 0] : Fin 3 → ℕ) a + (![1, 1024, 1024] : Fin 3 → ℕ) a ≤ S4x1024x1024.size a)
    (y : S256x1024.Idx) (j : S4096x4096.Idx) (h0 : (j 0 : ℕ) = t.val * 256 + y 0) (h1 : (j 1 : ℕ) = k * 1024 + y 1) :
    hid (iblk m c 1 t) (View.ld (iblk m c 0 t) (Rect.unit (s := S256x4096) ![0, o] ![256, 1024] inb0))
        (View.ld (iblk m c 3 t) (Rect.unit (s := S4x1024x1024) ![k, 0, 0] ![1, 1024, 1024] inb)) y
      = refHid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) j := by
  refine congrArg₂ (· * ·) (Finset.sum_congr rfl fun x _ => congrArg₂ (· * ·) ?_ ?_) (congrArg (_ * ·) ?_)
  · exact cot_whole m c t (ix2 (y 0) x) (ix2 (j 0) x) h0 rfl
  · exact down_block m c t k hk inb (ix3 0 (y 1) x) (ix2 (j 1) x) h1 rfl
  · exact relu_block m c t k o ho inb0 y j h0 h1

/-- The chip's share of the gradient handed through the first product. -/
theorem share_at (k o : ℕ) (hk : k < 4) (ho : o = k * 1024)
    (inb0 : ∀ a, (![0, o] : Fin 2 → ℕ) a + (![256, 1024] : Fin 2 → ℕ) a ≤ S256x4096.size a)
    (inb : ∀ a, (![k, 0, 0] : Fin 3 → ℕ) a + (![1, 1024, 1024] : Fin 3 → ℕ) a ≤ S4x1024x1024.size a)
    (y : S256x1024.Idx) (i : Fin 4096) (h0 : (i : ℕ) = t.val * 256 + y 0) :
    share (iblk m c 1 t) (View.ld (iblk m c 0 t) (Rect.unit (s := S256x4096) ![0, o] ![256, 1024] inb0))
        (View.ld (iblk m c 3 t) (Rect.unit (s := S4x1024x1024) ![k, 0, 0] ![1, 1024, 1024] inb))
        (View.ld (iblk m c 2 t) (Rect.unit (s := S4x1024x1024) ![k, 0, 0] ![1, 1024, 1024] inb)) y
      = ∑ x : Fin 1024, refHid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
          (ix2 i ⟨k * 1024 + x, by omega⟩) * m ((c : Thread nD τ).loc main_arg3) (ix2 (y 1) ⟨k * 1024 + x, by omega⟩) := by
  refine Finset.sum_congr rfl fun x _ => ?_
  exact congrArg₂ (· * ·) (hid_at m c t k o hk ho inb0 inb (ix2 (y 0) x) (ix2 i ⟨k * 1024 + x, by omega⟩) h0 rfl)
    (up_block m c t k hk inb (ix3 0 (y 1) x) (ix2 (y 1) ⟨k * 1024 + x, by omega⟩) rfl rfl)

/-- The residual's gradient plus the first three chips' shares. -/
abbrev acc : FVec Ideal S256x1024 .f32 :=
  k0_pay10 (k0_pay5 (iblk m c 1 t))
    (k0_pay7 (iblk m c 1 t)
      (View.ld (iblk m c 0 t) (Rect.unit ![0, 0] ![256, 1024] inb_S256x4096_S256x1024_0_0))
      (View.ld (iblk m c 3 t) (Rect.unit ![0, 0, 0] ![1, 1024, 1024] inb_S4x1024x1024_S1x1024x1024_0_0_0))
      (View.ld (iblk m c 2 t) (Rect.unit ![0, 0, 0] ![1, 1024, 1024] inb_S4x1024x1024_S1x1024x1024_0_0_0)))
    (k0_pay8 (iblk m c 1 t)
      (View.ld (iblk m c 0 t) (Rect.unit ![0, 1024] ![256, 1024] inb_S256x4096_S256x1024_0_1024))
      (View.ld (iblk m c 3 t) (Rect.unit ![1, 0, 0] ![1, 1024, 1024] inb_S4x1024x1024_S1x1024x1024_1_0_0)))
    (View.ld (iblk m c 2 t) (Rect.unit ![1, 0, 0] ![1, 1024, 1024] inb_S4x1024x1024_S1x1024x1024_1_0_0))
    (View.ld (iblk m c 0 t) (Rect.unit ![0, 2048] ![256, 1024] inb_S256x4096_S256x1024_0_2048))
    (View.ld (iblk m c 3 t) (Rect.unit ![2, 0, 0] ![1, 1024, 1024] inb_S4x1024x1024_S1x1024x1024_2_0_0))
    (View.ld (iblk m c 2 t) (Rect.unit ![2, 0, 0] ![1, 1024, 1024] inb_S4x1024x1024_S1x1024x1024_2_0_0))

/-- The last chip's columns of the gradient that reaches the first product. -/
abbrev last : FVec Ideal S256x1024 .bf16 :=
  k0_pay11 (k0_pay5 (iblk m c 1 t))
    (View.ld (iblk m c 0 t) (Rect.unit ![0, 3072] ![256, 1024] inb_S256x4096_S256x1024_0_3072))
    (View.ld (iblk m c 3 t) (Rect.unit ![3, 0, 0] ![1, 1024, 1024] inb_S4x1024x1024_S1x1024x1024_3_0_0))

/-- The last chip's block of the first weight. -/
abbrev lastUp : FVec Ideal S1x1024x1024 .bf16 :=
  View.ld (iblk m c 2 t) (Rect.unit ![3, 0, 0] ![1, 1024, 1024] inb_S4x1024x1024_S1x1024x1024_3_0_0)

theorem five_terms (a b d e f : EReal) : a + b + d + e + f = a + (b + d + e + f) := by simp only [add_assoc]

/-- The gradient that reaches the layer norm's output, on a block. -/
theorem dx_at (y : S256x1024.Idx) (j : S4096x1024.Idx) (h0 : (j 0 : ℕ) = t.val * 256 + y 0) (h1 : (j 1 : ℕ) = y 1) :
    k0_pay12 (acc m c t) (last m c t) (lastUp m c t) y = refDx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) j := by
  have hj : j 1 = y 1 := Fin.ext h1
  refine (four_shares ..).trans ?_
  rw [show acc m c t y = _ from three_shares (iblk m c 1 t) y _ _ _ _ _ _ _, first_share,
    share_at m c t 0 0 (by decide) rfl _ _ y (j 0) h0, share_at m c t 1 1024 (by decide) rfl _ _ y (j 0) h0,
    share_at m c t 2 2048 (by decide) rfl _ _ y (j 0) h0, share_at m c t 3 3072 (by decide) rfl _ _ y (j 0) h0,
    refDx, cot_whole m c t y j h0 h1, five_terms]
  refine congrArg (fun z : EReal => Ideal.ofBits .f32 0x3F9837F0#32 * m ((c : Thread nD τ).loc main_arg6) j + z) ?_
  refine (Fin.sum_univ_four (fun k : Fin 4 => ∑ x : Fin 1024, refHid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
          (ix2 (j 0) ⟨k * 1024 + x, by omega⟩) * m ((c : Thread nD τ).loc main_arg3) (ix2 (y 1) ⟨k * 1024 + x, by omega⟩))).symm.trans ?_
  refine Fin.sum_mul_add_congr fun s k hl => ?_
  exact congrArg₂ (· * ·) (congrArg _ rfl) (congrArg _ (congrArg (ix2 · _) hj.symm))

theorem cot_at (y : Fin 256) (i : Fin 4096) (h : (i : ℕ) = t.val * 256 + y) :
    cotRow (lastUp m c t) (acc m c t) (last m c t) (iblk m c 6 t) y = refCot (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) i :=
  funext fun x => congrArg₂ (· * ·) (dx_at m c t (ix2 y x) (ix2 i x) h rfl) (gain_whole m c t (ix2 0 x))

theorem normed_at (y : S256x1024.Idx) (j : S4096x1024.Idx) (h0 : (j 0 : ℕ) = t.val * 256 + y 0) (h1 : (j 1 : ℕ) = y 1) :
    iblk m c 4 t y = normed (row (m ((c : Thread nD τ).loc main_arg0)) (j 0)) (j 1) := (xhat_whole m c t y j h0 h1).trans (xhat_at m c j)

/-- The block's gradient is the closed form of the reference's rows. -/
theorem back_at (y : S256x1024.Idx) (j : S4096x1024.Idx) (h0 : (j 0 : ℕ) = t.val * 256 + y 0) (h1 : (j 1 : ℕ) = y 1) :
    back' (lastUp m c t) y (acc m c t) (last m c t) (iblk m c 4 t) (iblk m c 5 t) (iblk m c 6 t)
      = back (row (m ((c : Thread nD τ).loc main_arg0)) (j 0)) (refCot (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (j 0)) (j 1) := by
  have hj : y 1 = j 1 := Fin.ext h1.symm
  have hn : ∀ x, iblk m c 4 t (ix2 (y 0) x) = normed (row (m ((c : Thread nD τ).loc main_arg0)) (j 0)) x := fun x => normed_at m c t (ix2 (y 0) x) (ix2 (j 0) x) h0 rfl
  rw [back', cot_at m c t (y 0) (j 0) h0, normed_at m c t y j h0 h1]
  refine congrArg₂ (· * ·) ?_ (congrArg₂ (· - ·) (congrArg (· - _) (congrArg _ hj)) (congrArg (_ * ·) (congrArg mean ?_)))
  · exact (scale_whole m c t (ix2 (y 0) 0) (ix2 (j 0) 0) h0).trans (scale_at m c _)
  · exact funext fun x => congrArg (_ * ·) (hn x)

end Blocks

section Finite
open Cert.Reference3Ideal.Read

variable {x0 : FVec Ideal S4096x1024 .f32} {x1 x2 : FVec Ideal S1x1024 .f32} {x3 : FVec Ideal S1024x4096 .f32}
  {x4 : FVec Ideal S4096x1024 .f32} {x6 : FVec Ideal S4096x1024 .f32} (h0 : ∀ j, IsReal (x0 j)) (h1 : ∀ j, IsReal (x1 j))
  (h2 : ∀ j, IsReal (x2 j)) (h3 : ∀ j, IsReal (x3 j)) (h4 : ∀ j, IsReal (x4 j)) (h6 : ∀ j, IsReal (x6 j))

include h0 h1 h2 h3 in
theorem up_real (j : S4096x4096.Idx) : IsReal (up x0 x1 x2 x3 j) :=
  IsReal.sum _ _ fun k => (((normed_isReal (fun x => h0 _) k).mul (h1 _)).add (h2 _)).mul (h3 _)

include h0 h1 h2 h3 h4 h6 in
theorem hid_real (j : S4096x4096.Idx) : IsReal (refHid x0 x1 x2 x3 x4 x6 j) :=
  (IsReal.sum _ _ fun k => (h6 _).mul (h4 _)).mul (IsReal.mul ⟨_, word_two⟩ (isReal_max (up_real h0 h1 h2 h3 j) IsReal.zero))

include h0 h1 h2 h3 h4 h6 in
theorem dx_real (j : S4096x1024.Idx) : IsReal (refDx x0 x1 x2 x3 x4 x6 j) :=
  IsReal.add (IsReal.mul word_alpha (h6 _)) (IsReal.sum _ _ fun k => (hid_real h0 h1 h2 h3 h4 h6 _).mul (h3 _))

include h0 h1 h2 h3 h4 h6 in
/-- The gradient of the reference is the closed form, for real arguments. -/
theorem reference_grad (j : S4096x1024.Idx) : val_main_v114 (F := Ideal) x0 x1 x2 x3 x4 x6 j
    = back (row x0 (j 0)) (refCot x0 x1 x2 x3 x4 x6 (j 0)) (j 1) := by
  rw [reference_steps]
  exact steps_eq_back (fun x => h0 _) (fun x => (dx_real h0 h1 h2 h3 h4 h6 _).mul (h1 _)) _

end Finite

section Product
open Cert.Reference3Ideal.Read

variable (x0 : FVec Ideal S4096x1024 .f32) (x1 x2 : FVec Ideal S1x1024 .f32) (x3 : FVec Ideal S1024x4096 .f32)
  (x4 : FVec Ideal S4096x1024 .f32) (x5 : FVec Ideal S1024x1024 .f32) (x6 : FVec Ideal S4096x1024 .f32)

theorem reference_half0 (j : S4096x512.Idx) (o : Fin 1024) (ho : (o : ℕ) = j 1) : val_main_v122 (F := Ideal) x0 x1 x2 x3 x4 x5 x6 j
    = ∑ k : Fin 1024, val_main_v114 (F := Ideal) x0 x1 x2 x3 x4 x6 (ix2 (j 0) k) * x5 (ix2 o k) := by
  pointwise [val_main_v122, val_main_v117]
  refine Finset.sum_congr rfl fun k _ => congrArg (_ * ·) (congrArg x5 ?_)
  exact funext (Fin.forall_fin_two.mpr ⟨Fin.ext ho.symm, rfl⟩)

theorem reference_half1 (j : S4096x512.Idx) (o : Fin 1024) (ho : (o : ℕ) = 512 + j 1) : val_main_v123 (F := Ideal) x0 x1 x2 x3 x4 x5 x6 j
    = ∑ k : Fin 1024, val_main_v114 (F := Ideal) x0 x1 x2 x3 x4 x6 (ix2 (j 0) k) * x5 (ix2 o k) := by
  pointwise [val_main_v123, val_main_v117]
  refine Finset.sum_congr rfl fun k _ => congrArg (_ * ·) (congrArg x5 ?_)
  exact funext (Fin.forall_fin_two.mpr ⟨Fin.ext ho.symm, rfl⟩)

end Product

/-- Every argument array but the output weight holds real numbers. -/
structure Reals (c : Dev nD) : Prop where
  a0 : ∀ j, IsReal (m ((c : Thread nD τ).loc main_arg0) j)
  a1 : ∀ j, IsReal (m ((c : Thread nD τ).loc main_arg1) j)
  a2 : ∀ j, IsReal (m ((c : Thread nD τ).loc main_arg2) j)
  a3 : ∀ j, IsReal (m ((c : Thread nD τ).loc main_arg3) j)
  a4 : ∀ j, IsReal (m ((c : Thread nD τ).loc main_arg4) j)
  a6 : ∀ j, IsReal (m ((c : Thread nD τ).loc main_arg6) j)

instance preFacts : Cert.Pre_finite3.Facts := ⟨by decide, by decide, by decide⟩

theorem reals (hm : Cert.Pre_Kernel3Ideal_finite3 m) (c : Dev nD) : Reals m c := by
  obtain ⟨h0, h1, h2, h3, h4, h6⟩ := hm c
  exact ⟨fun j => IsReal.of_abs_lt (congrFun h0 j), fun j => IsReal.of_abs_lt (congrFun h1 j), fun j => IsReal.of_abs_lt (congrFun h2 j),
    fun j => IsReal.of_abs_lt (congrFun h3 j), fun j => IsReal.of_abs_lt (congrFun h4 j), fun j => IsReal.of_abs_lt (congrFun h6 j)⟩

section Values

variable {m} {c : Dev nD} (hr : Reals m c) (t : Fin cfg0.N)

include hr in
theorem grad_at (y : S256x1024.Idx) (j : S4096x1024.Idx) (h0 : (j 0 : ℕ) = t.val * 256 + y 0) (h1 : (j 1 : ℕ) = y 1) :
    back' (lastUp m c t) y (acc m c t) (last m c t) (iblk m c 4 t) (iblk m c 5 t) (iblk m c 6 t)
      = Cert.Reference3Ideal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) j := by
  rw [reference_grad hr.a0 hr.a1 hr.a2 hr.a3 hr.a4 hr.a6]
  exact back_at m c t y j h0 h1

include hr in
theorem final_grad : (dats m 0 c).arrAt 9 (cfgs 0).N
    = Cert.Reference3Ideal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 9 _ (by decide +kernel) fun t hf y => ?_
  blk_simp
  rw [after0_9]
  by_cases h : t.val % 16 = 0
  · rw [outsAt0_A m c t h]
    frame_out
    refine (kernel_back ..).trans (grad_at hr t y _ ?_ ?_) <;> blk_simp [idx t] <;> omega
  · rw [outsAt0_B m c t h]
    frame_out
    refine (kernel_back ..).trans (grad_at hr t y _ ?_ ?_) <;> blk_simp [idx t] <;> omega

include hr in
theorem final_grad_bf16 : (dats m 0 c).arrAt 11 (cfgs 0).N
    = Cert.Reference3Ideal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 11 _ (by decide +kernel) fun t hf y => ?_
  blk_simp
  rw [after0_11]
  by_cases h : t.val % 16 = 0
  · rw [outsAt0_A m c t h]
    frame_out
    refine (kernel_back ..).trans (grad_at hr t y _ ?_ ?_) <;> blk_simp [idx t] <;> omega
  · rw [outsAt0_B m c t h]
    frame_out
    refine (kernel_back ..).trans (grad_at hr t y _ ?_ ?_) <;> blk_simp [idx t] <;> omega

include hr in
/-- A block of rows of the gradient times rows of the output weight. -/
theorem half_at (o : ℕ) (ho : o ≤ 512) (inb : ∀ a, (![o, 0] : Fin 2 → ℕ) a + (![512, 1024] : Fin 2 → ℕ) a ≤ S1024x1024.size a)
    (y : S256x512.Idx) (i : Fin 4096) (q : Fin 1024) (h0 : (i : ℕ) = t.val * 256 + y 0) (h1 : (q : ℕ) = o + y 1) :
    ∑ k : Fin 1024, back' (lastUp m c t) (ix2 (y 0) k) (acc m c t) (last m c t) (iblk m c 4 t) (iblk m c 5 t) (iblk m c 6 t)
        * View.ld (iblk m c 7 t) (Rect.unit (s := S1024x1024) ![o, 0] ![512, 1024] inb) (ix2 (y 1) k)
      = ∑ k : Fin 1024, Cert.Reference3Ideal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix2 i k)
          * m ((c : Thread nD τ).loc main_arg5) (ix2 q k) := by
  refine Finset.sum_congr rfl fun k _ => congrArg₂ (· * ·) (grad_at hr t (ix2 (y 0) k) (ix2 i k) h0 rfl) ?_
  refine (out_whole m c t _).trans ((out_at m c _).trans (congrArg _ (funext (Fin.forall_fin_two.mpr ⟨Fin.ext ?_, Fin.ext ?_⟩))))
  · show o + 1 * (y 1).val = q.val
    omega
  · show 0 + 1 * k.val = k.val
    omega

theorem half_axis (y : S256x512.Idx) : (y 1).val < 512 := (y 1).isLt

include hr in
theorem final_half0 : (dats m 0 c).arrAt 12 (cfgs 0).N
    = Cert.Reference3Ideal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  rw [after0_12]
  by_cases h : t.val % 16 = 0
  · rw [outsAt0_A m c t h]
    frame_out
    refine (kernel_half0 ..).trans ((half_at hr t 0 (by decide) _ y _ ⟨0 + (y 1).val, by have := half_axis y; omega⟩ ?_ rfl).trans (reference_half0 _ _ _ _ _ _ _ _ _ ?_).symm)
    all_goals blk_simp [idx t]
    all_goals omega
  · rw [outsAt0_B m c t h]
    frame_out
    refine (kernel_half0 ..).trans ((half_at hr t 0 (by decide) _ y _ ⟨0 + (y 1).val, by have := half_axis y; omega⟩ ?_ rfl).trans (reference_half0 _ _ _ _ _ _ _ _ _ ?_).symm)
    all_goals blk_simp [idx t]
    all_goals omega

include hr in
theorem final_half1 : (dats m 0 c).arrAt 13 (cfgs 0).N
    = Cert.Reference3Ideal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  blk_simp
  rw [after0_13]
  by_cases h : t.val % 16 = 0
  · rw [outsAt0_A m c t h]
    frame_out
    refine (kernel_half1 ..).trans ((half_at hr t 512 (by decide) _ y _ ⟨512 + (y 1).val, by have := half_axis y; omega⟩ ?_ rfl).trans (reference_half1 _ _ _ _ _ _ _ _ _ ?_).symm)
    all_goals blk_simp [idx t]
    all_goals omega
  · rw [outsAt0_B m c t h]
    frame_out
    refine (kernel_half1 ..).trans ((half_at hr t 512 (by decide) _ y _ ⟨512 + (y 1).val, by have := half_axis y; omega⟩ ?_ rfl).trans (reference_half1 _ _ _ _ _ _ _ _ _ ?_).symm)
    all_goals blk_simp [idx t]
    all_goals omega

theorem hid_block (y : S256x4096.Idx) (j : S4096x4096.Idx) (e0 : (j 0 : ℕ) = t.val * 256 + y 0) (e1 : (j 1 : ℕ) = y 1) :
    (outsAt0 m c t.val t.isLt).1 y = Cert.Reference3Ideal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) j := by
  by_cases e : t.val % 16 = 0
  · rw [outsAt0_A m c t e]
    frame_out
    canon_tiles x h
    case piece0 => exact (hid3 ..).trans ((hid_at m c t 3 3072 (by decide) (by decide) _ _ x j (by omega) (by omega)).trans (reference_hid _ _ _ _ _ _ j).symm)
    case piece1 => exact (hid2 ..).trans ((hid_at m c t 2 2048 (by decide) (by decide) _ _ x j (by omega) (by omega)).trans (reference_hid _ _ _ _ _ _ j).symm)
    case piece2 => exact (hid1 ..).trans ((hid_at m c t 1 1024 (by decide) (by decide) _ _ x j (by omega) (by omega)).trans (reference_hid _ _ _ _ _ _ j).symm)
    case piece3 => exact (hid0 ..).trans ((hid_at m c t 0 0 (by decide) (by decide) _ _ x j (by omega) (by omega)).trans (reference_hid _ _ _ _ _ _ j).symm)
  · rw [outsAt0_B m c t e]
    frame_out
    canon_tiles x h
    case piece0 => exact (hid3 ..).trans ((hid_at m c t 3 3072 (by decide) (by decide) _ _ x j (by omega) (by omega)).trans (reference_hid _ _ _ _ _ _ j).symm)
    case piece1 => exact (hid2 ..).trans ((hid_at m c t 2 2048 (by decide) (by decide) _ _ x j (by omega) (by omega)).trans (reference_hid _ _ _ _ _ _ j).symm)
    case piece2 => exact (hid1 ..).trans ((hid_at m c t 1 1024 (by decide) (by decide) _ _ x j (by omega) (by omega)).trans (reference_hid _ _ _ _ _ _ j).symm)
    case piece3 => exact (hid0 ..).trans ((hid_at m c t 0 0 (by decide) (by decide) _ _ x j (by omega) (by omega)).trans (reference_hid _ _ _ _ _ _ j).symm)

theorem final_hid : (dats m 0 c).arrAt 8 (cfgs 0).N = Cert.Reference3Ideal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 8 _ (by decide +kernel) fun t hf y => ?_
  blk_simp
  rw [after0_8]
  refine hid_block t y _ ?_ ?_ <;> blk_simp [idx t] <;> omega

/-- What one grid point adds to the two rows of sums. -/
def part (m : (ℓ : Loc nD τ sig) → Buf (Elt Ideal) ℓ) (c : Dev nD) (t : Fin cfg0.N) (y : S8x1024.Idx) : EReal :=
  if (y 0).val = 0 then ∑ i : Fin 256, k0_pay12 (F := Ideal) (acc m c t) (last m c t) (lastUp m c t) (ix2 i (y 1)) * iblk m c 4 t (ix2 i (y 1))
  else if (y 0).val = 1 then ∑ i : Fin 256, k0_pay12 (F := Ideal) (acc m c t) (last m c t) (lastUp m c t) (ix2 i (y 1))
  else 0

theorem zero_sums (y : S8x1024.Idx) : k0_pay2 (F := Ideal) y = 0 := by pointwise [k0_pay2]

theorem sums_first (h : t.val % 16 = 0) (y : S8x1024.Idx) : (outsAt0 m c t.val t.isLt).2.2.1 y = 0 + part m c t y := by
  rw [outsAt0_A m c t h]
  frame_out
  rw [fresh_stored _ _ _ (ms0_10 t).view, part]
  by_cases e0 : (y 0).val = 0
  · rw [if_pos e0, if_pos e0]
    refine (kernel_sum_normed ..).trans (congrArg (· + _) ?_)
    exact (fresh_row0 _ y _ e0).trans (zero_sums y)
  · rw [if_neg e0, if_neg e0]
    by_cases e1 : (y 0).val = 1
    · rw [if_pos e1, if_pos e1]
      refine (kernel_sum ..).trans (congrArg (· + _) ?_)
      exact (fresh_row1 _ _ y _ e1).trans (zero_sums y)
    · rw [if_neg e1, if_neg e1, add_zero, zero_sums]

theorem sums_next (h : ¬ t.val % 16 = 0) (hp : t.val - 1 < cfg0.N) (y : S8x1024.Idx) :
    (outsAt0 m c t.val t.isLt).2.2.1 y = (outsAt0 m c (t.val - 1) hp).2.2.1 y + part m c t y := by
  rw [outsAt0_B m c t h]
  frame_out
  rw [stored]
  simp only [View.writes_nil, Idealize.ShloMosaic.Memref.IsWhole.read_unread]
  rw [part]
  by_cases e0 : (y 0).val = 0
  · rw [if_pos e0, if_pos e0]
    exact (kernel_sum_normed ..).trans (congrArg (· + _) (row_read y _ 0 _ e0))
  · rw [if_neg e0, if_neg e0]
    by_cases e1 : (y 0).val = 1
    · rw [if_pos e1, if_pos e1]
      exact (kernel_sum ..).trans (congrArg (· + _) (row_read y _ 1 _ e1))
    · rw [if_neg e1, if_neg e1, add_zero]

theorem sums_total (ht : t.val % 16 = 15) (y : S8x1024.Idx) : (outsAt0 m c t.val t.isLt).2.2.1 y
    = Cert.Reference3Ideal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) y := by
  have hN : t.val < 16 := t.isLt
  rw [Pipeline.eq_sum_fin_of_reset_step_apply_of_flush (fun n h => (outsAt0 m c n h).2.2.1) 16 (fun _ => 0) (part m c)
    (fun t h j => sums_first t h j) (fun t h j => sums_next t h _ j) t ht _, zero_add, reference_sums]
  by_cases e0 : (y 0).val = 0
  · rw [if_pos e0]
    refine (Finset.sum_congr rfl fun s _ => if_pos e0).trans ?_
    refine Fin.sum_mul_add_congr fun s k hl => ?_
    refine congrArg₂ (· * ·) (dx_at m c _ _ _ ?_ rfl) (normed_at m c _ _ (ix2 _ _) ?_ rfl)
    all_goals
      show s.val * 256 + k.val = (16 * (t.val / 16) + s.val) * 256 + k.val
      omega
  · rw [if_neg e0]
    by_cases e1 : (y 0).val = 1
    · rw [if_pos e1]
      refine (Finset.sum_congr rfl fun s _ => (if_neg e0).trans (if_pos e1)).trans ?_
      refine Fin.sum_mul_add_congr fun s k hl => ?_
      refine dx_at m c _ _ _ ?_ rfl
      show s.val * 256 + k.val = (16 * (t.val / 16) + s.val) * 256 + k.val
      omega
    · rw [if_neg e1]
      exact Finset.sum_eq_zero fun s _ => (if_neg e0).trans (if_neg e1)

theorem final_sums : (dats m 0 c).arrAt 10 (cfgs 0).N = Cert.Reference3Ideal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t hf y => ?_
  blk_simp
  rw [after0_10]
  refine (sums_total t ((flush0_10 t).mp hf) _).trans (congrArg _ ?_)
  blk_ext [idx t]

end Values

end Cert.Backward
-- ==== Proof.Backward.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.BackwardBlocks
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Backward
open Cert.Kernel3Ideal Cert.Kernel3Ideal.Gen

open Cert.NormGrad

set_option maxHeartbeats 2000000 in
/-- The six results of the backward through the multilayer perceptron and the first layer norm are those of the reference, for
real arguments. -/
theorem algebraic : Cert.algebraic_Kernel3Ideal_Reference3Ideal_pre_finite3 := by
  pair_intro
  · run_from (Cert.Kernel3Ideal.Gen.unchanged m g) & (Cert.Kernel3Ideal.Gen.run_main m g)
  · refine Idealize.ShloMosaic.θ_run_mono (Cert.Reference3Ideal.Value.run m' g') fun r hrun c => ?_
    obtain ⟨e0, e1, e2, e3, e4, e5, hargs⟩ := hrun c
    have hr := reals m hpre c
    obtain ⟨h0, h1, h2, h3, h4, h5, h6⟩ := hagree c
    refine ⟨e0.trans ?_, e1.trans ?_, e2.trans ?_, e3.trans ?_, e4.trans ?_, e5.trans ?_, hargs⟩
    · rw [Cert.Reference3Ideal.Read.val_main_v120_eq, h0, h1, h2, h3, h4, h6]
      exact final_hid.symm
    · rw [Cert.Reference3Ideal.Read.val_main_v114_eq, h0, h1, h2, h3, h4, h6]
      exact (final_grad hr).symm
    · rw [Cert.Reference3Ideal.Read.val_main_v119_eq, h0, h1, h2, h3, h4, h6]
      exact final_sums.symm
    · rw [Cert.Reference3Ideal.Read.val_main_v121_eq, h0, h1, h2, h3, h4, h6]
      exact (final_grad_bf16 hr).symm
    · rw [Cert.Reference3Ideal.Read.val_main_v122_eq, h0, h1, h2, h3, h4, h5, h6]
      exact (final_half0 hr).symm
    · rw [Cert.Reference3Ideal.Read.val_main_v123_eq, h0, h1, h2, h3, h4, h5, h6]
      exact (final_half1 hr).symm

end Cert.Backward
-- ==== Proof.GroupNorm.lean ====
module

public import proofs.«01_k».proof.Proof.NormGrad
public import Idealize.ShloMosaic.Lib.Pipeline.ValueKit

@[expose] public section

set_option maxRecDepth 16384

noncomputable section

open Idealize.ShloMosaic

namespace Cert.GroupNorm
open Cert.NormGrad (IsReal coe_sum div_real rsqrt_pos word_two word_neg_half)

/-! # The gradient of a root-mean-square norm over groups of 64 numbers

A kernel divides by 64 by multiplying with the reciprocal and hands the gradient down in closed form, with one mean over
the group. The derivative taken step by step goes through the product, the reciprocal root and the mean of the squares.
Both agree on groups of real numbers. The second part says what a product with a matrix of zeros and ones adds up. -/

theorem word_64 : Ideal.ofBits .f32 0x42800000#32 = ((64 : ℝ) : EReal) := by
  simp [Ideal.ofBits, Ideal.ieee, -EReal.coe_mul]; norm_num
theorem word_inv_64 : Ideal.ofBits .f32 0x3C800000#32 = ((1 / 64 : ℝ) : EReal) := by
  simp [Ideal.ofBits, Ideal.ieee, -EReal.coe_mul]; norm_num
theorem word_eps : ∃ e : ℝ, 0 < e ∧ Ideal.ofBits .f32 0x358637BD#32 = (e : EReal) :=
  ⟨8796093 * 2 ^ (-43 : Int), by positivity, by simp [Ideal.ofBits, Ideal.ieee, -EReal.coe_mul]; try norm_num⟩

/-- A group. -/
abbrev Group := Fin 64 → EReal

/-- The mean of a group. -/
def mean (p : Group) : EReal := Ideal.div (∑ x, p x) (Ideal.ofBits .f32 0x42800000#32)
/-- The mean of the squares, kept off zero. -/
def width (p : Group) : EReal := mean (fun k => p k * p k) + Ideal.ofBits .f32 0x358637BD#32
/-- The reciprocal root. -/
def scale (p : Group) : EReal := Ideal.rsqrt (width p)

/-- The gradient in closed form: `p` the group, `g` the cotangent of the normed group. -/
def back (p g : Group) (k : Fin 64) : EReal :=
  scale p * (g k - p k * scale p * mean (fun x => g x * (p x * scale p)))

/-- The gradient step by step. -/
def steps (p g : Group) (k : Fin 64) : EReal :=
  g k * scale p + Ideal.div ((∑ x, p x * g x) * (Ideal.ofBits .f32 0xBF000000#32 * Ideal.div (scale p) (width p)))
    (Ideal.ofBits .f32 0x42800000#32) * (Ideal.ofBits .f32 0x40000000#32 * p k)

/-- Dividing by 64 is multiplying by its reciprocal. -/
theorem mean_eq (p : Group) : mean p = (∑ x, p x) * Ideal.ofBits .f32 0x3C800000#32 := by
  rw [mean, word_64, word_inv_64, Ideal.div_coe (by norm_num), one_div]

theorem mean_coe (f : Fin 64 → ℝ) : mean (fun k => (f k : EReal)) = (((∑ x, f x) / 64 : ℝ) : EReal) := by
  rw [mean, word_64, coe_sum, div_real _ (by norm_num)]

/-- The kept mean of squares of a real group is a positive number. -/
theorem width_coe (f : Fin 64 → ℝ) : ∃ w : ℝ, 0 < w ∧ width (fun k => (f k : EReal)) = (w : EReal) := by
  obtain ⟨e, he, hw⟩ := word_eps
  refine ⟨(∑ k, f k * f k) / 64 + e, ?_, ?_⟩
  · have : 0 ≤ ∑ k, f k * f k := Finset.sum_nonneg fun k _ => mul_self_nonneg _
    positivity
  · rw [width, hw, EReal.coe_add, ← mean_coe]
    simp only [EReal.coe_mul]

theorem scale_isReal {p : Group} (hp : ∀ k, IsReal (p k)) : IsReal (scale p) := by
  choose f hf using hp
  obtain rfl : p = fun k => (f k : EReal) := funext hf
  obtain ⟨w, hw, h⟩ := width_coe f
  exact ⟨_, by rw [scale, h, rsqrt_pos hw]⟩

/-- Both spellings, over the reals: `s` the reciprocal root of `w`. -/
theorem real_steps (d g : Fin 64 → ℝ) (s w : ℝ) (hw : s / w = s * s * s) (k : Fin 64) :
    g k * s + (∑ x, d x * g x) * (-(1 / 2) * (s / w)) / 64 * (2 * d k)
      = s * (g k - d k * s * ((∑ x, g x * (d x * s)) / 64)) := by
  have h1 : ∑ x, g x * (d x * s) = (∑ x, d x * g x) * s := by
    rw [Finset.sum_mul]; exact Finset.sum_congr rfl fun x _ => by ring
  rw [h1, hw]
  ring

/-- The two gradients agree on a group of real numbers. -/
theorem steps_eq_back {p g : Group} (hp : ∀ k, IsReal (p k)) (hg : ∀ k, IsReal (g k)) (k : Fin 64) :
    steps p g k = back p g k := by
  choose f hf using hp
  choose G hG using hg
  obtain rfl : p = fun k => (f k : EReal) := funext hf
  obtain rfl : g = fun k => (G k : EReal) := funext hG
  obtain ⟨w, hw, hwidth⟩ := width_coe f
  have hscale : scale (fun k => (f k : EReal)) = (((Real.sqrt w)⁻¹ : ℝ) : EReal) := by rw [scale, hwidth, rsqrt_pos hw]
  have hs : (Real.sqrt w)⁻¹ / w = (Real.sqrt w)⁻¹ * (Real.sqrt w)⁻¹ * (Real.sqrt w)⁻¹ := by
    have h := Real.mul_self_sqrt hw.le
    have h0 : Real.sqrt w ≠ 0 := (Real.sqrt_pos.mpr hw).ne'
    rw [show (Real.sqrt w)⁻¹ / w = (Real.sqrt w)⁻¹ / (Real.sqrt w * Real.sqrt w) by rw [h]]
    field_simp
  rw [steps, back, hscale, hwidth, word_two, word_neg_half, word_64, div_real _ hw.ne']
  simp only [← EReal.coe_mul, coe_sum, mean_coe, ← EReal.coe_sub]
  rw [div_real _ (by norm_num), ← EReal.coe_mul, ← EReal.coe_add]
  exact congrArg _ (real_steps _ _ _ _ hs k)

/-! ## Adding up groups of lanes -/

/-- A product with the matrix that is one where two lanes lie in one group of 64, its upper half of rows met by the
numbers and its lower half by what is left of them: the sum over the lane's group. `p` counts the pieces of 128 lanes. -/
theorem sum_lanes (f : Fin 512 → EReal) (hf : ∀ n, IsReal (f n)) (F G H : Fin 128 → EReal) (n : Fin 512) (p : ℕ) (hp : p < 4)
    (l : Fin 128) (hn : n.val = 128 * p + l.val) (h1 : ∀ k : Fin 128, F k = f ⟨128 * p + k.val, by omega⟩)
    (hG : ∀ k : Fin 128, G k = if k.val / 64 = l.val / 64 then 1 else 0) :
    ∑ k, F k * G k + ∑ k, (F k - F k) * H k = ∑ q : Fin 64, f ⟨n.val / 64 * 64 + q.val, by omega⟩ := by
  have hz : ∑ k, (F k - F k) * H k = 0 := Finset.sum_eq_zero fun k _ => by
    rw [h1]
    obtain ⟨r, hr⟩ := hf ⟨128 * p + k.val, by omega⟩
    rw [hr, ← EReal.coe_sub, sub_self, EReal.coe_zero, zero_mul]
  have e : ∑ s : Fin 2, ∑ k : Fin 64, F ⟨s.val * 64 + k.val, by omega⟩ * G ⟨s.val * 64 + k.val, by omega⟩ = ∑ k, F k * G k :=
    Fin.sum_mul_add_congr (L := 128) (f := fun k => F k * G k) (fun s k hl => rfl)
  have ho : ∀ s : Fin 2, s.val ≠ l.val / 64 →
      ∑ k : Fin 64, F ⟨s.val * 64 + k.val, by omega⟩ * G ⟨s.val * 64 + k.val, by omega⟩ = 0 := fun s hl =>
    Finset.sum_eq_zero fun k _ => by
      rw [hG, if_neg (by show ¬(s.val * 64 + k.val) / 64 = l.val / 64; omega), mul_zero]
  have hi : ∀ s : Fin 2, s.val = l.val / 64 →
      ∑ k : Fin 64, F ⟨s.val * 64 + k.val, by omega⟩ * G ⟨s.val * 64 + k.val, by omega⟩
        = ∑ q : Fin 64, f ⟨n.val / 64 * 64 + q.val, by omega⟩ := fun s hl =>
    Finset.sum_congr rfl fun k _ => by
      rw [hG, if_pos (by show (s.val * 64 + k.val) / 64 = l.val / 64; omega), mul_one, h1]
      congr 2
      show 128 * p + (s.val * 64 + k.val) = _
      omega
  rw [hz, add_zero, ← e, Fin.sum_univ_two]
  by_cases h : l.val / 64 = 0
  · rw [hi 0 h.symm, ho 1 (by rw [h]; decide), add_zero]
  · rw [ho 0 (Ne.symm h), hi 1 (by show 1 = _; omega), zero_add]

end Cert.GroupNorm
-- ==== Proof.ConvGradRows.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.GroupNorm
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ConvGrad
open Cert.KernelIdeal Cert.KernelIdeal.Gen

/-! # The gradient of the gated convolution and its group norm: rows

What the host prepares, what the reference computes of a row, what the kernel's expressions compute of a block. -/

variable (m : (ℓ : Loc nD τ sig) → Buf (Elt Ideal) ℓ)

/-- Floor division of machine words, as the host computes it. -/
def floorDiv (x d : BitVec 32) : BitVec 32 :=
  Scalar.select
    (IntOp.andi
      (IntOp.cmpi CmpIPredicate.ne (if x = 0 then 0 else if x.msb = true then -1 else 1 : BitVec 32)
        (if d = 0 then 0 else if d.msb = true then -1 else 1 : BitVec 32))
      (IntOp.cmpi CmpIPredicate.ne (IntOp.remsi ArithUnit.host x d) 0#32))
    (IntOp.subi (IntOp.divsi ArithUnit.host x d) 1#32)
    (IntOp.divsi ArithUnit.host x d)

/-- The divisor, kept off zero. -/
def divisor : BitVec 32 := Scalar.select (IntOp.cmpi CmpIPredicate.eq 128#32 0#32) 1#32 128#32

/-- The remainder by 128 of a machine word, as the host computes it. -/
def remainder (x : BitVec 32) : BitVec 32 :=
  Scalar.select
    (IntOp.andi
      (IntOp.cmpi CmpIPredicate.ne (IntOp.cmpi CmpIPredicate.slt (IntOp.remsi ArithUnit.host x divisor) 0#32)
        (IntOp.cmpi CmpIPredicate.slt divisor 0#32))
      (IntOp.cmpi CmpIPredicate.ne (IntOp.remsi ArithUnit.host x divisor) 0#32))
    (IntOp.addi (IntOp.remsi ArithUnit.host x divisor) divisor)
    (IntOp.remsi ArithUnit.host x divisor)

theorem row_word : ∀ r : Fin 256, floorDiv (remainder (BitVec.ofNat 32 r.val)) 64#32 = BitVec.ofNat 32 (r.val % 128 / 64) := by
  decide +kernel

theorem lane_word : ∀ l : Fin 128, floorDiv (BitVec.ofNat 32 l.val) 64#32 = BitVec.ofNat 32 (l.val / 64) := by
  decide +kernel

theorem word_eq_iff (n k : ℕ) (hn : n < 2 ^ 32) (hk : k < 2 ^ 32) : (BitVec.ofNat 32 n = BitVec.ofNat 32 k) ↔ n = k := by
  constructor
  · intro e
    have := congrArg BitVec.toNat e
    rwa [BitVec.toNat_ofNat, BitVec.toNat_ofNat, Nat.mod_eq_of_lt hn, Nat.mod_eq_of_lt hk] at this
  · intro e
    rw [e]

/-- The equality of two small words, as a number. -/
theorem number_word_eq (n k : ℕ) (hn : n < 2 ^ 32) (hk : k < 2 ^ 32) :
    (FloatOps.uitofp (F := Ideal) .bf16 (IntOp.cmpi .eq (BitVec.ofNat 32 n) (BitVec.ofNat 32 k)) : EReal) = if n = k then 1 else 0 := by
  show (((IntOp.cmpi .eq (BitVec.ofNat 32 n) (BitVec.ofNat 32 k)).toNat : ℝ) : EReal) = _
  by_cases e : n = k
  · simp [IntOp.cmpi, e]
  · have q : (BitVec.ofNat 32 n == BitVec.ofNat 32 k) = false := beq_eq_false_iff_ne.mpr fun q => e ((word_eq_iff n k hn hk).mp q)
    simp [IntOp.cmpi, q, e]

/-- The host's matrix of zeros and ones: one where the row and the column lie in one group of 64 lanes. -/
theorem groups (c : Dev nD) (i : S256x128.Idx) :
    (V m c main_v36 : FVec Ideal S256x128 .bf16) i = (if (i 0).val % 128 / 64 = (i 1).val / 64 then 1 else 0 : EReal) := by
  have e : (V m c main_v36 : FVec Ideal S256x128 .bf16) i
      = (FloatOps.uitofp (F := Ideal) .bf16 (IntOp.cmpi .eq (floorDiv (remainder (BitVec.ofNat 32 (i 0).val)) 64#32) (floorDiv (BitVec.ofNat 32 (i 1).val) 64#32)) : EReal) := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
    after_reads_at
    rfl
  rw [e]
  refine (congrArg₂ (fun a b => (FloatOps.uitofp (F := Ideal) .bf16 (IntOp.cmpi .eq a b) : EReal)) (row_word (i 0)) (lane_word (i 1))).trans ?_
  have h0 : (i 0).val < 256 := (i 0).isLt
  have h1 : (i 1).val < 128 := (i 1).isLt
  exact number_word_eq _ _ (by omega) (by omega)

open Cert.NormGrad (IsReal)
open Cert.GroupNorm

section Rows

variable (G : FVec Ideal S4096x1536 .f32) (D : FVec Ideal S4096x512 .f32) (W : FVec Ideal S3x512 .f32) (g : FVec Ideal S1x512 .f32)

/-- The convolution's input `d` rows further up, zero before the first row. -/
def above (d : ℕ) (r : Fin 4096) (n : Fin 512) : EReal :=
  if d ≤ r.val then G (ix2 ⟨r.val - d, by omega⟩ ⟨512 + n.val, by omega⟩) * G (ix2 ⟨r.val - d, by omega⟩ ⟨1024 + n.val, by omega⟩) else 0

/-- The convolution: each tap times the row that it reaches, last the row itself. -/
def conv (r : Fin 4096) (n : Fin 512) : EReal :=
  W (ix2 0 n) * above G 2 r n + W (ix2 1 n) * above G 1 r n + W (ix2 2 n) * above G 0 r n

/-- The gated convolution. -/
def gated (r : Fin 4096) (n : Fin 512) : EReal := G (ix2 r ⟨n.val, by omega⟩) * conv G W r n

/-- The group of 64 that a lane lies in. -/
def group (f : Fin 512 → EReal) (n : Fin 512) : Group := fun q => f ⟨n.val / 64 * 64 + q.val, by omega⟩

/-- A lane's place in its group. -/
def place (n : Fin 512) : Fin 64 := ⟨n.val % 64, Nat.mod_lt _ (by decide)⟩

/-- The cotangent of the normed row. -/
def dn (r : Fin 4096) (n : Fin 512) : EReal := D (ix2 r n) * g (ix2 0 n)

open Cert.ReferenceIdeal.Read

theorem reference_above2 (j : S4096x512.Idx) : val_main_v8 (F := Ideal) G j = above G 2 (j 0) (j 1) := by
  pointwise [val_main_v8, val_main_v5, val_main_v4, val_main_v3, val_main_v2, val_main_v1, val_main_cst]
  unfold above
  by_cases h : 2 ≤ (j 0).val
  · rw [dif_neg (by omega), if_pos h]
  · rw [dif_pos (by omega), if_neg h]

theorem reference_above1 (j : S4096x512.Idx) : val_main_v16 (F := Ideal) G j = above G 1 (j 0) (j 1) := by
  pointwise [val_main_v16, val_main_v5, val_main_v4, val_main_v3, val_main_v2, val_main_v1, val_main_cst]
  unfold above
  by_cases h : 1 ≤ (j 0).val
  · rw [dif_neg (by omega), if_pos h]
    have e : 1 + (j 0).val - 2 = (j 0).val - 1 := by omega
    simp only [e]
  · rw [dif_pos (by omega), if_neg h]

theorem reference_above0 (j : S4096x512.Idx) : val_main_v23 (F := Ideal) G j = above G 0 (j 0) (j 1) := by
  pointwise [val_main_v23, val_main_v5, val_main_v4, val_main_v3, val_main_v2, val_main_v1, val_main_cst]
  unfold above
  exact (if_pos (Nat.zero_le _)).symm

theorem reference_conv (j : S4096x512.Idx) : val_main_v27 (F := Ideal) G W j = conv G W (j 0) (j 1) := by
  pointwise [val_main_v27, val_main_v26, val_main_v25, val_main_v24, val_main_v22, val_main_v21, val_main_v20, val_main_v19, val_main_v18, val_main_v17,
    val_main_v15, val_main_v14, val_main_v13, val_main_v12, val_main_cst_0, val_main_v11, val_main_v10, val_main_v9, val_main_v7, val_main_v6]
  exact congrArg₂ (· + ·) (congrArg₂ (· + ·) (congrArg (_ * ·) (reference_above2 G j)) (congrArg (_ * ·) (reference_above1 G j)))
    (congrArg (_ * ·) (reference_above0 G j))

theorem reference_gated (j : S4096x512.Idx) : val_main_v28 (F := Ideal) G W j = gated G W (j 0) (j 1) := by
  rw [val_main_v28_apply, reference_conv]
  pointwise [val_main_v0]
  rfl

theorem reference_width (j : S4096x512.Idx) :
    Ideal.div (∑ x : Fin 64, val_main_v28 (F := Ideal) G W (ix2 (j 0) ⟨(j 1).val / 64 * 64 + x.val, by have : (j 1).val < 512 := (j 1).isLt; omega⟩)
        * val_main_v28 (F := Ideal) G W (ix2 (j 0) ⟨(j 1).val / 64 * 64 + x.val, by have : (j 1).val < 512 := (j 1).isLt; omega⟩)) (Ideal.ofBits .f32 0x42800000#32)
        + Ideal.ofBits .f32 0x358637BD#32 = width (group (gated G W (j 0)) (j 1)) := by
  refine congrArg (fun z => Ideal.div z _ + _) (Finset.sum_congr rfl fun x _ => ?_)
  exact congrArg₂ (· * ·) (reference_gated G W _) (reference_gated G W _)

theorem reference_normed (j : S4096x512.Idx) :
    val_main_v45 (F := Ideal) G W j = gated G W (j 0) (j 1) * scale (group (gated G W (j 0)) (j 1)) := by
  pointwise [val_main_v45, val_main_v44, val_main_v43, val_main_v39, val_main_v38, val_main_v37, val_main_cst_4, val_main_v36, val_main_v35, val_main_cst_3, val_main_v34, val_main_v33, val_main_cst_2, val_main_v30, val_main_v29]
  exact congrArg₂ (· * ·) (reference_gated G W j) (congrArg Ideal.rsqrt (reference_width G W j))

theorem at_place (f : Fin 512 → EReal) (n : Fin 512) : group f n (place n) = f n :=
  congrArg f (Fin.ext (by show n.val / 64 * 64 + n.val % 64 = n.val; omega))

/-- The lanes of one group have that group. -/
theorem group_same (f : Fin 512 → EReal) (n : Fin 512) (q : Fin 64) : group f ⟨n.val / 64 * 64 + q.val, by omega⟩ = group f n :=
  funext fun k => congrArg f (Fin.ext (by show (n.val / 64 * 64 + q.val) / 64 * 64 + k.val = n.val / 64 * 64 + k.val; omega))

theorem reference_steps (j : S4096x512.Idx) :
    val_main_v66 (F := Ideal) G D W g j = steps (group (gated G W (j 0)) (j 1)) (group (dn D g (j 0)) (j 1)) (place (j 1)) := by
  pointwise [val_main_v66, val_main_v65, val_main_v64, val_main_v63, val_main_v62, val_main_v61, val_main_v60, val_main_v59, val_main_v58, val_main_v57, val_main_v56,
   val_main_v55, val_main_v54, val_main_v53, val_main_v52, val_main_v51, val_main_v42, val_main_v41, val_main_v40, val_main_v32, val_main_v31, val_main_cst_9, val_main_cst_8, val_main_cst_7, val_main_cst_5, val_main_cst_1,
   val_main_v39, val_main_v38, val_main_v37, val_main_cst_4, val_main_v36, val_main_v35, val_main_cst_3, val_main_v34, val_main_v33, val_main_cst_2, val_main_v30, val_main_v29]
  rw [Fin.sum_univ_one]
  have hw := reference_width G W j
  refine congrArg₂ (· + ·) (congrArg₂ (· * ·) ?_ (congrArg Ideal.rsqrt hw)) (congrArg₂ (· * ·) (congrArg (Ideal.div · _) (congrArg₂ (· * ·) ?_
    (congrArg (_ * ·) (congrArg₂ Ideal.div (congrArg Ideal.rsqrt hw) hw)))) (congrArg (_ * ·) ?_))
  · refine Eq.trans ?_ (at_place (dn D g (j 0)) (j 1)).symm
    exact congrArg (fun z => D z * g (ix2 0 (j 1))) (a₂ := ix2 (j 0) (j 1)) (funext (Fin.forall_fin_two.mpr ⟨rfl, rfl⟩))
  · exact Finset.sum_congr rfl fun x _ => congrArg (· * _) (reference_gated G W _)
  · exact (reference_gated G W j).trans (at_place (gated G W (j 0)) (j 1)).symm

/-- The rows of sums: the taps' gradients, the gain's gradient, zeros. -/
theorem reference_sums (y : S8x512.Idx) : val_main_v115 (F := Ideal) G D W g y
    = if (y 0).val = 0 then ∑ r : Fin 4096, val_main_v67 (F := Ideal) G D W g (ix2 r (y 1)) * above G 2 r (y 1)
      else if (y 0).val = 1 then ∑ r : Fin 4096, val_main_v67 (F := Ideal) G D W g (ix2 r (y 1)) * above G 1 r (y 1)
      else if (y 0).val = 2 then ∑ r : Fin 4096, val_main_v67 (F := Ideal) G D W g (ix2 r (y 1)) * above G 0 r (y 1)
      else if (y 0).val = 3 then ∑ r : Fin 4096, gated G W r (y 1) * scale (group (gated G W r) (y 1)) * D (ix2 r (y 1))
      else 0 := by
  pointwise [val_main_v115, val_main_v112, val_main_v111, val_main_v110, val_main_v109, val_main_v108, val_main_v107, val_main_v106, val_main_v105,
    val_main_v104, val_main_v103, val_main_v102, val_main_v101, val_main_v100, val_main_v99, val_main_v98, val_main_v97, val_main_v96, val_main_v95, val_main_v94, val_main_v93,
    val_main_v50, val_main_v49, val_main_v48, val_main_v114, val_main_cst_6, val_main_cst_12, val_main_cst_13, val_main_cst_14, val_main_cst_15, val_main_cst_16, val_main_cst_17, val_main_cst_18, val_main_cst_19, val_main_cst_20, val_main_cst_21]
  simp only [Fin.sum_univ_one]
  have b : (y 0).val < 8 := (y 0).isLt
  by_cases e0 : (y 0).val = 0
  · rw [dif_pos (by omega), dif_neg (by omega), dif_neg (by omega), dif_pos (by omega), if_pos e0, add_zero, zero_add]
    exact Finset.sum_congr rfl fun r _ => congrArg (_ * ·) (reference_above2 G _)
  rw [if_neg e0]
  by_cases e1 : (y 0).val = 1
  · rw [dif_pos (by omega), dif_neg (by omega), dif_pos (by omega), dif_neg (by omega), if_pos e1, add_zero, zero_add]
    exact Finset.sum_congr rfl fun r _ => congrArg (_ * ·) (reference_above1 G _)
  rw [if_neg e1]
  by_cases e2 : (y 0).val = 2
  · rw [dif_pos (by omega), dif_pos (by omega), dif_neg (by omega), dif_neg (by omega), if_pos e2, add_zero, add_zero]
    exact Finset.sum_congr rfl fun r _ => congrArg (_ * ·) (reference_above0 G _)
  rw [if_neg e2, dif_neg (by omega)]
  by_cases e3 : (y 0).val = 3
  · rw [dif_pos (by omega), if_pos e3]
    exact Finset.sum_congr rfl fun r _ => congrArg (· * _) (reference_normed G W _)
  rw [dif_neg (by omega), if_neg e3]
end Rows

section Kernel

variable (v2 v5 v17 : FVec Ideal S512x512 .f32) (v19 : IVec S512x512 1) (v24 : FVec Ideal S1x512 .f32) (v35 : FVec Ideal S512x512 .f32)
  (w0 w1 w2 : FVec Ideal S1x512 .f32) (gm : FVec Ideal S256x128 .bf16) (D : FVec Ideal S512x512 .f32) (g : FVec Ideal S1x512 .f32)

/-- The gated convolution's block. -/
abbrev yc (x : S512x512.Idx) : EReal := k0_pay11 (F := Ideal) v2 v5 v17 v19 v24 v35 w0 w1 w2 x

variable (hgm : ∀ i : S256x128.Idx, gm i = (if (i 0).val % 128 / 64 = (i 1).val / 64 then 1 else 0 : EReal))
  (hy : ∀ x, IsReal (yc v2 v5 v17 v19 v24 v35 w0 w1 w2 x))

theorem matrix (i : S256x128.Idx) : k0_pay10 (F := Ideal) gm i = gm i := by
  pointwise [k0_pay10]

include hgm in
theorem gm_at (k l : ℕ) (hk : k < 128) (hl : l < 128) :
    gm (ix2 ⟨k, by omega⟩ ⟨l, hl⟩) = (if k / 64 = l / 64 then 1 else 0 : EReal) := by
  rw [hgm]
  show (if k % 128 / 64 = l / 64 then 1 else 0 : EReal) = _
  rw [Nat.mod_eq_of_lt hk]

include hgm hy in
theorem kernel_scale (x : S512x512.Idx) :
    k0_pay17 (F := Ideal) (k0_pay10 gm) (k0_pay13 v2 v5 v17 v19 v24 v35 w0 w1 w2 gm) (k0_pay14 v2 v5 v17 v19 v24 v35 w0 w1 w2 gm) (k0_pay15 v2 v5 v17 v19 v24 v35 w0 w1 w2 gm) (k0_pay16 v2 v5 v17 v19 v24 v35 w0 w1 w2) (constant S512x128 FTy.f32 0#32) x
      = scale (group (fun n => yc v2 v5 v17 v19 v24 v35 w0 w1 w2 (ix2 (x 0) n)) (x 1)) := by
  have hx : (x 1).val < 512 := (x 1).isLt
  pointwise [k0_pay17, k0_pay10, k0_pay13, k0_pay14, k0_pay15, k0_pay16, k0_pay12]
  rw [scale, width, mean_eq]
  refine congrArg (fun z => Ideal.rsqrt (z * _ + _)) ?_
  by_cases e0 : (x 1).val < 128
  · rw [dif_pos e0]
    exact sum_lanes (fun n => yc v2 v5 v17 v19 v24 v35 w0 w1 w2 (ix2 (x 0) n) * yc v2 v5 v17 v19 v24 v35 w0 w1 w2 (ix2 (x 0) n)) (fun n => (hy _).mul (hy _)) _ _ _ (x 1) 0 (by decide) ⟨(x 1).val, by omega⟩ (by show (x 1).val = 128 * 0 + ((x 1).val); omega)
      (fun k => congrArg (fun n : Fin 512 => yc v2 v5 v17 v19 v24 v35 w0 w1 w2 (ix2 (x 0) n) * yc v2 v5 v17 v19 v24 v35 w0 w1 w2 (ix2 (x 0) n)) (Fin.ext (by show k.val = 128 * 0 + k.val; omega))) (fun k => gm_at gm hgm _ _ k.isLt (by omega))
  rw [dif_neg e0]
  by_cases e1 : (x 1).val - 128 < 128
  · rw [dif_pos e1]
    exact sum_lanes (fun n => yc v2 v5 v17 v19 v24 v35 w0 w1 w2 (ix2 (x 0) n) * yc v2 v5 v17 v19 v24 v35 w0 w1 w2 (ix2 (x 0) n)) (fun n => (hy _).mul (hy _)) _ _ _ (x 1) 1 (by decide) ⟨(x 1).val - 128, by omega⟩ (by show (x 1).val = 128 * 1 + ((x 1).val - 128); omega)
      (fun k => congrArg (fun n : Fin 512 => yc v2 v5 v17 v19 v24 v35 w0 w1 w2 (ix2 (x 0) n) * yc v2 v5 v17 v19 v24 v35 w0 w1 w2 (ix2 (x 0) n)) (Fin.ext (by show 128 + k.val = 128 * 1 + k.val; omega))) (fun k => gm_at gm hgm _ _ k.isLt (by omega))
  rw [dif_neg e1]
  by_cases e2 : (x 1).val - 128 - 128 < 128
  · rw [dif_pos e2]
    exact sum_lanes (fun n => yc v2 v5 v17 v19 v24 v35 w0 w1 w2 (ix2 (x 0) n) * yc v2 v5 v17 v19 v24 v35 w0 w1 w2 (ix2 (x 0) n)) (fun n => (hy _).mul (hy _)) _ _ _ (x 1) 2 (by decide) ⟨(x 1).val - 128 - 128, by omega⟩ (by show (x 1).val = 128 * 2 + ((x 1).val - 128 - 128); omega)
      (fun k => congrArg (fun n : Fin 512 => yc v2 v5 v17 v19 v24 v35 w0 w1 w2 (ix2 (x 0) n) * yc v2 v5 v17 v19 v24 v35 w0 w1 w2 (ix2 (x 0) n)) (Fin.ext (by show 256 + k.val = 128 * 2 + k.val; omega))) (fun k => gm_at gm hgm _ _ k.isLt (by omega))
  rw [dif_neg e2]
  exact sum_lanes (fun n => yc v2 v5 v17 v19 v24 v35 w0 w1 w2 (ix2 (x 0) n) * yc v2 v5 v17 v19 v24 v35 w0 w1 w2 (ix2 (x 0) n)) (fun n => (hy _).mul (hy _)) _ _ _ (x 1) 3 (by decide) ⟨(x 1).val - 128 - 128 - 128, by omega⟩ (by show (x 1).val = 128 * 3 + ((x 1).val - 128 - 128 - 128); omega)
    (fun k => congrArg (fun n : Fin 512 => yc v2 v5 v17 v19 v24 v35 w0 w1 w2 (ix2 (x 0) n) * yc v2 v5 v17 v19 v24 v35 w0 w1 w2 (ix2 (x 0) n)) (Fin.ext (by show 384 + k.val = 128 * 3 + k.val; omega))) (fun k => gm_at gm hgm _ _ k.isLt (by omega))

include hgm hy in
theorem kernel_normed (x : S512x512.Idx) :
    k0_pay18 (F := Ideal) (k0_pay10 gm) (k0_pay11 v2 v5 v17 v19 v24 v35 w0 w1 w2) (k0_pay13 v2 v5 v17 v19 v24 v35 w0 w1 w2 gm) (k0_pay14 v2 v5 v17 v19 v24 v35 w0 w1 w2 gm) (k0_pay15 v2 v5 v17 v19 v24 v35 w0 w1 w2 gm) (k0_pay16 v2 v5 v17 v19 v24 v35 w0 w1 w2) (constant S512x128 FTy.f32 0#32) x
      = yc v2 v5 v17 v19 v24 v35 w0 w1 w2 x * scale (group (fun n => yc v2 v5 v17 v19 v24 v35 w0 w1 w2 (ix2 (x 0) n)) (x 1)) :=
  congrArg (_ * ·) (kernel_scale v2 v5 v17 v19 v24 v35 w0 w1 w2 gm hgm hy x)

theorem scale_isReal' (hy : ∀ x, IsReal (yc v2 v5 v17 v19 v24 v35 w0 w1 w2 x)) (r n : Fin 512) :
    IsReal (scale (group (fun n => yc v2 v5 v17 v19 v24 v35 w0 w1 w2 (ix2 r n)) n)) := scale_isReal fun k => hy _

include hgm hy in
theorem kernel_back (hD : ∀ x, IsReal (D x)) (hg : ∀ x, IsReal (g x)) (x : S512x512.Idx) :
    k0_pay19 (F := Ideal) (k0_pay10 gm) (k0_pay11 v2 v5 v17 v19 v24 v35 w0 w1 w2) (k0_pay13 v2 v5 v17 v19 v24 v35 w0 w1 w2 gm) (k0_pay14 v2 v5 v17 v19 v24 v35 w0 w1 w2 gm) (k0_pay15 v2 v5 v17 v19 v24 v35 w0 w1 w2 gm) (k0_pay16 v2 v5 v17 v19 v24 v35 w0 w1 w2) (constant S512x128 FTy.f32 0#32) D g x
      = back (group (fun n => yc v2 v5 v17 v19 v24 v35 w0 w1 w2 (ix2 (x 0) n)) (x 1)) (group (fun n => D (ix2 (x 0) n) * g (ix2 0 n)) (x 1)) (place (x 1)) := by
  have hx : (x 1).val < 512 := (x 1).isLt
  have hn := kernel_normed v2 v5 v17 v19 v24 v35 w0 w1 w2 gm hgm hy
  pointwise [k0_pay19]
  simp only [hn, kernel_scale v2 v5 v17 v19 v24 v35 w0 w1 w2 gm hgm hy]
  rw [back, mean_eq]
  have ey : yc v2 v5 v17 v19 v24 v35 w0 w1 w2 x = yc v2 v5 v17 v19 v24 v35 w0 w1 w2 (ix2 (x 0) (x 1)) :=
    congrArg _ (funext (Fin.forall_fin_two.mpr ⟨rfl, rfl⟩))
  have ed : D x = D (ix2 (x 0) (x 1)) := congrArg _ (funext (Fin.forall_fin_two.mpr ⟨rfl, rfl⟩))
  refine congrArg₂ (· * ·) rfl (congrArg₂ (· - ·) ?_ (congrArg₂ (· * ·) ?_ (congrArg (· * _) (Eq.trans (b := ∑ q : Fin 64, (fun n : Fin 512 => D (ix2 (x 0) n) * g (ix2 0 n) * (yc v2 v5 v17 v19 v24 v35 w0 w1 w2 (ix2 (x 0) n) * scale (group (fun n => yc v2 v5 v17 v19 v24 v35 w0 w1 w2 (ix2 (x 0) n)) n))) ⟨(x 1).val / 64 * 64 + q.val, by omega⟩) ?_ ?_))))
  · exact (congrArg (· * _) ed).trans (at_place (fun n => D (ix2 (x 0) n) * g (ix2 0 n)) (x 1)).symm
  · exact congrArg (· * _) (ey.trans (at_place (fun n => yc v2 v5 v17 v19 v24 v35 w0 w1 w2 (ix2 (x 0) n)) (x 1)).symm)
  rotate_left
  · exact Finset.sum_congr rfl fun q _ => congrArg (fun z => _ * (_ * scale z)) (group_same _ (x 1) q)
  by_cases e0 : (x 1).val < 128
  · rw [dif_pos e0]
    exact sum_lanes (fun n => D (ix2 (x 0) n) * g (ix2 0 n) * (yc v2 v5 v17 v19 v24 v35 w0 w1 w2 (ix2 (x 0) n) * scale (group (fun n => yc v2 v5 v17 v19 v24 v35 w0 w1 w2 (ix2 (x 0) n)) n))) (fun n => ((hD _).mul (hg _)).mul ((hy _).mul (scale_isReal' v2 v5 v17 v19 v24 v35 w0 w1 w2 hy _ _))) _ _ _ (x 1) 0 (by decide) ⟨(x 1).val, by omega⟩ (by show (x 1).val = 128 * 0 + ((x 1).val); omega)
      (fun k => congrArg (fun n : Fin 512 => D (ix2 (x 0) n) * g (ix2 0 n) * (yc v2 v5 v17 v19 v24 v35 w0 w1 w2 (ix2 (x 0) n) * scale (group (fun n => yc v2 v5 v17 v19 v24 v35 w0 w1 w2 (ix2 (x 0) n)) n))) (Fin.ext (by show k.val = 128 * 0 + k.val; omega))) (fun k => (matrix gm _).trans (gm_at gm hgm _ _ k.isLt (by omega)))
  rw [dif_neg e0]
  by_cases e1 : (x 1).val - 128 < 128
  · rw [dif_pos e1]
    exact sum_lanes (fun n => D (ix2 (x 0) n) * g (ix2 0 n) * (yc v2 v5 v17 v19 v24 v35 w0 w1 w2 (ix2 (x 0) n) * scale (group (fun n => yc v2 v5 v17 v19 v24 v35 w0 w1 w2 (ix2 (x 0) n)) n))) (fun n => ((hD _).mul (hg _)).mul ((hy _).mul (scale_isReal' v2 v5 v17 v19 v24 v35 w0 w1 w2 hy _ _))) _ _ _ (x 1) 1 (by decide) ⟨(x 1).val - 128, by omega⟩ (by show (x 1).val = 128 * 1 + ((x 1).val - 128); omega)
      (fun k => congrArg (fun n : Fin 512 => D (ix2 (x 0) n) * g (ix2 0 n) * (yc v2 v5 v17 v19 v24 v35 w0 w1 w2 (ix2 (x 0) n) * scale (group (fun n => yc v2 v5 v17 v19 v24 v35 w0 w1 w2 (ix2 (x 0) n)) n))) (Fin.ext (by show 128 + k.val = 128 * 1 + k.val; omega))) (fun k => (matrix gm _).trans (gm_at gm hgm _ _ k.isLt (by omega)))
  rw [dif_neg e1]
  by_cases e2 : (x 1).val - 128 - 128 < 128
  · rw [dif_pos e2]
    exact sum_lanes (fun n => D (ix2 (x 0) n) * g (ix2 0 n) * (yc v2 v5 v17 v19 v24 v35 w0 w1 w2 (ix2 (x 0) n) * scale (group (fun n => yc v2 v5 v17 v19 v24 v35 w0 w1 w2 (ix2 (x 0) n)) n))) (fun n => ((hD _).mul (hg _)).mul ((hy _).mul (scale_isReal' v2 v5 v17 v19 v24 v35 w0 w1 w2 hy _ _))) _ _ _ (x 1) 2 (by decide) ⟨(x 1).val - 128 - 128, by omega⟩ (by show (x 1).val = 128 * 2 + ((x 1).val - 128 - 128); omega)
      (fun k => congrArg (fun n : Fin 512 => D (ix2 (x 0) n) * g (ix2 0 n) * (yc v2 v5 v17 v19 v24 v35 w0 w1 w2 (ix2 (x 0) n) * scale (group (fun n => yc v2 v5 v17 v19 v24 v35 w0 w1 w2 (ix2 (x 0) n)) n))) (Fin.ext (by show 256 + k.val = 128 * 2 + k.val; omega))) (fun k => (matrix gm _).trans (gm_at gm hgm _ _ k.isLt (by omega)))
  rw [dif_neg e2]
  exact sum_lanes (fun n => D (ix2 (x 0) n) * g (ix2 0 n) * (yc v2 v5 v17 v19 v24 v35 w0 w1 w2 (ix2 (x 0) n) * scale (group (fun n => yc v2 v5 v17 v19 v24 v35 w0 w1 w2 (ix2 (x 0) n)) n))) (fun n => ((hD _).mul (hg _)).mul ((hy _).mul (scale_isReal' v2 v5 v17 v19 v24 v35 w0 w1 w2 hy _ _))) _ _ _ (x 1) 3 (by decide) ⟨(x 1).val - 128 - 128 - 128, by omega⟩ (by show (x 1).val = 128 * 3 + ((x 1).val - 128 - 128 - 128); omega)
    (fun k => congrArg (fun n : Fin 512 => D (ix2 (x 0) n) * g (ix2 0 n) * (yc v2 v5 v17 v19 v24 v35 w0 w1 w2 (ix2 (x 0) n) * scale (group (fun n => yc v2 v5 v17 v19 v24 v35 w0 w1 w2 (ix2 (x 0) n)) n))) (Fin.ext (by show 384 + k.val = 128 * 3 + k.val; omega))) (fun k => (matrix gm _).trans (gm_at gm hgm _ _ k.isLt (by omega)))

end Kernel

end Cert.ConvGrad
-- ==== Proof.ConvGradBlocks.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.ConvGradRows
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ConvGrad
open Cert.KernelIdeal Cert.KernelIdeal.Gen

open Cert.NormGrad (IsReal)
open Cert.GroupNorm

/-! # The gradient of the gated convolution and its group norm: blocks

What the kernel reads at a grid point, and the convolution that it makes of it. -/

variable (m : (ℓ : Loc nD τ sig) → Buf (Elt Ideal) ℓ)

theorem idx : ∀ t : Fin cfg0.N, win0_0.index t = ![t.val, 0] ∧ win0_1.index t = ![t.val * 64 - 1, 0]
    ∧ win0_2.index t = ![t.val, 0] ∧ win0_3.index t = ![0, 0] ∧ win0_4.index t = ![0, 0]
    ∧ win0_5.index t = ![0, 0] ∧ win0_6.index t = ![t.val, 0] ∧ win0_7.index t = ![t.val, 0] ∧ win0_8.index t = ![0, 0]
    ∧ (grid0.coords t 0).val = t.val :=
  (by decide +kernel : ∀ t : Fin grid0.N, _)

/-- The four arguments. -/
abbrev gates (c : Dev nD) : FVec Ideal S4096x1536 .f32 := m ((c : Thread nD τ).loc main_arg0)
abbrev cot (c : Dev nD) : FVec Ideal S4096x512 .f32 := m ((c : Thread nD τ).loc main_arg1)
abbrev taps (c : Dev nD) : FVec Ideal S3x512 .f32 := m ((c : Thread nD τ).loc main_arg2)
abbrev gain (c : Dev nD) : FVec Ideal S1x512 .f32 := m ((c : Thread nD τ).loc main_arg3)

/-- The host line pads the three taps by rows of zeros. -/
theorem padded_taps (c : Dev nD) (i : S8x512.Idx) (h : (i 0).val < 3) :
    (V m c main_v40 : FVec Ideal S8x512 .f32) i = taps m c (ix2 ⟨(i 0).val, h⟩ (i 1)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_reads_at
  exact dif_pos h

/-- A choice by the equality of two small words is the choice by the equality of the numbers. -/
theorem select_word_eq {α : Type} (n k : ℕ) (hn : n < 2 ^ 32) (hk : k < 2 ^ 32) (a b : α) :
    Scalar.select (IntOp.cmpi .eq (BitVec.ofNat 32 n) (BitVec.ofNat 32 k)) a b = if n = k then a else b := by
  have h : (BitVec.ofNat 32 n = BitVec.ofNat 32 k) ↔ n = k := by
    constructor
    · intro e
      have := congrArg BitVec.toNat e
      rwa [BitVec.toNat_ofNat, BitVec.toNat_ofNat, Nat.mod_eq_of_lt hn, Nat.mod_eq_of_lt hk] at this
    · intro e
      rw [e]
  by_cases e : n = k
  · simp [Scalar.select, IntOp.cmpi, e]
  · have h' : ¬ BitVec.ofNat 32 n = BitVec.ofNat 32 k := fun q => e (h.mp q)
    have q : (BitVec.ofNat 32 n == BitVec.ofNat 32 k) = false := beq_eq_false_iff_ne.mpr h'
    simp only [Scalar.select, IntOp.cmpi, q, if_neg e]
    rfl

section Values

variable (c : Dev nD) (t : Fin cfg0.N)

theorem tap (k : Fin 8) (hk : k.val < 3) (n : Fin 512) :
    (iblk m c 3 t : FVec Ideal S8x512 .f32) (ix2 k n) = taps m c (ix2 ⟨k.val, hk⟩ n) := by
  blk_simp [iblk]
  refine (padded_taps m c _ ?_).trans (congrArg (taps m c) ?_)
  · blk_simp [idx t]
    exact hk
  · blk_ext [idx t]

/-- The matrix of zeros and ones, as the kernel sees it. -/
theorem matrix_at (i : S256x128.Idx) :
    (iblk m c 5 t : FVec Ideal S256x128 .bf16) i = (if (i 0).val % 128 / 64 = (i 1).val / 64 then 1 else 0 : EReal) := by
  blk_simp [iblk]
  refine (groups m c _).trans ?_
  blk_simp [idx t]

theorem block (x : S512x1536.Idx) (r : Fin 4096) (n : Fin 1536) (h0 : r.val = t.val * 512 + (x 0).val) (h1 : n.val = (x 1).val) :
    (iblk m c 0 t : FVec Ideal S512x1536 .f32) x = gates m c (ix2 r n) := by
  blk_ext [iblk, V_main_arg0, idx t]

/-- A row of the block before the point's, where there is one. -/
theorem halo (ht : t.val ≠ 0) (x : S8x1536.Idx) (r : Fin 4096) (n : Fin 1536) (h0 : r.val + 8 = t.val * 512 + (x 0).val) (h1 : n.val = (x 1).val) :
    (iblk m c 1 t : FVec Ideal S8x1536 .f32) x = gates m c (ix2 r n) := by
  blk_ext [iblk, V_main_arg0, idx t]

abbrev up0 : FVec Ideal S512x512 .f32 := k0_pay3 (F := Ideal) (iblk m c 0 t)
abbrev up1 : FVec Ideal S512x512 .f32 := k0_pay4 (F := Ideal) (grid0.coords t) (iblk m c 0 t)
  (View.ld (iblk m c 1 t) (Rect.unit ![7, 512] ![1, 512] inb_S8x1536_S1x512_7_512)) (View.ld (iblk m c 1 t) (Rect.unit ![7, 1024] ![1, 512] inb_S8x1536_S1x512_7_1024))
abbrev before6 : FVec Ideal S1x512 .f32 := k0_pay6 (F := Ideal) (grid0.coords t)
  (View.ld (iblk m c 1 t) (Rect.unit ![6, 512] ![1, 512] inb_S8x1536_S1x512_6_512)) (View.ld (iblk m c 1 t) (Rect.unit ![6, 1024] ![1, 512] inb_S8x1536_S1x512_6_1024))
abbrev rolled : FVec Ideal S512x512 .f32 := k0_pay7 (F := Ideal) (grid0.coords t) (iblk m c 0 t)
  (View.ld (iblk m c 1 t) (Rect.unit ![7, 512] ![1, 512] inb_S8x1536_S1x512_7_512)) (View.ld (iblk m c 1 t) (Rect.unit ![7, 1024] ![1, 512] inb_S8x1536_S1x512_7_1024))

theorem up0_at (x : S512x512.Idx) (r : Fin 4096) (hr : r.val = t.val * 512 + (x 0).val) : up0 m c t x = above (gates m c) 0 r (x 1) := by
  pointwise [up0, k0_pay3]
  refine Eq.trans ?_ (if_pos (Nat.zero_le _)).symm
  exact congrArg₂ (· * ·) (block m c t _ _ _ hr rfl) (block m c t _ _ _ hr rfl)

/-- The block rolled down by `d` rows, where the row reached lies in the block. -/
theorem rolled_at (d : ℕ) (x y : S512x512.Idx) (r : Fin 4096) (hr : r.val = t.val * 512 + (x 0).val) (hd : d ≤ (x 0).val)
    (hy : (y 0).val + d = (x 0).val) (h1 : y 1 = x 1) : k0_pay3 (F := Ideal) (iblk m c 0 t) y = above (gates m c) d r (x 1) := by
  pointwise [k0_pay3]
  have e : (x 1).val = (y 1).val := congrArg Fin.val h1.symm
  refine Eq.trans ?_ (if_pos (by omega)).symm
  exact congrArg₂ (· * ·) (block m c t _ _ _ (by show r.val - d = t.val * 512 + (y 0).val; omega) (congrArg (512 + ·) e))
    (block m c t _ _ _ (by show r.val - d = t.val * 512 + (y 0).val; omega) (congrArg (1024 + ·) e))

/-- What a row of the block before stands for: zero at the first point. -/
theorem halo_at (X : FVec Ideal S8x1536 .f32) (hX : X = iblk m c 1 t) (k : Fin 8) (d : ℕ) (q : Fin 512) (r : Fin 4096) (h0 : r.val + 8 = t.val * 512 + k.val + d) (hk : k.val < 8) (hd : d ≤ 2)
    (hl : t.val = 0 → ¬ d ≤ r.val) :
    Scalar.select (Scalar.cmpi CmpIPredicate.eq (BitVec.ofNat 32 (grid0.coords t 0).val) 0#32) 0
      (X (ix2 k ⟨512 + q.val, by omega⟩) * X (ix2 k ⟨1024 + q.val, by omega⟩))
      = above (gates m c) d r q := by
  have ht : t.val < 8 := lt_of_lt_of_eq t.isLt N_0
  have e7 : (grid0.coords t 0).val = t.val := by have := idx t; tauto
  subst hX
  rw [e7]
  simp only [Scalar.cmpi]
  refine (select_word_eq t.val 0 (by omega) (by omega) _ _).trans ?_
  by_cases h : t.val = 0
  · exact (if_pos h).trans (if_neg (hl h)).symm
  · have hr : d ≤ r.val := by omega
    refine (if_neg h).trans (Eq.trans ?_ (if_pos hr).symm)
    exact congrArg₂ (· * ·) (halo m c t h _ _ _ (by show r.val - d + 8 = t.val * 512 + k.val; omega) rfl)
      (halo m c t h _ _ _ (by show r.val - d + 8 = t.val * 512 + k.val; omega) rfl)

theorem up1_at (x : S512x512.Idx) (r : Fin 4096) (hr : r.val = t.val * 512 + (x 0).val) : up1 m c t x = above (gates m c) 1 r (x 1) := by
  have hx : (x 0).val < 512 := (x 0).isLt
  pointwise [up1, k0_pay4]
  refine (select_word_eq (x 0).val 0 (by omega) (by omega) _ _).trans ?_
  by_cases h : (x 0).val = 0
  · refine (if_pos h).trans (halo_at m c t _ rfl 7 1 (x 1) r ?_ (by decide) (by decide) (by omega))
    · show r.val + 8 = t.val * 512 + 7 + 1
      omega
  · refine (if_neg h).trans (rolled_at m c t 1 x _ r hr (by omega) ?_ rfl)
    show ((x 0).val + 512 - 1) % 512 + 1 = (x 0).val
    omega

theorem up2_at (x : S512x512.Idx) (r : Fin 4096) (hr : r.val = t.val * 512 + (x 0).val) :
    k0_pay8 (F := Ideal) k0_pay5 (before6 m c t) (rolled m c t) x = above (gates m c) 2 r (x 1) := by
  have hx : (x 0).val < 512 := (x 0).isLt
  pointwise [k0_pay8, k0_pay5, before6, rolled, k0_pay6, k0_pay7]
  refine (select_word_eq (x 0).val 0 (by omega) (by omega) _ _).trans ?_
  by_cases h : (x 0).val = 0
  · refine (if_pos h).trans (halo_at m c t _ rfl 6 2 (x 1) r ?_ (by decide) (by decide) (by omega))
    · show r.val + 8 = t.val * 512 + 6 + 2
      omega
  refine (if_neg h).trans ((select_word_eq (x 0).val 1 (by omega) (by omega) _ _).trans ?_)
  by_cases h : (x 0).val = 1
  · refine (if_pos h).trans (halo_at m c t _ rfl 7 2 (x 1) r ?_ (by decide) (by decide) (by omega))
    · show r.val + 8 = t.val * 512 + 7 + 2
      omega
  · refine (if_neg h).trans (rolled_at m c t 2 x _ r hr (by omega) ?_ rfl)
    show ((x 0).val + 512 - 2) % 512 + 2 = (x 0).val
    omega

abbrev tap0 : FVec Ideal S1x512 .f32 := View.ld (Val := Elt Ideal) (e' := .f32) (iblk m c 3 t) (Rect.unit ![0, 0] ![1, 512] inb_S8x512_S1x512_0_0)
abbrev tap1 : FVec Ideal S1x512 .f32 := View.ld (Val := Elt Ideal) (e' := .f32) (iblk m c 3 t) (Rect.unit ![1, 0] ![1, 512] inb_S8x512_S1x512_1_0)
abbrev tap2 : FVec Ideal S1x512 .f32 := View.ld (Val := Elt Ideal) (e' := .f32) (iblk m c 3 t) (Rect.unit ![2, 0] ![1, 512] inb_S8x512_S1x512_2_0)
abbrev gate : FVec Ideal S512x512 .f32 := k0_pay2 (F := Ideal) (iblk m c 0 t)

theorem tap0_at (n : Fin 512) : tap0 m c t (ix2 0 n) = taps m c (ix2 0 n) := by
  refine Eq.trans ?_ (tap m c t 0 (by decide) n)
  pointwise [tap0]

theorem tap1_at (n : Fin 512) : tap1 m c t (ix2 0 n) = taps m c (ix2 1 n) := by
  refine Eq.trans ?_ (tap m c t 1 (by decide) n)
  pointwise [tap1]

theorem tap2_at (n : Fin 512) : tap2 m c t (ix2 0 n) = taps m c (ix2 2 n) := by
  refine Eq.trans ?_ (tap m c t 2 (by decide) n)
  pointwise [tap2]

theorem conv_at (x : S512x512.Idx) (r : Fin 4096) (hr : r.val = t.val * 512 + (x 0).val) :
    k0_pay9 (F := Ideal) (up0 m c t) (up1 m c t) k0_pay5 (before6 m c t) (rolled m c t) (tap0 m c t) (tap1 m c t) (tap2 m c t) x
      = conv (gates m c) (taps m c) r (x 1) := by
  have h2 := up2_at m c t x r hr
  have h1 := up1_at m c t x r hr
  have h0 := up0_at m c t x r hr
  pointwise [k0_pay9]
  exact congrArg₂ (· + ·) (congrArg₂ (· + ·) (congrArg₂ (· * ·) (tap0_at m c t _) h2) (congrArg₂ (· * ·) (tap1_at m c t _) h1))
    (congrArg₂ (· * ·) (tap2_at m c t _) h0)

theorem gate_at (x : S512x512.Idx) (r : Fin 4096) (hr : r.val = t.val * 512 + (x 0).val) :
    gate m c t x = gates m c (ix2 r ⟨(x 1).val, lt_of_lt_of_le (x 1).isLt (by decide)⟩) := by
  pointwise [gate, k0_pay2]
  exact block m c t _ _ _ hr rfl

theorem gated_at (x : S512x512.Idx) (r : Fin 4096) (hr : r.val = t.val * 512 + (x 0).val) :
    yc (gate m c t) (up0 m c t) (up1 m c t) k0_pay5 (before6 m c t) (rolled m c t) (tap0 m c t) (tap1 m c t) (tap2 m c t) x
      = gated (gates m c) (taps m c) r (x 1) :=
  congrArg₂ (· * ·) (gate_at m c t x r hr) (conv_at m c t x r hr)

theorem cot_at (x : S512x512.Idx) (r : Fin 4096) (hr : r.val = t.val * 512 + (x 0).val) :
    (iblk m c 2 t : FVec Ideal S512x512 .f32) x = cot m c (ix2 r (x 1)) := by
  blk_ext [iblk, V_main_arg1, idx t]

theorem gain_at (x : S1x512.Idx) : (iblk m c 4 t : FVec Ideal S1x512 .f32) x = gain m c (ix2 0 (x 1)) := by
  blk_ext [iblk, V_main_arg3, idx t]

end Values

end Cert.ConvGrad
-- ==== Proof.ConvGradValues.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.ConvGradBlocks
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ConvGrad
open Cert.KernelIdeal Cert.KernelIdeal.Gen

open Cert.NormGrad (IsReal)
open Cert.GroupNorm

section Stored

variable {sp : Space} (v : View sig .tc sp S8x512 .f32) (f : v.ty.Contents (Elt Ideal)) (w0 w1 w2 w3 : S1x512.Idx → EReal)
  (L : List (View.Piece (Elt Ideal) S8x512 .f32)) (y : S8x512.Idx)

theorem stored0 : v.read (Elt Ideal) (v.writes (Elt Ideal) f (⟨Rect.unit ![0, 0] ![1, 512] inb_S8x512_S1x512_0_0, w0⟩ :: L)) y
    = if (y 0).val = 0 then w0 (ix2 0 (y 1)) else v.read (Elt Ideal) (v.writes (Elt Ideal) f L) y := by
  by_cases h : (y 0).val = 0
  · rw [if_pos h]
    exact View.read_writes_cons_unit_of_mem v f _ _ _ y (ix2 0 (y 1)) rfl (Fin.forall_fin_two.mpr ⟨h, (Nat.zero_add _).symm⟩)
  · rw [if_neg h]
    rcases Nat.lt_or_gt_of_ne h with h | h
    · exact View.read_writes_cons_unit_of_not_mem v f _ _ _ y rfl 0 (by left; exact h)
    · exact View.read_writes_cons_unit_of_not_mem v f _ _ _ y rfl 0 (by right; exact h)

theorem stored1 : v.read (Elt Ideal) (v.writes (Elt Ideal) f (⟨Rect.unit ![1, 0] ![1, 512] inb_S8x512_S1x512_1_0, w1⟩ :: L)) y
    = if (y 0).val = 1 then w1 (ix2 0 (y 1)) else v.read (Elt Ideal) (v.writes (Elt Ideal) f L) y := by
  by_cases h : (y 0).val = 1
  · rw [if_pos h]
    exact View.read_writes_cons_unit_of_mem v f _ _ _ y (ix2 0 (y 1)) rfl (Fin.forall_fin_two.mpr ⟨h, (Nat.zero_add _).symm⟩)
  · rw [if_neg h]
    rcases Nat.lt_or_gt_of_ne h with h | h
    · exact View.read_writes_cons_unit_of_not_mem v f _ _ _ y rfl 0 (by left; exact h)
    · exact View.read_writes_cons_unit_of_not_mem v f _ _ _ y rfl 0 (by right; exact h)

theorem stored2 : v.read (Elt Ideal) (v.writes (Elt Ideal) f (⟨Rect.unit ![2, 0] ![1, 512] inb_S8x512_S1x512_2_0, w2⟩ :: L)) y
    = if (y 0).val = 2 then w2 (ix2 0 (y 1)) else v.read (Elt Ideal) (v.writes (Elt Ideal) f L) y := by
  by_cases h : (y 0).val = 2
  · rw [if_pos h]
    exact View.read_writes_cons_unit_of_mem v f _ _ _ y (ix2 0 (y 1)) rfl (Fin.forall_fin_two.mpr ⟨h, (Nat.zero_add _).symm⟩)
  · rw [if_neg h]
    rcases Nat.lt_or_gt_of_ne h with h | h
    · exact View.read_writes_cons_unit_of_not_mem v f _ _ _ y rfl 0 (by left; exact h)
    · exact View.read_writes_cons_unit_of_not_mem v f _ _ _ y rfl 0 (by right; exact h)

theorem stored3 : v.read (Elt Ideal) (v.writes (Elt Ideal) f (⟨Rect.unit ![3, 0] ![1, 512] inb_S8x512_S1x512_3_0, w3⟩ :: L)) y
    = if (y 0).val = 3 then w3 (ix2 0 (y 1)) else v.read (Elt Ideal) (v.writes (Elt Ideal) f L) y := by
  by_cases h : (y 0).val = 3
  · rw [if_pos h]
    exact View.read_writes_cons_unit_of_mem v f _ _ _ y (ix2 0 (y 1)) rfl (Fin.forall_fin_two.mpr ⟨h, (Nat.zero_add _).symm⟩)
  · rw [if_neg h]
    rcases Nat.lt_or_gt_of_ne h with h | h
    · exact View.read_writes_cons_unit_of_not_mem v f _ _ _ y rfl 0 (by left; exact h)
    · exact View.read_writes_cons_unit_of_not_mem v f _ _ _ y rfl 0 (by right; exact h)

/-- The four rows were stored from the first to the last: what the buffer holds. -/
theorem stored : v.read (Elt Ideal) (v.writes (Elt Ideal) f (⟨Rect.unit ![3, 0] ![1, 512] inb_S8x512_S1x512_3_0, w3⟩ :: ⟨Rect.unit ![2, 0] ![1, 512] inb_S8x512_S1x512_2_0, w2⟩ :: ⟨Rect.unit ![1, 0] ![1, 512] inb_S8x512_S1x512_1_0, w1⟩ :: ⟨Rect.unit ![0, 0] ![1, 512] inb_S8x512_S1x512_0_0, w0⟩ :: L)) y
    = if (y 0).val = 0 then w0 (ix2 0 (y 1)) else if (y 0).val = 1 then w1 (ix2 0 (y 1)) else if (y 0).val = 2 then w2 (ix2 0 (y 1)) else if (y 0).val = 3 then w3 (ix2 0 (y 1)) else v.read (Elt Ideal) (v.writes (Elt Ideal) f L) y := by
  rw [stored3, stored2, stored1, stored0]
  by_cases h0 : (y 0).val = 0
  · rw [if_neg (by omega), if_neg (by omega), if_neg (by omega), if_pos h0, if_pos h0]
  by_cases h1 : (y 0).val = 1
  · rw [if_neg (by omega), if_neg (by omega), if_pos h1, if_neg h0, if_pos h1]
  by_cases h2 : (y 0).val = 2
  · rw [if_neg (by omega), if_pos h2, if_neg h0, if_neg h1, if_pos h2]
  by_cases h3 : (y 0).val = 3
  · rw [if_pos h3, if_neg h0, if_neg h1, if_neg h2, if_pos h3]
  rw [if_neg h3, if_neg h2, if_neg h1, if_neg h0, if_neg h0, if_neg h1, if_neg h2, if_neg h3]

theorem row_read (X : FVec Ideal S8x512 .f32) (k : ℕ) (inb : ∀ a, (![k, 0] : Fin 2 → ℕ) a + (![1, 512] : Fin 2 → ℕ) a ≤ S8x512.size a)
    (h : (y 0).val = k) : View.ld (Val := Elt Ideal) (e' := .f32) X (Rect.unit (s := S8x512) ![k, 0] ![1, 512] inb) (ix2 0 (y 1) : S1x512.Idx) = X y :=
  congrArg X (funext (Fin.forall_fin_two.mpr ⟨Fin.ext (by rw [h]; rfl), Fin.ext (by show 0 + 1 * (y 1).val = (y 1).val; omega)⟩))

theorem filled (z : FVec Ideal S8x512 .f32) (x : S8x512.Idx) :
    View.canon (Val := Elt Ideal) (e := .f32) [⟨Rect.unit (s := S8x512) ![0, 0] ![8, 512] inb_S8x512_S8x512_0_0, z⟩] x = z x :=
  congrFun (View.canon_cons_unit_lit (Val := Elt Ideal) (e := .f32) (S := S8x512) inb_S8x512_S8x512_0_0 z [] (by decide)) x

/-- The buffer filled, row 0 read. -/
theorem fresh_row0 (z : FVec Ideal S8x512 .f32) (h : (y 0).val = 0) :
    v.readCov (Val := Elt Ideal) [⟨Rect.unit ![0, 0] ![8, 512] inb_S8x512_S8x512_0_0, z⟩]
      (Rect.unit (s := S8x512) ![0, 0] ![1, 512] inb_S8x512_S1x512_0_0).toLoadRect (ix2 0 (y 1) : S1x512.Idx) = z y := by
  rw [View.readCov_eq_canon', ← View.read_writes_junk_eq_canon v]
  dsimp only
  rw [View.read_writes_junk_eq_canon]
  refine (filled z _).trans ?_
  exact row_read y z 0 _ h

/-- The buffer filled and the rows before stored, row 1 read. -/
theorem fresh_row1 (z : FVec Ideal S8x512 .f32) (h : (y 0).val = 1) :
    v.readCov (Val := Elt Ideal) [⟨Rect.unit ![0, 0] ![1, 512] inb_S8x512_S1x512_0_0, w0⟩, ⟨Rect.unit ![0, 0] ![8, 512] inb_S8x512_S8x512_0_0, z⟩]
      (Rect.unit (s := S8x512) ![1, 0] ![1, 512] inb_S8x512_S1x512_1_0).toLoadRect (ix2 0 (y 1) : S1x512.Idx) = z y := by
  rw [View.readCov_eq_canon', ← View.read_writes_junk_eq_canon v]
  dsimp only
  rw [View.read_writes_cons_unit_of_not_mem v _ _ _ _ _ rfl 0 (by right; exact (by decide : 0 + 1 ≤ 1))]
  rw [View.read_writes_junk_eq_canon]
  refine (filled z _).trans ?_
  exact row_read y z 1 _ h

/-- The buffer filled and the rows before stored, row 2 read. -/
theorem fresh_row2 (z : FVec Ideal S8x512 .f32) (h : (y 0).val = 2) :
    v.readCov (Val := Elt Ideal) [⟨Rect.unit ![1, 0] ![1, 512] inb_S8x512_S1x512_1_0, w1⟩, ⟨Rect.unit ![0, 0] ![1, 512] inb_S8x512_S1x512_0_0, w0⟩, ⟨Rect.unit ![0, 0] ![8, 512] inb_S8x512_S8x512_0_0, z⟩]
      (Rect.unit (s := S8x512) ![2, 0] ![1, 512] inb_S8x512_S1x512_2_0).toLoadRect (ix2 0 (y 1) : S1x512.Idx) = z y := by
  rw [View.readCov_eq_canon', ← View.read_writes_junk_eq_canon v]
  dsimp only
  rw [View.read_writes_cons_unit_of_not_mem v _ _ _ _ _ rfl 0 (by right; exact (by decide : 1 + 1 ≤ 2))]
  rw [View.read_writes_cons_unit_of_not_mem v _ _ _ _ _ rfl 0 (by right; exact (by decide : 0 + 1 ≤ 2))]
  rw [View.read_writes_junk_eq_canon]
  refine (filled z _).trans ?_
  exact row_read y z 2 _ h

/-- The buffer filled and the rows before stored, row 3 read. -/
theorem fresh_row3 (z : FVec Ideal S8x512 .f32) (h : (y 0).val = 3) :
    v.readCov (Val := Elt Ideal) [⟨Rect.unit ![2, 0] ![1, 512] inb_S8x512_S1x512_2_0, w2⟩, ⟨Rect.unit ![1, 0] ![1, 512] inb_S8x512_S1x512_1_0, w1⟩, ⟨Rect.unit ![0, 0] ![1, 512] inb_S8x512_S1x512_0_0, w0⟩, ⟨Rect.unit ![0, 0] ![8, 512] inb_S8x512_S8x512_0_0, z⟩]
      (Rect.unit (s := S8x512) ![3, 0] ![1, 512] inb_S8x512_S1x512_3_0).toLoadRect (ix2 0 (y 1) : S1x512.Idx) = z y := by
  rw [View.readCov_eq_canon', ← View.read_writes_junk_eq_canon v]
  dsimp only
  rw [View.read_writes_cons_unit_of_not_mem v _ _ _ _ _ rfl 0 (by right; exact (by decide : 2 + 1 ≤ 3))]
  rw [View.read_writes_cons_unit_of_not_mem v _ _ _ _ _ rfl 0 (by right; exact (by decide : 1 + 1 ≤ 3))]
  rw [View.read_writes_cons_unit_of_not_mem v _ _ _ _ _ rfl 0 (by right; exact (by decide : 0 + 1 ≤ 3))]
  rw [View.read_writes_junk_eq_canon]
  refine (filled z _).trans ?_
  exact row_read y z 3 _ h

/-- The buffer filled, then its first four rows stored. -/
theorem fresh_stored (v : View sig .tc sp S8x512 .f32) (z : FVec Ideal S8x512 .f32) :
    View.canon (Val := Elt Ideal) (e := .f32) [⟨Rect.unit ![3, 0] ![1, 512] inb_S8x512_S1x512_3_0, w3⟩, ⟨Rect.unit ![2, 0] ![1, 512] inb_S8x512_S1x512_2_0, w2⟩, ⟨Rect.unit ![1, 0] ![1, 512] inb_S8x512_S1x512_1_0, w1⟩, ⟨Rect.unit ![0, 0] ![1, 512] inb_S8x512_S1x512_0_0, w0⟩, ⟨Rect.unit ![0, 0] ![8, 512] inb_S8x512_S8x512_0_0, z⟩] y
    = if (y 0).val = 0 then w0 (ix2 0 (y 1)) else if (y 0).val = 1 then w1 (ix2 0 (y 1)) else if (y 0).val = 2 then w2 (ix2 0 (y 1)) else if (y 0).val = 3 then w3 (ix2 0 (y 1)) else z y := by
  rw [← View.read_writes_junk_eq_canon v, stored, View.read_writes_junk_eq_canon,
    filled]

end Stored

variable (m : (ℓ : Loc nD τ sig) → Buf (Elt Ideal) ℓ)

/-! # The gradient of the gated convolution and its group norm: results

The kernel's three results at a grid point, and the sums that it gathers over the points. -/

section Sums

variable (a b d : FVec Ideal S512x512 .f32) (z : FVec Ideal S1x512 .f32) (n : Fin 512)

theorem kernel_row0 : k0_pay23 (F := Ideal) a b d z (ix2 0 n) = z (ix2 0 n) + ∑ i : Fin 512, d (ix2 i n) * a (ix2 i n) * b (ix2 i n) := by
  pointwise [k0_pay23, k0_pay21]

theorem kernel_row1 : k0_pay24 (F := Ideal) a b d z (ix2 0 n) = z (ix2 0 n) + ∑ i : Fin 512, d (ix2 i n) * a (ix2 i n) * b (ix2 i n) := by
  pointwise [k0_pay24, k0_pay21]

theorem kernel_row2 : k0_pay25 (F := Ideal) a b d z (ix2 0 n) = z (ix2 0 n) + ∑ i : Fin 512, d (ix2 i n) * a (ix2 i n) * b (ix2 i n) := by
  pointwise [k0_pay25, k0_pay21]

theorem kernel_row3 : k0_pay1 (F := Ideal) (k0_pay26 z) (k0_pay27 a b) (ix2 0 n) = z (ix2 0 n) + ∑ i : Fin 512, b (ix2 i n) * a (ix2 i n) := by
  pointwise [k0_pay1, k0_pay26, k0_pay27]

theorem zero_sums (y : S8x512.Idx) : k0_pay22 (F := Ideal) y = 0 := by pointwise [k0_pay22]

end Sums

/-- All arguments are real numbers. -/
structure Reals (c : Dev nD) : Prop where
  gates : ∀ i, IsReal (gates m c i)
  cot : ∀ i, IsReal (cot m c i)
  taps : ∀ i, IsReal (taps m c i)
  gain : ∀ i, IsReal (gain m c i)

instance preFacts : Cert.Pre_finite.Facts := ⟨by decide, by decide, by decide, by decide⟩

theorem reals (hm : Cert.Pre_KernelIdeal_finite m) (c : Dev nD) : Reals m c := by
  obtain ⟨h0, h1, h2, h3⟩ := hm c
  exact ⟨fun j => IsReal.of_abs_lt (congrFun h0 j), fun j => IsReal.of_abs_lt (congrFun h1 j), fun j => IsReal.of_abs_lt (congrFun h2 j),
    fun j => IsReal.of_abs_lt (congrFun h3 j)⟩

section Values

variable {m} {c : Dev nD} (hr : Reals m c) (t : Fin cfg0.N)

include hr in
theorem above_isReal (d : ℕ) (r : Fin 4096) (n : Fin 512) : IsReal (above (gates m c) d r n) := by
  unfold above
  split_ifs
  · exact (hr.gates _).mul (hr.gates _)
  · exact IsReal.zero

include hr in
theorem gated_isReal (r : Fin 4096) (n : Fin 512) : IsReal (gated (gates m c) (taps m c) r n) :=
  (hr.gates _).mul ((((hr.taps _).mul (above_isReal hr _ _ _)).add ((hr.taps _).mul (above_isReal hr _ _ _))).add ((hr.taps _).mul (above_isReal hr _ _ _)))

theorem row_lt (q : Fin 512) : t.val * 512 + q.val < 4096 := by
  have := q.isLt
  have : t.val < 8 := lt_of_lt_of_eq t.isLt N_0
  omega

/-- A row of the block at a point, counted in the whole array. -/
def row (q : Fin 512) : Fin 4096 := ⟨t.val * 512 + q.val, row_lt t q⟩

include hr in
theorem yc_isReal (x : S512x512.Idx) : IsReal (yc (gate m c t) (up0 m c t) (up1 m c t) k0_pay5 (before6 m c t) (rolled m c t) (tap0 m c t) (tap1 m c t) (tap2 m c t) x) := by
  rw [gated_at m c t x (row t (x 0)) rfl]
  exact gated_isReal hr _ _

variable (m c) in
/-- The group's cotangent as the kernel forms it at a grid point. -/
abbrev backAt : FVec Ideal S512x512 .f32 := k0_pay19 (F := Ideal) (k0_pay10 (iblk m c 5 t)) (k0_pay11 (gate m c t) (up0 m c t) (up1 m c t) k0_pay5 (before6 m c t) (rolled m c t) (tap0 m c t) (tap1 m c t) (tap2 m c t)) (k0_pay13 (gate m c t) (up0 m c t) (up1 m c t) k0_pay5 (before6 m c t) (rolled m c t) (tap0 m c t) (tap1 m c t) (tap2 m c t) (iblk m c 5 t)) (k0_pay14 (gate m c t) (up0 m c t) (up1 m c t) k0_pay5 (before6 m c t) (rolled m c t) (tap0 m c t) (tap1 m c t) (tap2 m c t) (iblk m c 5 t)) (k0_pay15 (gate m c t) (up0 m c t) (up1 m c t) k0_pay5 (before6 m c t) (rolled m c t) (tap0 m c t) (tap1 m c t) (tap2 m c t) (iblk m c 5 t)) (k0_pay16 (gate m c t) (up0 m c t) (up1 m c t) k0_pay5 (before6 m c t) (rolled m c t) (tap0 m c t) (tap1 m c t) (tap2 m c t)) (constant S512x128 FTy.f32 0#32) (iblk m c 2 t) (iblk m c 4 t)

variable (m c) in
/-- The normed rows as the kernel forms them at a grid point. -/
abbrev normedAt : FVec Ideal S512x512 .f32 := k0_pay18 (F := Ideal) (k0_pay10 (iblk m c 5 t)) (k0_pay11 (gate m c t) (up0 m c t) (up1 m c t) k0_pay5 (before6 m c t) (rolled m c t) (tap0 m c t) (tap1 m c t) (tap2 m c t)) (k0_pay13 (gate m c t) (up0 m c t) (up1 m c t) k0_pay5 (before6 m c t) (rolled m c t) (tap0 m c t) (tap1 m c t) (tap2 m c t) (iblk m c 5 t)) (k0_pay14 (gate m c t) (up0 m c t) (up1 m c t) k0_pay5 (before6 m c t) (rolled m c t) (tap0 m c t) (tap1 m c t) (tap2 m c t) (iblk m c 5 t)) (k0_pay15 (gate m c t) (up0 m c t) (up1 m c t) k0_pay5 (before6 m c t) (rolled m c t) (tap0 m c t) (tap1 m c t) (tap2 m c t) (iblk m c 5 t)) (k0_pay16 (gate m c t) (up0 m c t) (up1 m c t) k0_pay5 (before6 m c t) (rolled m c t) (tap0 m c t) (tap1 m c t) (tap2 m c t)) (constant S512x128 FTy.f32 0#32)

theorem group_at (x : S512x512.Idx) (r : Fin 4096) (h : r.val = t.val * 512 + (x 0).val) :
    (fun n => yc (gate m c t) (up0 m c t) (up1 m c t) k0_pay5 (before6 m c t) (rolled m c t) (tap0 m c t) (tap1 m c t) (tap2 m c t) (ix2 (x 0) n)) = gated (gates m c) (taps m c) r :=
  funext fun n => gated_at m c t (ix2 (x 0) n) r h

theorem dn_at (x : S512x512.Idx) (r : Fin 4096) (h : r.val = t.val * 512 + (x 0).val) (X : FVec Ideal S512x512 .f32) (hX : X = iblk m c 2 t)
    (Y : FVec Ideal S1x512 .f32) (hY : Y = iblk m c 4 t) :
    (fun n => X (ix2 (x 0) n) * Y (ix2 0 n)) = dn (cot m c) (gain m c) r := by
  subst hX
  subst hY
  exact funext fun n => congrArg₂ (· * ·) (cot_at m c t (ix2 (x 0) n) r h) (gain_at m c t (ix2 0 n))

include hr in
theorem normed_at (x : S512x512.Idx) (r : Fin 4096) (h : r.val = t.val * 512 + (x 0).val) :
    normedAt m c t x = gated (gates m c) (taps m c) r (x 1) * scale (group (gated (gates m c) (taps m c) r) (x 1)) := by
  refine (kernel_normed (gm := (iblk m c 5 t)) (hgm := matrix_at m c t) (hy := yc_isReal hr t) (x := x) ..).trans ?_
  rw [group_at t x r h, gated_at m c t x r h]

include hr in
theorem back_at (x : S512x512.Idx) (r : Fin 4096) (h : r.val = t.val * 512 + (x 0).val) :
    backAt m c t x = Cert.ReferenceIdeal.Read.val_main_v66 (F := Ideal) (gates m c) (cot m c) (taps m c) (gain m c) (ix2 r (x 1)) := by
  refine (kernel_back (gm := (iblk m c 5 t)) (D := iblk m c 2 t) (g := iblk m c 4 t) (hgm := matrix_at m c t) (hy := yc_isReal hr t) (x := x) (hD := fun x => ?_) (hg := fun x => ?_) ..).trans ?_
  · exact (cot_at m c t x (row t (x 0)) rfl).symm ▸ hr.cot _
  · exact (gain_at m c t x).symm ▸ hr.gain _
  · rw [group_at t x r h, dn_at t x r h _ rfl _ rfl, reference_steps]
    exact (steps_eq_back (fun k => gated_isReal hr _ _) (fun k => (hr.cot _).mul (hr.gain _)) _).symm

include hr in
/-- The convolution's cotangent. -/
theorem dy_at (x : S512x512.Idx) (r : Fin 4096) (h : r.val = t.val * 512 + (x 0).val) :
    backAt m c t x * gate m c t x = Cert.ReferenceIdeal.Read.val_main_v67 (F := Ideal) (gates m c) (cot m c) (taps m c) (gain m c) (ix2 r (x 1)) := by
  rw [back_at hr t x r h, gate_at m c t x r h, Cert.ReferenceIdeal.Read.val_main_v67_apply]
  pointwise [Cert.ReferenceIdeal.Read.val_main_v0]
  exact mul_comm _ _

include hr in
/-- The gate's cotangent. -/
theorem dbg_at (x : S512x512.Idx) (r : Fin 4096) (h : r.val = t.val * 512 + (x 0).val) :
    backAt m c t x * k0_pay9 (F := Ideal) (up0 m c t) (up1 m c t) k0_pay5 (before6 m c t) (rolled m c t) (tap0 m c t) (tap1 m c t) (tap2 m c t) x = Cert.ReferenceIdeal.Read.val_main_v113 (F := Ideal) (gates m c) (cot m c) (taps m c) (gain m c) (ix2 r (x 1)) := by
  rw [back_at hr t x r h, conv_at m c t x r h]
  refine Eq.trans ?_ (Cert.ReferenceIdeal.Read.val_main_v68_apply ..).symm
  exact congrArg (_ * ·) (reference_conv _ _ (ix2 r (x 1))).symm

variable (m c) in
/-- What a point adds to the four sums. -/
def part (y : S8x512.Idx) : EReal :=
  if (y 0).val = 0 then ∑ i : Fin 512, Cert.ReferenceIdeal.Read.val_main_v67 (F := Ideal) (gates m c) (cot m c) (taps m c) (gain m c) (ix2 (row t i) (y 1)) * above (gates m c) 2 (row t i) (y 1)
  else if (y 0).val = 1 then ∑ i : Fin 512, Cert.ReferenceIdeal.Read.val_main_v67 (F := Ideal) (gates m c) (cot m c) (taps m c) (gain m c) (ix2 (row t i) (y 1)) * above (gates m c) 1 (row t i) (y 1)
  else if (y 0).val = 2 then ∑ i : Fin 512, Cert.ReferenceIdeal.Read.val_main_v67 (F := Ideal) (gates m c) (cot m c) (taps m c) (gain m c) (ix2 (row t i) (y 1)) * above (gates m c) 0 (row t i) (y 1)
  else if (y 0).val = 3 then ∑ i : Fin 512, gated (gates m c) (taps m c) (row t i) (y 1) * scale (group (gated (gates m c) (taps m c) (row t i)) (y 1)) * cot m c (ix2 (row t i) (y 1))
  else 0

include hr in
theorem row0_at (z : FVec Ideal S1x512 .f32) (n : Fin 512) : k0_pay23 (F := Ideal) (gate m c t) (k0_pay8 (F := Ideal) k0_pay5 (before6 m c t) (rolled m c t)) (backAt m c t) z (ix2 0 n)
    = z (ix2 0 n) + ∑ i : Fin 512, Cert.ReferenceIdeal.Read.val_main_v67 (F := Ideal) (gates m c) (cot m c) (taps m c) (gain m c) (ix2 (row t i) n) * above (gates m c) 2 (row t i) n :=
  (kernel_row0 ..).trans (congrArg (z (ix2 0 n) + ·) (Finset.sum_congr rfl fun i _ =>
    congrArg₂ (· * ·) (dy_at hr t (ix2 i n) (row t i) rfl) (up2_at m c t (ix2 i n) (row t i) rfl)))

include hr in
theorem row1_at (z : FVec Ideal S1x512 .f32) (n : Fin 512) : k0_pay24 (F := Ideal) (gate m c t) (up1 m c t) (backAt m c t) z (ix2 0 n)
    = z (ix2 0 n) + ∑ i : Fin 512, Cert.ReferenceIdeal.Read.val_main_v67 (F := Ideal) (gates m c) (cot m c) (taps m c) (gain m c) (ix2 (row t i) n) * above (gates m c) 1 (row t i) n :=
  (kernel_row1 ..).trans (congrArg (z (ix2 0 n) + ·) (Finset.sum_congr rfl fun i _ =>
    congrArg₂ (· * ·) (dy_at hr t (ix2 i n) (row t i) rfl) (up1_at m c t (ix2 i n) (row t i) rfl)))

include hr in
theorem row2_at (z : FVec Ideal S1x512 .f32) (n : Fin 512) : k0_pay25 (F := Ideal) (gate m c t) (up0 m c t) (backAt m c t) z (ix2 0 n)
    = z (ix2 0 n) + ∑ i : Fin 512, Cert.ReferenceIdeal.Read.val_main_v67 (F := Ideal) (gates m c) (cot m c) (taps m c) (gain m c) (ix2 (row t i) n) * above (gates m c) 0 (row t i) n :=
  (kernel_row2 ..).trans (congrArg (z (ix2 0 n) + ·) (Finset.sum_congr rfl fun i _ =>
    congrArg₂ (· * ·) (dy_at hr t (ix2 i n) (row t i) rfl) (up0_at m c t (ix2 i n) (row t i) rfl)))

include hr in
theorem row3_at (z : FVec Ideal S1x512 .f32) (n : Fin 512) : k0_pay1 (F := Ideal) (k0_pay26 z) (k0_pay27 (normedAt m c t) (iblk m c 2 t)) (ix2 0 n)
    = z (ix2 0 n) + ∑ i : Fin 512, gated (gates m c) (taps m c) (row t i) n * scale (group (gated (gates m c) (taps m c) (row t i)) n) * cot m c (ix2 (row t i) n) :=
  (kernel_row3 ..).trans (congrArg (z (ix2 0 n) + ·) (Finset.sum_congr rfl fun i _ =>
    (congrArg₂ (fun p q : EReal => p * q) (cot_at m c t (ix2 i n) (row t i) rfl) (normed_at hr t (ix2 i n) (row t i) rfl)).trans (mul_comm _ _)))

include hr in
theorem sums_first (h : t.val % 8 = 0) (y : S8x512.Idx) : (outsAt0 m c t.val t.isLt).2.2 y = 0 + part m c t y := by
  rw [outsAt0_A m c t h]
  frame_out
  rw [fresh_stored _ _ _ _ _ (ms0_8 t).view, part]
  by_cases e0 : (y 0).val = 0
  · rw [if_pos e0, if_pos e0]
    exact (row0_at hr t _ (y 1)).trans (congrArg (· + _) ((fresh_row0 (v := (ms0_8 t).view) (y := y) (h := e0) ..).trans (zero_sums y)))
  by_cases e1 : (y 0).val = 1
  · rw [if_neg e0, if_pos e1, if_neg e0, if_pos e1]
    exact (row1_at hr t _ (y 1)).trans (congrArg (· + _) ((fresh_row1 (v := (ms0_8 t).view) (y := y) (h := e1) ..).trans (zero_sums y)))
  by_cases e2 : (y 0).val = 2
  · rw [if_neg e0, if_neg e1, if_pos e2, if_neg e0, if_neg e1, if_pos e2]
    exact (row2_at hr t _ (y 1)).trans (congrArg (· + _) ((fresh_row2 (v := (ms0_8 t).view) (y := y) (h := e2) ..).trans (zero_sums y)))
  by_cases e3 : (y 0).val = 3
  · rw [if_neg e0, if_neg e1, if_neg e2, if_pos e3, if_neg e0, if_neg e1, if_neg e2, if_pos e3]
    exact (row3_at hr t _ (y 1)).trans (congrArg (· + _) ((fresh_row3 (v := (ms0_8 t).view) (y := y) (h := e3) ..).trans (zero_sums y)))
  rw [if_neg e0, if_neg e1, if_neg e2, if_neg e3, if_neg e0, if_neg e1, if_neg e2, if_neg e3, add_zero, zero_sums]

include hr in
theorem sums_next (h : ¬ t.val % 8 = 0) (hp : t.val - 1 < cfg0.N) (y : S8x512.Idx) :
    (outsAt0 m c t.val t.isLt).2.2 y = (outsAt0 m c (t.val - 1) hp).2.2 y + part m c t y := by
  rw [outsAt0_B m c t h]
  frame_out
  rw [stored]
  simp only [View.writes_nil, Idealize.ShloMosaic.Memref.IsWhole.read_unread]
  rw [part]
  by_cases e0 : (y 0).val = 0
  · rw [if_pos e0, if_pos e0]
    exact (row0_at hr t _ (y 1)).trans (congrArg (· + _) (row_read y _ 0 _ e0))
  by_cases e1 : (y 0).val = 1
  · rw [if_neg e0, if_pos e1, if_neg e0, if_pos e1]
    exact (row1_at hr t _ (y 1)).trans (congrArg (· + _) (row_read y _ 1 _ e1))
  by_cases e2 : (y 0).val = 2
  · rw [if_neg e0, if_neg e1, if_pos e2, if_neg e0, if_neg e1, if_pos e2]
    exact (row2_at hr t _ (y 1)).trans (congrArg (· + _) (row_read y _ 2 _ e2))
  by_cases e3 : (y 0).val = 3
  · rw [if_neg e0, if_neg e1, if_neg e2, if_pos e3, if_neg e0, if_neg e1, if_neg e2, if_pos e3]
    exact (row3_at hr t _ (y 1)).trans (congrArg (· + _) (row_read y _ 3 _ e3))
  rw [if_neg e0, if_neg e1, if_neg e2, if_neg e3, if_neg e0, if_neg e1, if_neg e2, if_neg e3, add_zero]

include hr in
theorem sums_total (ht : t.val % 8 = 7) (y : S8x512.Idx) : (outsAt0 m c t.val t.isLt).2.2 y
    = Cert.ReferenceIdeal.Read.val_main_v115 (F := Ideal) (gates m c) (cot m c) (taps m c) (gain m c) y := by
  have hN : t.val < 8 := lt_of_lt_of_eq t.isLt N_0
  rw [Pipeline.eq_sum_fin_of_reset_step_apply_of_flush (fun n h => (outsAt0 m c n h).2.2) 8 (fun _ => 0) (part m c)
    (fun t h j => sums_first hr t h j) (fun t h j => sums_next hr t h _ j) t ht _, zero_add, reference_sums]
  by_cases e0 : (y 0).val = 0
  · rw [if_pos e0]
    refine (Finset.sum_congr rfl fun s _ => (if_pos e0)).trans ?_
    refine Fin.sum_mul_add_congr fun s k hl => ?_
    refine congrArg (fun r => Cert.ReferenceIdeal.Read.val_main_v67 (F := Ideal) (gates m c) (cot m c) (taps m c) (gain m c) (ix2 r (y 1)) * above (gates m c) 2 r (y 1)) (Fin.ext ?_)
    show (8 * (t.val / 8) + s.val) * 512 + k.val = s.val * 512 + k.val
    omega
  by_cases e1 : (y 0).val = 1
  · rw [if_neg e0, if_pos e1]
    refine (Finset.sum_congr rfl fun s _ => ((if_neg e0).trans (if_pos e1))).trans ?_
    refine Fin.sum_mul_add_congr fun s k hl => ?_
    refine congrArg (fun r => Cert.ReferenceIdeal.Read.val_main_v67 (F := Ideal) (gates m c) (cot m c) (taps m c) (gain m c) (ix2 r (y 1)) * above (gates m c) 1 r (y 1)) (Fin.ext ?_)
    show (8 * (t.val / 8) + s.val) * 512 + k.val = s.val * 512 + k.val
    omega
  by_cases e2 : (y 0).val = 2
  · rw [if_neg e0, if_neg e1, if_pos e2]
    refine (Finset.sum_congr rfl fun s _ => ((if_neg e0).trans ((if_neg e1).trans (if_pos e2)))).trans ?_
    refine Fin.sum_mul_add_congr fun s k hl => ?_
    refine congrArg (fun r => Cert.ReferenceIdeal.Read.val_main_v67 (F := Ideal) (gates m c) (cot m c) (taps m c) (gain m c) (ix2 r (y 1)) * above (gates m c) 0 r (y 1)) (Fin.ext ?_)
    show (8 * (t.val / 8) + s.val) * 512 + k.val = s.val * 512 + k.val
    omega
  by_cases e3 : (y 0).val = 3
  · rw [if_neg e0, if_neg e1, if_neg e2, if_pos e3]
    refine (Finset.sum_congr rfl fun s _ => ((if_neg e0).trans ((if_neg e1).trans ((if_neg e2).trans (if_pos e3))))).trans ?_
    refine Fin.sum_mul_add_congr fun s k hl => ?_
    refine congrArg (fun r => gated (gates m c) (taps m c) r (y 1) * scale (group (gated (gates m c) (taps m c) r) (y 1)) * cot m c (ix2 r (y 1))) (Fin.ext ?_)
    show (8 * (t.val / 8) + s.val) * 512 + k.val = s.val * 512 + k.val
    omega
  rw [if_neg e0, if_neg e1, if_neg e2, if_neg e3]
  exact Finset.sum_eq_zero fun s _ => (if_neg e0).trans ((if_neg e1).trans ((if_neg e2).trans (if_neg e3)))

include hr in
theorem final_sums : (dats m 0 c).arrAt 8 (cfgs 0).N = Cert.ReferenceIdeal.Read.val_main_v115 (F := Ideal) (gates m c) (cot m c) (taps m c) (gain m c) := by
  refine (dats m 0 c).arrAt_eq_of_covers 8 _ (by decide +kernel) fun t hf y => ?_
  blk_simp
  rw [after0_8]
  refine (sums_total hr t ((flush0_8 t).mp hf) _).trans (congrArg _ ?_)
  blk_ext [idx t]

include hr in
theorem final_dbg : (dats m 0 c).arrAt 6 (cfgs 0).N = Cert.ReferenceIdeal.Read.val_main_v113 (F := Ideal) (gates m c) (cot m c) (taps m c) (gain m c) := by
  refine (dats m 0 c).arrAt_eq_of_covers 6 _ (by decide +kernel) fun t hf y => ?_
  blk_simp
  rw [after0_6]
  by_cases h : t.val % 8 = 0
  all_goals
    first | rw [outsAt0_A m c t h] | rw [outsAt0_B m c t h]
    frame_out
    refine (dbg_at hr t y (row t (y 0)) rfl).trans (congrArg _ ?_)
    blk_ext [idx t]
    rfl

include hr in
theorem final_dy : (dats m 0 c).arrAt 7 (cfgs 0).N = Cert.ReferenceIdeal.Read.val_main_v67 (F := Ideal) (gates m c) (cot m c) (taps m c) (gain m c) := by
  refine (dats m 0 c).arrAt_eq_of_covers 7 _ (by decide +kernel) fun t hf y => ?_
  blk_simp
  rw [after0_7]
  by_cases h : t.val % 8 = 0
  all_goals
    first | rw [outsAt0_A m c t h] | rw [outsAt0_B m c t h]
    frame_out
    refine (dy_at hr t y (row t (y 0)) rfl).trans (congrArg _ ?_)
    blk_ext [idx t]
    rfl

end Values

end Cert.ConvGrad
-- ==== Proof.ConvGrad.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.ConvGradValues
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ConvGrad
open Cert.KernelIdeal Cert.KernelIdeal.Gen

open Cert.NormGrad (IsReal)
open Cert.GroupNorm

set_option maxHeartbeats 2000000 in
/-- The three results of the backward through the group norm and the gated convolution are those of the reference, for real
arguments. -/
theorem algebraic : Cert.algebraic_KernelIdeal_ReferenceIdeal_pre_finite := by
  pair_intro
  · run_from (Cert.KernelIdeal.Gen.unchanged m g) & (Cert.KernelIdeal.Gen.run_main m g)
  · refine Idealize.ShloMosaic.θ_run_mono (Cert.ReferenceIdeal.Value.run m' g') fun r hrun c => ?_
    obtain ⟨e0, e1, e2, hargs⟩ := hrun c
    have hr := reals m hpre c
    obtain ⟨h0, h1, h2, h3⟩ := hagree c
    refine ⟨e0.trans ?_, e1.trans ?_, e2.trans ?_, hargs⟩
    · rw [Cert.ReferenceIdeal.Read.val_main_v113_eq, h0, h1, h2, h3]
      exact (final_dbg hr).symm
    · rw [Cert.ReferenceIdeal.Read.val_main_v67_eq, h0, h1, h2, h3]
      exact (final_dy hr).symm
    · rw [Cert.ReferenceIdeal.Read.val_main_v115_eq, h0, h1, h2, h3]
      exact (final_sums hr).symm

end Cert.ConvGrad
-- ==== Proof.ConvForward.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.ConvGradBlocks
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ConvForward
open Cert.Kernel10Ideal Cert.Kernel10Ideal.Gen

open Cert.NormGrad (IsReal)
open Cert.GroupNorm
open Cert.ConvGrad (floorDiv remainder row_word lane_word number_word_eq select_word_eq above conv gated group)

/-! # The gated convolution and its group norm

The rows are those of `ConvGradRows`; here the forward call and its reference. -/

section Rows

variable (G : FVec Ideal S4096x1536 .f32) (W : FVec Ideal S3x512 .f32) (g : FVec Ideal S1x512 .f32)

open Cert.Reference10Ideal.Read

theorem reference_above2 (j : S4096x512.Idx) : val_main_v8 (F := Ideal) G j = above G 2 (j 0) (j 1) := by
  pointwise [val_main_v8, val_main_v5, val_main_v4, val_main_v3, val_main_v2, val_main_v1, val_main_cst]
  unfold above
  by_cases h : 2 ≤ (j 0).val
  · rw [dif_neg (by omega), if_pos h]
  · rw [dif_pos (by omega), if_neg h]

theorem reference_above1 (j : S4096x512.Idx) : val_main_v16 (F := Ideal) G j = above G 1 (j 0) (j 1) := by
  pointwise [val_main_v16, val_main_v5, val_main_v4, val_main_v3, val_main_v2, val_main_v1, val_main_cst]
  unfold above
  by_cases h : 1 ≤ (j 0).val
  · rw [dif_neg (by omega), if_pos h]
    have e : 1 + (j 0).val - 2 = (j 0).val - 1 := by omega
    simp only [e]
  · rw [dif_pos (by omega), if_neg h]

theorem reference_above0 (j : S4096x512.Idx) : val_main_v23 (F := Ideal) G j = above G 0 (j 0) (j 1) := by
  pointwise [val_main_v23, val_main_v5, val_main_v4, val_main_v3, val_main_v2, val_main_v1, val_main_cst]
  unfold above
  exact (if_pos (Nat.zero_le _)).symm

theorem reference_conv (j : S4096x512.Idx) : val_main_v27 (F := Ideal) G W j = conv G W (j 0) (j 1) := by
  pointwise [val_main_v27, val_main_v26, val_main_v25, val_main_v24, val_main_v22, val_main_v21, val_main_v20, val_main_v19, val_main_v18, val_main_v17,
    val_main_v15, val_main_v14, val_main_v13, val_main_v12, val_main_cst_0, val_main_v11, val_main_v10, val_main_v9, val_main_v7, val_main_v6]
  exact congrArg₂ (· + ·) (congrArg₂ (· + ·) (congrArg (_ * ·) (reference_above2 G j)) (congrArg (_ * ·) (reference_above1 G j)))
    (congrArg (_ * ·) (reference_above0 G j))

theorem reference_gated (j : S4096x512.Idx) : val_main_v28 (F := Ideal) G W j = gated G W (j 0) (j 1) := by
  rw [val_main_v28_apply, reference_conv]
  pointwise [val_main_v0]
  rfl

theorem reference_width (j : S4096x512.Idx) :
    Ideal.div (∑ x : Fin 64, val_main_v28 (F := Ideal) G W (ix2 (j 0) ⟨(j 1).val / 64 * 64 + x.val, by have : (j 1).val < 512 := (j 1).isLt; omega⟩)
        * val_main_v28 (F := Ideal) G W (ix2 (j 0) ⟨(j 1).val / 64 * 64 + x.val, by have : (j 1).val < 512 := (j 1).isLt; omega⟩)) (Ideal.ofBits .f32 0x42800000#32)
        + Ideal.ofBits .f32 0x358637BD#32 = width (group (gated G W (j 0)) (j 1)) := by
  refine congrArg (fun z => Ideal.div z _ + _) (Finset.sum_congr rfl fun x _ => ?_)
  exact congrArg₂ (· * ·) (reference_gated G W _) (reference_gated G W _)

theorem reference_normed (j : S4096x512.Idx) :
    val_main_v43 (F := Ideal) G W g j = gated G W (j 0) (j 1) * scale (group (gated G W (j 0)) (j 1)) * g (ix2 0 (j 1)) := by
  pointwise [val_main_v43, val_main_v42, val_main_v41, val_main_v40, val_main_v39, val_main_v38, val_main_v37, val_main_v36, val_main_v35, val_main_cst_3, val_main_v34, val_main_v33, val_main_cst_2, val_main_v32, val_main_v31, val_main_cst_1, val_main_v30, val_main_v29]
  exact congrArg (fun z : EReal => z * g (ix2 0 (j 1))) (congrArg₂ (fun a b : EReal => a * b) (reference_gated G W j) (congrArg Ideal.rsqrt (reference_width G W j)))

end Rows

section Kernel

variable (v2 v5 v17 : FVec Ideal S512x512 .f32) (v19 : IVec S512x512 1) (v24 : FVec Ideal S1x512 .f32) (v35 : FVec Ideal S512x512 .f32)
  (w0 w1 w2 : FVec Ideal S1x512 .f32) (gm : FVec Ideal S256x128 .bf16) (g : FVec Ideal S1x512 .f32)

/-- The gated convolution's block. -/
abbrev yc (x : S512x512.Idx) : EReal := k0_pay8 (F := Ideal) v2 v5 v17 v19 v24 v35 w0 w1 w2 x

theorem kernel_gated (x : S512x512.Idx) : yc v2 v5 v17 v19 v24 v35 w0 w1 w2 x
    = v2 x * (w0 (ix2 0 (x 1)) * Scalar.select (v19 x) (v24 (ix2 0 (x 1))) (v35 x) + w1 (ix2 0 (x 1)) * v17 x + w2 (ix2 0 (x 1)) * v5 x) := by
  pointwise [yc, k0_pay8]

variable (hgm : ∀ i : S256x128.Idx, gm i = (if (i 0).val % 128 / 64 = (i 1).val / 64 then 1 else 0 : EReal))
  (hy : ∀ x, IsReal (yc v2 v5 v17 v19 v24 v35 w0 w1 w2 x))

include hgm in
theorem gm_at (k l : ℕ) (hk : k < 128) (hl : l < 128) :
    gm (ix2 ⟨k, by omega⟩ ⟨l, hl⟩) = (if k / 64 = l / 64 then 1 else 0 : EReal) := by
  rw [hgm]
  show (if k % 128 / 64 = l / 64 then 1 else 0 : EReal) = _
  rw [Nat.mod_eq_of_lt hk]

include hgm hy in
theorem kernel_out (x : S512x512.Idx) :
    k0_pay1 (F := Ideal) (k0_pay8 v2 v5 v17 v19 v24 v35 w0 w1 w2) (k0_pay10 gm) (k0_pay11 v2 v5 v17 v19 v24 v35 w0 w1 w2 gm) (k0_pay12 v2 v5 v17 v19 v24 v35 w0 w1 w2 gm) (k0_pay13 v2 v5 v17 v19 v24 v35 w0 w1 w2 gm) (k0_pay14 v2 v5 v17 v19 v24 v35 w0 w1 w2) (constant S512x128 FTy.f32 0#32) g x
      = yc v2 v5 v17 v19 v24 v35 w0 w1 w2 x * scale (group (fun n => yc v2 v5 v17 v19 v24 v35 w0 w1 w2 (ix2 (x 0) n)) (x 1)) * g (ix2 0 (x 1)) := by
  have hx : (x 1).val < 512 := (x 1).isLt
  pointwise [k0_pay1, k0_pay10, k0_pay11, k0_pay12, k0_pay13, k0_pay14, k0_pay9]
  rw [scale, width, mean_eq]
  refine congrArg (fun z : EReal => yc v2 v5 v17 v19 v24 v35 w0 w1 w2 x * Ideal.rsqrt (z * _ + _) * g (ix2 0 (x 1))) ?_
  by_cases e0 : (x 1).val < 128
  · rw [dif_pos e0]
    exact sum_lanes (fun n => yc v2 v5 v17 v19 v24 v35 w0 w1 w2 (ix2 (x 0) n) * yc v2 v5 v17 v19 v24 v35 w0 w1 w2 (ix2 (x 0) n)) (fun n => (hy _).mul (hy _)) _ _ _ (x 1) 0 (by decide) ⟨(x 1).val, by omega⟩ (by show (x 1).val = 128 * 0 + ((x 1).val); omega)
      (fun k => congrArg (fun n : Fin 512 => yc v2 v5 v17 v19 v24 v35 w0 w1 w2 (ix2 (x 0) n) * yc v2 v5 v17 v19 v24 v35 w0 w1 w2 (ix2 (x 0) n)) (Fin.ext (by show k.val = 128 * 0 + k.val; omega))) (fun k => gm_at gm hgm _ _ k.isLt (by omega))
  rw [dif_neg e0]
  by_cases e1 : (x 1).val - 128 < 128
  · rw [dif_pos e1]
    exact sum_lanes (fun n => yc v2 v5 v17 v19 v24 v35 w0 w1 w2 (ix2 (x 0) n) * yc v2 v5 v17 v19 v24 v35 w0 w1 w2 (ix2 (x 0) n)) (fun n => (hy _).mul (hy _)) _ _ _ (x 1) 1 (by decide) ⟨(x 1).val - 128, by omega⟩ (by show (x 1).val = 128 * 1 + ((x 1).val - 128); omega)
      (fun k => congrArg (fun n : Fin 512 => yc v2 v5 v17 v19 v24 v35 w0 w1 w2 (ix2 (x 0) n) * yc v2 v5 v17 v19 v24 v35 w0 w1 w2 (ix2 (x 0) n)) (Fin.ext (by show 128 + k.val = 128 * 1 + k.val; omega))) (fun k => gm_at gm hgm _ _ k.isLt (by omega))
  rw [dif_neg e1]
  by_cases e2 : (x 1).val - 128 - 128 < 128
  · rw [dif_pos e2]
    exact sum_lanes (fun n => yc v2 v5 v17 v19 v24 v35 w0 w1 w2 (ix2 (x 0) n) * yc v2 v5 v17 v19 v24 v35 w0 w1 w2 (ix2 (x 0) n)) (fun n => (hy _).mul (hy _)) _ _ _ (x 1) 2 (by decide) ⟨(x 1).val - 128 - 128, by omega⟩ (by show (x 1).val = 128 * 2 + ((x 1).val - 128 - 128); omega)
      (fun k => congrArg (fun n : Fin 512 => yc v2 v5 v17 v19 v24 v35 w0 w1 w2 (ix2 (x 0) n) * yc v2 v5 v17 v19 v24 v35 w0 w1 w2 (ix2 (x 0) n)) (Fin.ext (by show 256 + k.val = 128 * 2 + k.val; omega))) (fun k => gm_at gm hgm _ _ k.isLt (by omega))
  rw [dif_neg e2]
  exact sum_lanes (fun n => yc v2 v5 v17 v19 v24 v35 w0 w1 w2 (ix2 (x 0) n) * yc v2 v5 v17 v19 v24 v35 w0 w1 w2 (ix2 (x 0) n)) (fun n => (hy _).mul (hy _)) _ _ _ (x 1) 3 (by decide) ⟨(x 1).val - 128 - 128 - 128, by omega⟩ (by show (x 1).val = 128 * 3 + ((x 1).val - 128 - 128 - 128); omega)
    (fun k => congrArg (fun n : Fin 512 => yc v2 v5 v17 v19 v24 v35 w0 w1 w2 (ix2 (x 0) n) * yc v2 v5 v17 v19 v24 v35 w0 w1 w2 (ix2 (x 0) n)) (Fin.ext (by show 384 + k.val = 128 * 3 + k.val; omega))) (fun k => gm_at gm hgm _ _ k.isLt (by omega))

end Kernel

variable (m : (ℓ : Loc nD τ sig) → Buf (Elt Ideal) ℓ)

/-- The host's matrix of zeros and ones: one where the row and the column lie in one group of 64 lanes. -/
theorem groups (c : Dev nD) (i : S256x128.Idx) :
    (V m c main_v37 : FVec Ideal S256x128 .bf16) i = (if (i 0).val % 128 / 64 = (i 1).val / 64 then 1 else 0 : EReal) := by
  have e : (V m c main_v37 : FVec Ideal S256x128 .bf16) i
      = (FloatOps.uitofp (F := Ideal) .bf16 (IntOp.cmpi .eq (floorDiv (remainder (BitVec.ofNat 32 (i 0).val)) 64#32) (floorDiv (BitVec.ofNat 32 (i 1).val) 64#32)) : EReal) := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
    after_reads_at
    rfl
  rw [e]
  refine (congrArg₂ (fun a b => (FloatOps.uitofp (F := Ideal) .bf16 (IntOp.cmpi .eq a b) : EReal)) (row_word (i 0)) (lane_word (i 1))).trans ?_
  have h0 : (i 0).val < 256 := (i 0).isLt
  have h1 : (i 1).val < 128 := (i 1).isLt
  exact number_word_eq _ _ (by omega) (by omega)

theorem idx : ∀ t : Fin cfg0.N, win0_0.index t = ![t.val, 0] ∧ win0_1.index t = ![t.val * 64 - 1, 0]
    ∧ win0_2.index t = ![0, 0] ∧ win0_3.index t = ![0, 0] ∧ win0_4.index t = ![0, 0]
    ∧ win0_5.index t = ![t.val, 0] ∧ (grid0.coords t 0).val = t.val :=
  (by decide +kernel : ∀ t : Fin grid0.N, _)

/-- The three arguments. -/
abbrev gates (c : Dev nD) : FVec Ideal S4096x1536 .f32 := m ((c : Thread nD τ).loc main_arg0)
abbrev taps (c : Dev nD) : FVec Ideal S3x512 .f32 := m ((c : Thread nD τ).loc main_arg1)
abbrev gain (c : Dev nD) : FVec Ideal S1x512 .f32 := m ((c : Thread nD τ).loc main_arg2)

/-- The host line pads the three taps by rows of zeros. -/
theorem padded_taps (c : Dev nD) (i : S8x512.Idx) (h : (i 0).val < 3) :
    (V m c main_v0 : FVec Ideal S8x512 .f32) i = taps m c (ix2 ⟨(i 0).val, h⟩ (i 1)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_reads_at
  exact dif_pos h

section Values

variable (c : Dev nD) (t : Fin cfg0.N)

theorem tap (k : Fin 8) (hk : k.val < 3) (n : Fin 512) :
    (iblk m c 2 t : FVec Ideal S8x512 .f32) (ix2 k n) = taps m c (ix2 ⟨k.val, hk⟩ n) := by
  blk_simp [iblk]
  refine (padded_taps m c _ ?_).trans (congrArg (taps m c) ?_)
  · blk_simp [idx t]
    exact hk
  · blk_ext [idx t]

/-- The matrix of zeros and ones, as the kernel sees it. -/
theorem matrix_at (i : S256x128.Idx) :
    (iblk m c 4 t : FVec Ideal S256x128 .bf16) i = (if (i 0).val % 128 / 64 = (i 1).val / 64 then 1 else 0 : EReal) := by
  blk_simp [iblk]
  refine (groups m c _).trans ?_
  blk_simp [idx t]

theorem block (x : S512x1536.Idx) (r : Fin 4096) (n : Fin 1536) (h0 : r.val = t.val * 512 + (x 0).val) (h1 : n.val = (x 1).val) :
    (iblk m c 0 t : FVec Ideal S512x1536 .f32) x = gates m c (ix2 r n) := by
  blk_ext [iblk, V_main_arg0, idx t]

/-- A row of the block before the point's, where there is one. -/
theorem halo (ht : t.val ≠ 0) (x : S8x1536.Idx) (r : Fin 4096) (n : Fin 1536) (h0 : r.val + 8 = t.val * 512 + (x 0).val) (h1 : n.val = (x 1).val) :
    (iblk m c 1 t : FVec Ideal S8x1536 .f32) x = gates m c (ix2 r n) := by
  blk_ext [iblk, V_main_arg0, idx t]

abbrev up0 : FVec Ideal S512x512 .f32 := k0_pay3 (F := Ideal) (iblk m c 0 t)
abbrev up1 : FVec Ideal S512x512 .f32 := k0_pay4 (F := Ideal) (grid0.coords t) (iblk m c 0 t)
  (View.ld (iblk m c 1 t) (Rect.unit ![7, 512] ![1, 512] inb_S8x1536_S1x512_7_512)) (View.ld (iblk m c 1 t) (Rect.unit ![7, 1024] ![1, 512] inb_S8x1536_S1x512_7_1024))
abbrev before6 : FVec Ideal S1x512 .f32 := k0_pay6 (F := Ideal) (grid0.coords t)
  (View.ld (iblk m c 1 t) (Rect.unit ![6, 512] ![1, 512] inb_S8x1536_S1x512_6_512)) (View.ld (iblk m c 1 t) (Rect.unit ![6, 1024] ![1, 512] inb_S8x1536_S1x512_6_1024))
abbrev rolled : FVec Ideal S512x512 .f32 := k0_pay7 (F := Ideal) (grid0.coords t) (iblk m c 0 t)
  (View.ld (iblk m c 1 t) (Rect.unit ![7, 512] ![1, 512] inb_S8x1536_S1x512_7_512)) (View.ld (iblk m c 1 t) (Rect.unit ![7, 1024] ![1, 512] inb_S8x1536_S1x512_7_1024))

theorem up0_at (x : S512x512.Idx) (r : Fin 4096) (hr : r.val = t.val * 512 + (x 0).val) : up0 m c t x = above (gates m c) 0 r (x 1) := by
  pointwise [up0, k0_pay3]
  refine Eq.trans ?_ (if_pos (Nat.zero_le _)).symm
  exact congrArg₂ (· * ·) (block m c t _ _ _ hr rfl) (block m c t _ _ _ hr rfl)

/-- The block rolled down by `d` rows, where the row reached lies in the block. -/
theorem rolled_at (d : ℕ) (x y : S512x512.Idx) (r : Fin 4096) (hr : r.val = t.val * 512 + (x 0).val) (hd : d ≤ (x 0).val)
    (hy : (y 0).val + d = (x 0).val) (h1 : y 1 = x 1) : k0_pay3 (F := Ideal) (iblk m c 0 t) y = above (gates m c) d r (x 1) := by
  pointwise [k0_pay3]
  have e : (x 1).val = (y 1).val := congrArg Fin.val h1.symm
  refine Eq.trans ?_ (if_pos (by omega)).symm
  exact congrArg₂ (· * ·) (block m c t _ _ _ (by show r.val - d = t.val * 512 + (y 0).val; omega) (congrArg (512 + ·) e))
    (block m c t _ _ _ (by show r.val - d = t.val * 512 + (y 0).val; omega) (congrArg (1024 + ·) e))

/-- What a row of the block before stands for: zero at the first point. -/
theorem halo_at (X : FVec Ideal S8x1536 .f32) (hX : X = iblk m c 1 t) (k : Fin 8) (d : ℕ) (q : Fin 512) (r : Fin 4096) (h0 : r.val + 8 = t.val * 512 + k.val + d) (hk : k.val < 8) (hd : d ≤ 2)
    (hl : t.val = 0 → ¬ d ≤ r.val) :
    Scalar.select (Scalar.cmpi CmpIPredicate.eq (BitVec.ofNat 32 (grid0.coords t 0).val) 0#32) 0
      (X (ix2 k ⟨512 + q.val, by omega⟩) * X (ix2 k ⟨1024 + q.val, by omega⟩))
      = above (gates m c) d r q := by
  have ht : t.val < 8 := lt_of_lt_of_eq t.isLt N_0
  have e7 : (grid0.coords t 0).val = t.val := by have := idx t; tauto
  subst hX
  rw [e7]
  simp only [Scalar.cmpi]
  refine (select_word_eq t.val 0 (by omega) (by omega) _ _).trans ?_
  by_cases h : t.val = 0
  · exact (if_pos h).trans (if_neg (hl h)).symm
  · have hr : d ≤ r.val := by omega
    refine (if_neg h).trans (Eq.trans ?_ (if_pos hr).symm)
    exact congrArg₂ (· * ·) (halo m c t h _ _ _ (by show r.val - d + 8 = t.val * 512 + k.val; omega) rfl)
      (halo m c t h _ _ _ (by show r.val - d + 8 = t.val * 512 + k.val; omega) rfl)

theorem up1_at (x : S512x512.Idx) (r : Fin 4096) (hr : r.val = t.val * 512 + (x 0).val) : up1 m c t x = above (gates m c) 1 r (x 1) := by
  have hx : (x 0).val < 512 := (x 0).isLt
  pointwise [up1, k0_pay4]
  refine (select_word_eq (x 0).val 0 (by omega) (by omega) _ _).trans ?_
  by_cases h : (x 0).val = 0
  · refine (if_pos h).trans (halo_at m c t _ rfl 7 1 (x 1) r ?_ (by decide) (by decide) (by omega))
    · show r.val + 8 = t.val * 512 + 7 + 1
      omega
  · refine (if_neg h).trans (rolled_at m c t 1 x _ r hr (by omega) ?_ rfl)
    show ((x 0).val + 512 - 1) % 512 + 1 = (x 0).val
    omega

theorem up2_at (x : S512x512.Idx) (r : Fin 4096) (hr : r.val = t.val * 512 + (x 0).val) :
    Scalar.select (k0_pay5 x) (before6 m c t (ix2 0 (x 1))) (rolled m c t x) = above (gates m c) 2 r (x 1) := by
  have hx : (x 0).val < 512 := (x 0).isLt
  pointwise [k0_pay5, before6, rolled, k0_pay6, k0_pay7]
  refine (select_word_eq (x 0).val 0 (by omega) (by omega) _ _).trans ?_
  by_cases h : (x 0).val = 0
  · refine (if_pos h).trans (halo_at m c t _ rfl 6 2 (x 1) r ?_ (by decide) (by decide) (by omega))
    · show r.val + 8 = t.val * 512 + 6 + 2
      omega
  refine (if_neg h).trans ((select_word_eq (x 0).val 1 (by omega) (by omega) _ _).trans ?_)
  by_cases h : (x 0).val = 1
  · refine (if_pos h).trans (halo_at m c t _ rfl 7 2 (x 1) r ?_ (by decide) (by decide) (by omega))
    · show r.val + 8 = t.val * 512 + 7 + 2
      omega
  · refine (if_neg h).trans (rolled_at m c t 2 x _ r hr (by omega) ?_ rfl)
    show ((x 0).val + 512 - 2) % 512 + 2 = (x 0).val
    omega

abbrev tap0 : FVec Ideal S1x512 .f32 := View.ld (Val := Elt Ideal) (e' := .f32) (iblk m c 2 t) (Rect.unit ![0, 0] ![1, 512] inb_S8x512_S1x512_0_0)
abbrev tap1 : FVec Ideal S1x512 .f32 := View.ld (Val := Elt Ideal) (e' := .f32) (iblk m c 2 t) (Rect.unit ![1, 0] ![1, 512] inb_S8x512_S1x512_1_0)
abbrev tap2 : FVec Ideal S1x512 .f32 := View.ld (Val := Elt Ideal) (e' := .f32) (iblk m c 2 t) (Rect.unit ![2, 0] ![1, 512] inb_S8x512_S1x512_2_0)
abbrev gate : FVec Ideal S512x512 .f32 := k0_pay2 (F := Ideal) (iblk m c 0 t)

theorem tap0_at (n : Fin 512) : tap0 m c t (ix2 0 n) = taps m c (ix2 0 n) := by
  refine Eq.trans ?_ (tap m c t 0 (by decide) n)
  pointwise [tap0]

theorem tap1_at (n : Fin 512) : tap1 m c t (ix2 0 n) = taps m c (ix2 1 n) := by
  refine Eq.trans ?_ (tap m c t 1 (by decide) n)
  pointwise [tap1]

theorem tap2_at (n : Fin 512) : tap2 m c t (ix2 0 n) = taps m c (ix2 2 n) := by
  refine Eq.trans ?_ (tap m c t 2 (by decide) n)
  pointwise [tap2]

theorem gate_at (x : S512x512.Idx) (r : Fin 4096) (hr : r.val = t.val * 512 + (x 0).val) :
    gate m c t x = gates m c (ix2 r ⟨(x 1).val, lt_of_lt_of_le (x 1).isLt (by decide)⟩) := by
  pointwise [gate, k0_pay2]
  exact block m c t _ _ _ hr rfl

theorem gated_at (x : S512x512.Idx) (r : Fin 4096) (hr : r.val = t.val * 512 + (x 0).val) :
    yc (gate m c t) (up0 m c t) (up1 m c t) k0_pay5 (before6 m c t) (rolled m c t) (tap0 m c t) (tap1 m c t) (tap2 m c t) x
      = gated (gates m c) (taps m c) r (x 1) :=
  (kernel_gated ..).trans (congrArg₂ (· * ·) (gate_at m c t x r hr)
    (congrArg₂ (· + ·) (congrArg₂ (· + ·) (congrArg₂ (· * ·) (tap0_at m c t _) (up2_at m c t x r hr)) (congrArg₂ (· * ·) (tap1_at m c t _) (up1_at m c t x r hr)))
      (congrArg₂ (· * ·) (tap2_at m c t _) (up0_at m c t x r hr))))

theorem gain_at (x : S1x512.Idx) : (iblk m c 3 t : FVec Ideal S1x512 .f32) x = gain m c (ix2 0 (x 1)) := by
  blk_ext [iblk, V_main_arg2, idx t]

end Values

/-- All arguments are real numbers. -/
structure Reals (c : Dev nD) : Prop where
  gates : ∀ i, IsReal (gates m c i)
  taps : ∀ i, IsReal (taps m c i)
  gain : ∀ i, IsReal (gain m c i)

instance preFacts : Cert.Pre_finite10.Facts := ⟨by decide, by decide, by decide⟩

theorem reals (hm : Cert.Pre_Kernel10Ideal_finite10 m) (c : Dev nD) : Reals m c := by
  obtain ⟨h0, h1, h2⟩ := hm c
  exact ⟨fun j => IsReal.of_abs_lt (congrFun h0 j), fun j => IsReal.of_abs_lt (congrFun h1 j), fun j => IsReal.of_abs_lt (congrFun h2 j)⟩

section Results

variable {m} {c : Dev nD} (hr : Reals m c) (t : Fin cfg0.N)

include hr in
theorem above_isReal (d : ℕ) (r : Fin 4096) (n : Fin 512) : IsReal (above (gates m c) d r n) := by
  unfold above
  split_ifs
  · exact (hr.gates _).mul (hr.gates _)
  · exact IsReal.zero

include hr in
theorem gated_isReal (r : Fin 4096) (n : Fin 512) : IsReal (gated (gates m c) (taps m c) r n) :=
  (hr.gates _).mul ((((hr.taps _).mul (above_isReal hr _ _ _)).add ((hr.taps _).mul (above_isReal hr _ _ _))).add ((hr.taps _).mul (above_isReal hr _ _ _)))

theorem row_lt (q : Fin 512) : t.val * 512 + q.val < 4096 := by
  have := q.isLt
  have : t.val < 8 := lt_of_lt_of_eq t.isLt N_0
  omega

/-- A row of the block at a point, counted in the whole array. -/
def row (q : Fin 512) : Fin 4096 := ⟨t.val * 512 + q.val, row_lt t q⟩

include hr in
theorem yc_isReal (x : S512x512.Idx) : IsReal (yc (gate m c t) (up0 m c t) (up1 m c t) k0_pay5 (before6 m c t) (rolled m c t) (tap0 m c t) (tap1 m c t) (tap2 m c t) x) := by
  rw [gated_at m c t x (row t (x 0)) rfl]
  exact gated_isReal hr _ _

theorem group_at (x : S512x512.Idx) (r : Fin 4096) (h : r.val = t.val * 512 + (x 0).val) :
    (fun n => yc (gate m c t) (up0 m c t) (up1 m c t) k0_pay5 (before6 m c t) (rolled m c t) (tap0 m c t) (tap1 m c t) (tap2 m c t) (ix2 (x 0) n)) = gated (gates m c) (taps m c) r :=
  funext fun n => gated_at m c t (ix2 (x 0) n) r h

include hr in
theorem out_at (x : S512x512.Idx) (r : Fin 4096) (h : r.val = t.val * 512 + (x 0).val) :
    k0_pay1 (F := Ideal) (k0_pay8 (gate m c t) (up0 m c t) (up1 m c t) k0_pay5 (before6 m c t) (rolled m c t) (tap0 m c t) (tap1 m c t) (tap2 m c t)) (k0_pay10 (iblk m c 4 t)) (k0_pay11 (gate m c t) (up0 m c t) (up1 m c t) k0_pay5 (before6 m c t) (rolled m c t) (tap0 m c t) (tap1 m c t) (tap2 m c t) (iblk m c 4 t)) (k0_pay12 (gate m c t) (up0 m c t) (up1 m c t) k0_pay5 (before6 m c t) (rolled m c t) (tap0 m c t) (tap1 m c t) (tap2 m c t) (iblk m c 4 t)) (k0_pay13 (gate m c t) (up0 m c t) (up1 m c t) k0_pay5 (before6 m c t) (rolled m c t) (tap0 m c t) (tap1 m c t) (tap2 m c t) (iblk m c 4 t)) (k0_pay14 (gate m c t) (up0 m c t) (up1 m c t) k0_pay5 (before6 m c t) (rolled m c t) (tap0 m c t) (tap1 m c t) (tap2 m c t)) (constant S512x128 FTy.f32 0#32) (iblk m c 3 t) x
      = Cert.Reference10Ideal.Read.val_main_v43 (F := Ideal) (gates m c) (taps m c) (gain m c) (ix2 r (x 1)) := by
  refine (kernel_out (gm := iblk m c 4 t) (g := iblk m c 3 t) (hgm := matrix_at m c t) (hy := yc_isReal hr t) (x := x) ..).trans ?_
  rw [group_at t x r h, gated_at m c t x r h, reference_normed]
  exact congrArg (fun z : EReal => gated (gates m c) (taps m c) r (x 1) * scale (group (gated (gates m c) (taps m c) r) (x 1)) * z) (gain_at m c t (ix2 0 (x 1)))

include hr in
theorem final : (dats m 0 c).arrAt 5 (cfgs 0).N = Cert.Reference10Ideal.Read.val_main_v43 (F := Ideal) (gates m c) (taps m c) (gain m c) := by
  refine (dats m 0 c).arrAt_eq_of_covers 5 _ (by decide +kernel) fun t hf y => ?_
  blk_simp
  rw [after0_5]
  frame_out [k0_pay15, k0_pay16, k0_pay17, k0_pay18, k0_pay19, k0_pay20]
  refine (out_at hr t y (row t (y 0)) rfl).trans (congrArg _ ?_)
  blk_ext [idx t]
  rfl

end Results

set_option maxHeartbeats 2000000 in
/-- The normed rows of the gated convolution are those of the reference, for real arguments. -/
theorem algebraic : Cert.algebraic_Kernel10Ideal_Reference10Ideal_pre_finite10 := by
  pair_intro
  · run_from (Cert.Kernel10Ideal.Gen.run_main m g)
    exact V_main_arg1 m c
  · refine Idealize.ShloMosaic.θ_run_mono (Cert.Reference10Ideal.Value.run m' g') fun r hrun c => ?_
    obtain ⟨e0, hargs⟩ := hrun c
    have hr := reals m hpre c
    obtain ⟨h0, h1, h2⟩ := hagree c
    refine ⟨e0.trans ?_, hargs⟩
    rw [Cert.Reference10Ideal.Read.val_main_v43_eq, h0, h1, h2]
    exact (final hr).symm

end Cert.ConvForward
-- ==== Proof.AdamIn.lean ====
/- The optimiser's step of w_in: every block of the gradient is passed on, and gives the change of the weight and the
   two new moments, all elementwise. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamIn
open Cert.Kernel12Ideal Cert.Kernel12Ideal.Gen

variable (m : (ℓ : Loc nD τ sig) → Buf (Elt Ideal) ℓ)

/-- Step `t` takes row block `t` of every array. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The first output is the gradient. -/
theorem final_grad (c : Dev nD) : (dats m 0 c).arrAt 4 (cfgs 0).N = m ((c : Thread nD τ).loc main_arg1) := by
  refine (dats m 0 c).arrAt_eq_of_covers 4 _ (by decide +kernel) fun t hf y => ?_
  blk_simp
  rw [after0_4]
  frame_out
  blk_point [iblk, V, idx t]

/-- The first moment mixed with the gradient. -/
theorem final_mean (c : Dev nD) : (dats m 0 c).arrAt 6 (cfgs 0).N = Cert.Reference12Ideal.Read.val_main_v4 (F := Ideal)
      (m ((c : Thread nD τ).loc main_arg1)) (m ((c : Thread nD τ).loc main_arg2)) := by
  refine (dats m 0 c).arrAt_eq_of_covers 6 _ (by decide +kernel) fun t hf y => ?_
  blk_simp
  rw [after0_6]
  frame_out
  pointwise [k0_pay1, Cert.Reference12Ideal.Read.val_main_v4, Cert.Reference12Ideal.Read.val_main_v1, Cert.Reference12Ideal.Read.val_main_v3, Cert.Reference12Ideal.Read.val_main_v0, Cert.Reference12Ideal.Read.val_main_v2, Cert.Reference12Ideal.Read.val_main_cst, Cert.Reference12Ideal.Read.val_main_cst_0]
  blk_point [iblk, V, idx t]

/-- The second moment mixed with the squared gradient. -/
theorem final_square (c : Dev nD) : (dats m 0 c).arrAt 7 (cfgs 0).N = Cert.Reference12Ideal.Read.val_main_v10 (F := Ideal)
      (m ((c : Thread nD τ).loc main_arg1)) (m ((c : Thread nD τ).loc main_arg3)) := by
  refine (dats m 0 c).arrAt_eq_of_covers 7 _ (by decide +kernel) fun t hf y => ?_
  blk_simp
  rw [after0_7]
  frame_out
  pointwise [k0_pay2, Cert.Reference12Ideal.Read.val_main_v10, Cert.Reference12Ideal.Read.val_main_v6, Cert.Reference12Ideal.Read.val_main_v9, Cert.Reference12Ideal.Read.val_main_v7, Cert.Reference12Ideal.Read.val_main_v5, Cert.Reference12Ideal.Read.val_main_v8, Cert.Reference12Ideal.Read.val_main_cst_1, Cert.Reference12Ideal.Read.val_main_cst_2]
  blk_point [iblk, V, idx t]

/-- The change of the weight. -/
theorem final_delta (c : Dev nD) : (dats m 0 c).arrAt 5 (cfgs 0).N = Cert.Reference12Ideal.Read.val_main_v23 (F := Ideal)
      (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay3, k0_pay1, k0_pay2, Cert.Reference12Ideal.Read.val_main_v23, Cert.Reference12Ideal.Read.val_main_v21, Cert.Reference12Ideal.Read.val_main_v20, Cert.Reference12Ideal.Read.val_main_v18, Cert.Reference12Ideal.Read.val_main_v17, Cert.Reference12Ideal.Read.val_main_v15, Cert.Reference12Ideal.Read.val_main_v14, Cert.Reference12Ideal.Read.val_main_v12, Cert.Reference12Ideal.Read.val_main_v11, Cert.Reference12Ideal.Read.val_main_v13, Cert.Reference12Ideal.Read.val_main_v16, Cert.Reference12Ideal.Read.val_main_v19, Cert.Reference12Ideal.Read.val_main_v22, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_v4, Cert.Reference12Ideal.Read.val_main_v1, Cert.Reference12Ideal.Read.val_main_v3, Cert.Reference12Ideal.Read.val_main_v0, Cert.Reference12Ideal.Read.val_main_v2, Cert.Reference12Ideal.Read.val_main_cst, Cert.Reference12Ideal.Read.val_main_cst_0, Cert.Reference12Ideal.Read.val_main_v10, Cert.Reference12Ideal.Read.val_main_v6, Cert.Reference12Ideal.Read.val_main_v9, Cert.Reference12Ideal.Read.val_main_v7, Cert.Reference12Ideal.Read.val_main_v5, Cert.Reference12Ideal.Read.val_main_v8, Cert.Reference12Ideal.Read.val_main_cst_1, Cert.Reference12Ideal.Read.val_main_cst_2]
  blk_point [iblk, V, idx t]

/-- The kernel and its reference end with equal gradients, changes and moments. -/
theorem algebraic : Cert.algebraic_Kernel12Ideal_Reference12Ideal := by
  pair_intro
  · run_from Cert.Kernel12Ideal.Gen.run_main m g
  · run_from Cert.Reference12Ideal.Value.run m' g'
    · exact (final_grad m c).symm
    · rw [Cert.Reference12Ideal.Read.val_main_v23_eq]
      exact (final_delta m c).symm
    · rw [Cert.Reference12Ideal.Read.val_main_v4_eq]
      exact (final_mean m c).symm
    · rw [Cert.Reference12Ideal.Read.val_main_v10_eq]
      exact (final_square m c).symm

end Cert.AdamIn
-- ==== Proof.AdamOut.lean ====
/- The optimiser's step of w_out: every block of the gradient is passed on, and gives the change of the weight and the
   two new moments, all elementwise. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamOut
open Cert.Kernel13Ideal Cert.Kernel13Ideal.Gen

variable (m : (ℓ : Loc nD τ sig) → Buf (Elt Ideal) ℓ)

/-- Step `t` takes row block `t` of every array. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The first output is the gradient. -/
theorem final_grad (c : Dev nD) : (dats m 0 c).arrAt 4 (cfgs 0).N = m ((c : Thread nD τ).loc main_arg1) := by
  refine (dats m 0 c).arrAt_eq_of_covers 4 _ (by decide +kernel) fun t hf y => ?_
  blk_simp
  rw [after0_4]
  frame_out
  blk_point [iblk, V, idx t]

/-- The first moment mixed with the gradient. -/
theorem final_mean (c : Dev nD) : (dats m 0 c).arrAt 6 (cfgs 0).N = Cert.Reference13Ideal.Read.val_main_v4 (F := Ideal)
      (m ((c : Thread nD τ).loc main_arg1)) (m ((c : Thread nD τ).loc main_arg2)) := by
  refine (dats m 0 c).arrAt_eq_of_covers 6 _ (by decide +kernel) fun t hf y => ?_
  blk_simp
  rw [after0_6]
  frame_out
  pointwise [k0_pay1, Cert.Reference13Ideal.Read.val_main_v4, Cert.Reference13Ideal.Read.val_main_v1, Cert.Reference13Ideal.Read.val_main_v3, Cert.Reference13Ideal.Read.val_main_v0, Cert.Reference13Ideal.Read.val_main_v2, Cert.Reference13Ideal.Read.val_main_cst, Cert.Reference13Ideal.Read.val_main_cst_0]
  blk_point [iblk, V, idx t]

/-- The second moment mixed with the squared gradient. -/
theorem final_square (c : Dev nD) : (dats m 0 c).arrAt 7 (cfgs 0).N = Cert.Reference13Ideal.Read.val_main_v10 (F := Ideal)
      (m ((c : Thread nD τ).loc main_arg1)) (m ((c : Thread nD τ).loc main_arg3)) := by
  refine (dats m 0 c).arrAt_eq_of_covers 7 _ (by decide +kernel) fun t hf y => ?_
  blk_simp
  rw [after0_7]
  frame_out
  pointwise [k0_pay2, Cert.Reference13Ideal.Read.val_main_v10, Cert.Reference13Ideal.Read.val_main_v6, Cert.Reference13Ideal.Read.val_main_v9, Cert.Reference13Ideal.Read.val_main_v7, Cert.Reference13Ideal.Read.val_main_v5, Cert.Reference13Ideal.Read.val_main_v8, Cert.Reference13Ideal.Read.val_main_cst_1, Cert.Reference13Ideal.Read.val_main_cst_2]
  blk_point [iblk, V, idx t]

/-- The change of the weight. -/
theorem final_delta (c : Dev nD) : (dats m 0 c).arrAt 5 (cfgs 0).N = Cert.Reference13Ideal.Read.val_main_v23 (F := Ideal)
      (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay3, k0_pay1, k0_pay2, Cert.Reference13Ideal.Read.val_main_v23, Cert.Reference13Ideal.Read.val_main_v21, Cert.Reference13Ideal.Read.val_main_v20, Cert.Reference13Ideal.Read.val_main_v18, Cert.Reference13Ideal.Read.val_main_v17, Cert.Reference13Ideal.Read.val_main_v15, Cert.Reference13Ideal.Read.val_main_v14, Cert.Reference13Ideal.Read.val_main_v12, Cert.Reference13Ideal.Read.val_main_v11, Cert.Reference13Ideal.Read.val_main_v13, Cert.Reference13Ideal.Read.val_main_v16, Cert.Reference13Ideal.Read.val_main_v19, Cert.Reference13Ideal.Read.val_main_v22, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7, Cert.Reference13Ideal.Read.val_main_v4, Cert.Reference13Ideal.Read.val_main_v1, Cert.Reference13Ideal.Read.val_main_v3, Cert.Reference13Ideal.Read.val_main_v0, Cert.Reference13Ideal.Read.val_main_v2, Cert.Reference13Ideal.Read.val_main_cst, Cert.Reference13Ideal.Read.val_main_cst_0, Cert.Reference13Ideal.Read.val_main_v10, Cert.Reference13Ideal.Read.val_main_v6, Cert.Reference13Ideal.Read.val_main_v9, Cert.Reference13Ideal.Read.val_main_v7, Cert.Reference13Ideal.Read.val_main_v5, Cert.Reference13Ideal.Read.val_main_v8, Cert.Reference13Ideal.Read.val_main_cst_1, Cert.Reference13Ideal.Read.val_main_cst_2]
  blk_point [iblk, V, idx t]

/-- The kernel and its reference end with equal gradients, changes and moments. -/
theorem algebraic : Cert.algebraic_Kernel13Ideal_Reference13Ideal := by
  pair_intro
  · run_from Cert.Kernel13Ideal.Gen.run_main m g
  · run_from Cert.Reference13Ideal.Value.run m' g'
    · exact (final_grad m c).symm
    · rw [Cert.Reference13Ideal.Read.val_main_v23_eq]
      exact (final_delta m c).symm
    · rw [Cert.Reference13Ideal.Read.val_main_v4_eq]
      exact (final_mean m c).symm
    · rw [Cert.Reference13Ideal.Read.val_main_v10_eq]
      exact (final_square m c).symm

end Cert.AdamOut
-- ==== Proof.AdamUp.lean ====
/- The optimiser's step of w_up: every block of the gradient is passed on, and gives the change of the weight and the
   two new moments, all elementwise. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamUp
open Cert.Kernel14Ideal Cert.Kernel14Ideal.Gen

variable (m : (ℓ : Loc nD τ sig) → Buf (Elt Ideal) ℓ)

/-- Step `t` takes row block `t` of every array. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The first output is the gradient. -/
theorem final_grad (c : Dev nD) : (dats m 0 c).arrAt 4 (cfgs 0).N = m ((c : Thread nD τ).loc main_arg1) := by
  refine (dats m 0 c).arrAt_eq_of_covers 4 _ (by decide +kernel) fun t hf y => ?_
  blk_simp
  rw [after0_4]
  frame_out
  blk_point [iblk, V, idx t]

/-- The first moment mixed with the gradient. -/
theorem final_mean (c : Dev nD) : (dats m 0 c).arrAt 6 (cfgs 0).N = Cert.Reference14Ideal.Read.val_main_v4 (F := Ideal)
      (m ((c : Thread nD τ).loc main_arg1)) (m ((c : Thread nD τ).loc main_arg2)) := by
  refine (dats m 0 c).arrAt_eq_of_covers 6 _ (by decide +kernel) fun t hf y => ?_
  blk_simp
  rw [after0_6]
  frame_out
  pointwise [k0_pay1, Cert.Reference14Ideal.Read.val_main_v4, Cert.Reference14Ideal.Read.val_main_v1, Cert.Reference14Ideal.Read.val_main_v3, Cert.Reference14Ideal.Read.val_main_v0, Cert.Reference14Ideal.Read.val_main_v2, Cert.Reference14Ideal.Read.val_main_cst, Cert.Reference14Ideal.Read.val_main_cst_0]
  blk_point [iblk, V, idx t]

/-- The second moment mixed with the squared gradient. -/
theorem final_square (c : Dev nD) : (dats m 0 c).arrAt 7 (cfgs 0).N = Cert.Reference14Ideal.Read.val_main_v10 (F := Ideal)
      (m ((c : Thread nD τ).loc main_arg1)) (m ((c : Thread nD τ).loc main_arg3)) := by
  refine (dats m 0 c).arrAt_eq_of_covers 7 _ (by decide +kernel) fun t hf y => ?_
  blk_simp
  rw [after0_7]
  frame_out
  pointwise [k0_pay2, Cert.Reference14Ideal.Read.val_main_v10, Cert.Reference14Ideal.Read.val_main_v6, Cert.Reference14Ideal.Read.val_main_v9, Cert.Reference14Ideal.Read.val_main_v7, Cert.Reference14Ideal.Read.val_main_v5, Cert.Reference14Ideal.Read.val_main_v8, Cert.Reference14Ideal.Read.val_main_cst_1, Cert.Reference14Ideal.Read.val_main_cst_2]
  blk_point [iblk, V, idx t]

/-- The change of the weight. -/
theorem final_delta (c : Dev nD) : (dats m 0 c).arrAt 5 (cfgs 0).N = Cert.Reference14Ideal.Read.val_main_v23 (F := Ideal)
      (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay3, k0_pay1, k0_pay2, Cert.Reference14Ideal.Read.val_main_v23, Cert.Reference14Ideal.Read.val_main_v21, Cert.Reference14Ideal.Read.val_main_v20, Cert.Reference14Ideal.Read.val_main_v18, Cert.Reference14Ideal.Read.val_main_v17, Cert.Reference14Ideal.Read.val_main_v15, Cert.Reference14Ideal.Read.val_main_v14, Cert.Reference14Ideal.Read.val_main_v12, Cert.Reference14Ideal.Read.val_main_v11, Cert.Reference14Ideal.Read.val_main_v13, Cert.Reference14Ideal.Read.val_main_v16, Cert.Reference14Ideal.Read.val_main_v19, Cert.Reference14Ideal.Read.val_main_v22, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7, Cert.Reference14Ideal.Read.val_main_v4, Cert.Reference14Ideal.Read.val_main_v1, Cert.Reference14Ideal.Read.val_main_v3, Cert.Reference14Ideal.Read.val_main_v0, Cert.Reference14Ideal.Read.val_main_v2, Cert.Reference14Ideal.Read.val_main_cst, Cert.Reference14Ideal.Read.val_main_cst_0, Cert.Reference14Ideal.Read.val_main_v10, Cert.Reference14Ideal.Read.val_main_v6, Cert.Reference14Ideal.Read.val_main_v9, Cert.Reference14Ideal.Read.val_main_v7, Cert.Reference14Ideal.Read.val_main_v5, Cert.Reference14Ideal.Read.val_main_v8, Cert.Reference14Ideal.Read.val_main_cst_1, Cert.Reference14Ideal.Read.val_main_cst_2]
  blk_point [iblk, V, idx t]

/-- The kernel and its reference end with equal gradients, changes and moments. -/
theorem algebraic : Cert.algebraic_Kernel14Ideal_Reference14Ideal := by
  pair_intro
  · run_from Cert.Kernel14Ideal.Gen.run_main m g
  · run_from Cert.Reference14Ideal.Value.run m' g'
    · exact (final_grad m c).symm
    · rw [Cert.Reference14Ideal.Read.val_main_v23_eq]
      exact (final_delta m c).symm
    · rw [Cert.Reference14Ideal.Read.val_main_v4_eq]
      exact (final_mean m c).symm
    · rw [Cert.Reference14Ideal.Read.val_main_v10_eq]
      exact (final_square m c).symm

end Cert.AdamUp
-- ==== Proof.AdamDown.lean ====
/- The optimiser's step of w_down: every block of the gradient is passed on, and gives the change of the weight and the
   two new moments, all elementwise. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamDown
open Cert.Kernel15Ideal Cert.Kernel15Ideal.Gen

variable (m : (ℓ : Loc nD τ sig) → Buf (Elt Ideal) ℓ)

/-- Step `t` takes row block `t` of every array. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The first output is the gradient. -/
theorem final_grad (c : Dev nD) : (dats m 0 c).arrAt 4 (cfgs 0).N = m ((c : Thread nD τ).loc main_arg1) := by
  refine (dats m 0 c).arrAt_eq_of_covers 4 _ (by decide +kernel) fun t hf y => ?_
  blk_simp
  rw [after0_4]
  frame_out
  blk_point [iblk, V, idx t]

/-- The first moment mixed with the gradient. -/
theorem final_mean (c : Dev nD) : (dats m 0 c).arrAt 6 (cfgs 0).N = Cert.Reference15Ideal.Read.val_main_v4 (F := Ideal)
      (m ((c : Thread nD τ).loc main_arg1)) (m ((c : Thread nD τ).loc main_arg2)) := by
  refine (dats m 0 c).arrAt_eq_of_covers 6 _ (by decide +kernel) fun t hf y => ?_
  blk_simp
  rw [after0_6]
  frame_out
  pointwise [k0_pay1, Cert.Reference15Ideal.Read.val_main_v4, Cert.Reference15Ideal.Read.val_main_v1, Cert.Reference15Ideal.Read.val_main_v3, Cert.Reference15Ideal.Read.val_main_v0, Cert.Reference15Ideal.Read.val_main_v2, Cert.Reference15Ideal.Read.val_main_cst, Cert.Reference15Ideal.Read.val_main_cst_0]
  blk_point [iblk, V, idx t]

/-- The second moment mixed with the squared gradient. -/
theorem final_square (c : Dev nD) : (dats m 0 c).arrAt 7 (cfgs 0).N = Cert.Reference15Ideal.Read.val_main_v10 (F := Ideal)
      (m ((c : Thread nD τ).loc main_arg1)) (m ((c : Thread nD τ).loc main_arg3)) := by
  refine (dats m 0 c).arrAt_eq_of_covers 7 _ (by decide +kernel) fun t hf y => ?_
  blk_simp
  rw [after0_7]
  frame_out
  pointwise [k0_pay2, Cert.Reference15Ideal.Read.val_main_v10, Cert.Reference15Ideal.Read.val_main_v6, Cert.Reference15Ideal.Read.val_main_v9, Cert.Reference15Ideal.Read.val_main_v7, Cert.Reference15Ideal.Read.val_main_v5, Cert.Reference15Ideal.Read.val_main_v8, Cert.Reference15Ideal.Read.val_main_cst_1, Cert.Reference15Ideal.Read.val_main_cst_2]
  blk_point [iblk, V, idx t]

/-- The change of the weight. -/
theorem final_delta (c : Dev nD) : (dats m 0 c).arrAt 5 (cfgs 0).N = Cert.Reference15Ideal.Read.val_main_v23 (F := Ideal)
      (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay3, k0_pay1, k0_pay2, Cert.Reference15Ideal.Read.val_main_v23, Cert.Reference15Ideal.Read.val_main_v21, Cert.Reference15Ideal.Read.val_main_v20, Cert.Reference15Ideal.Read.val_main_v18, Cert.Reference15Ideal.Read.val_main_v17, Cert.Reference15Ideal.Read.val_main_v15, Cert.Reference15Ideal.Read.val_main_v14, Cert.Reference15Ideal.Read.val_main_v12, Cert.Reference15Ideal.Read.val_main_v11, Cert.Reference15Ideal.Read.val_main_v13, Cert.Reference15Ideal.Read.val_main_v16, Cert.Reference15Ideal.Read.val_main_v19, Cert.Reference15Ideal.Read.val_main_v22, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_v4, Cert.Reference15Ideal.Read.val_main_v1, Cert.Reference15Ideal.Read.val_main_v3, Cert.Reference15Ideal.Read.val_main_v0, Cert.Reference15Ideal.Read.val_main_v2, Cert.Reference15Ideal.Read.val_main_cst, Cert.Reference15Ideal.Read.val_main_cst_0, Cert.Reference15Ideal.Read.val_main_v10, Cert.Reference15Ideal.Read.val_main_v6, Cert.Reference15Ideal.Read.val_main_v9, Cert.Reference15Ideal.Read.val_main_v7, Cert.Reference15Ideal.Read.val_main_v5, Cert.Reference15Ideal.Read.val_main_v8, Cert.Reference15Ideal.Read.val_main_cst_1, Cert.Reference15Ideal.Read.val_main_cst_2]
  blk_point [iblk, V, idx t]

/-- The kernel and its reference end with equal gradients, changes and moments. -/
theorem algebraic : Cert.algebraic_Kernel15Ideal_Reference15Ideal := by
  pair_intro
  · run_from Cert.Kernel15Ideal.Gen.run_main m g
  · run_from Cert.Reference15Ideal.Value.run m' g'
    · exact (final_grad m c).symm
    · rw [Cert.Reference15Ideal.Read.val_main_v23_eq]
      exact (final_delta m c).symm
    · rw [Cert.Reference15Ideal.Read.val_main_v4_eq]
      exact (final_mean m c).symm
    · rw [Cert.Reference15Ideal.Read.val_main_v10_eq]
      exact (final_square m c).symm

end Cert.AdamDown
-- ==== Proof.lean ====
/- The certificate: every program ends with its arguments as they were, and for each call proved, the kernel and
   its reference end with equal results in exact arithmetic. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import Idealize.ShloMosaic.Adequacy
public import Idealize.ShloMosaic.Init
public import proofs.«01_k».proof.Proof.Assemble
public import proofs.«01_k».proof.Proof.GradUp
public import proofs.«01_k».proof.Proof.GradDown
public import proofs.«01_k».proof.Proof.GradOut
public import proofs.«01_k».proof.Proof.GradIn
public import proofs.«01_k».proof.Proof.FeedForward
public import proofs.«01_k».proof.Proof.MixNorm
public import proofs.«01_k».proof.Proof.Proj
public import proofs.«01_k».proof.Proof.Backward
public import proofs.«01_k».proof.Proof.ConvGrad
public import proofs.«01_k».proof.Proof.ConvForward
public import proofs.«01_k».proof.Proof.AdamIn
public import proofs.«01_k».proof.Proof.AdamOut
public import proofs.«01_k».proof.Proof.AdamUp
public import proofs.«01_k».proof.Proof.AdamDown

@[expose] public section

noncomputable section

namespace Cert.Proof

open Idealize.ShloMosaic Idealize.SL.Sem Cert.Kernel

/-- Every run of `ReferenceIdeal` ends, and leaves its arguments as they were. -/
theorem referenceIdeal_frame : Cert.quiescent_ReferenceIdeal := by
  intro m g _
  exact (θ_run Cert.ReferenceIdeal.defs _ _).mono
    (fun r h => ⟨fun c => (h c).2.2.2, Idealize.ShloMosaic.sem_eq_zero_of_no_sems (by decide) r.2⟩)
    (Cert.ReferenceIdeal.Value.run m g)

/-- Every run of `Reference2Ideal` ends, and leaves its arguments as they were. -/
theorem reference2Ideal_frame : Cert.quiescent_Reference2Ideal := by
  intro m g _
  exact (θ_run Cert.Reference2Ideal.defs _ _).mono
    (fun r h => ⟨fun c => (h c).2, Idealize.ShloMosaic.sem_eq_zero_of_no_sems (by decide) r.2⟩)
    (Cert.Reference2Ideal.Value.run m g)

/-- Every run of `Reference3Ideal` ends, and leaves its arguments as they were. -/
theorem reference3Ideal_frame : Cert.quiescent_Reference3Ideal := by
  intro m g _
  exact (θ_run Cert.Reference3Ideal.defs _ _).mono
    (fun r h => ⟨fun c => (h c).2.2.2.2.2.2, Idealize.ShloMosaic.sem_eq_zero_of_no_sems (by decide) r.2⟩)
    (Cert.Reference3Ideal.Value.run m g)

/-- Every run of `Reference4Ideal` ends, and leaves its arguments as they were. -/
theorem reference4Ideal_frame : Cert.quiescent_Reference4Ideal := by
  intro m g _
  exact (θ_run Cert.Reference4Ideal.defs _ _).mono
    (fun r h => ⟨fun c => (h c).2.2, Idealize.ShloMosaic.sem_eq_zero_of_no_sems (by decide) r.2⟩)
    (Cert.Reference4Ideal.Value.run m g)

/-- Every run of `Reference5Ideal` ends, and leaves its arguments as they were. -/
theorem reference5Ideal_frame : Cert.quiescent_Reference5Ideal := by
  intro m g _
  exact (θ_run Cert.Reference5Ideal.defs _ _).mono
    (fun r h => ⟨fun c => (h c).2.2, Idealize.ShloMosaic.sem_eq_zero_of_no_sems (by decide) r.2⟩)
    (Cert.Reference5Ideal.Value.run m g)

/-- Every run of `Reference6Ideal` ends, and leaves its arguments as they were. -/
theorem reference6Ideal_frame : Cert.quiescent_Reference6Ideal := by
  intro m g _
  exact (θ_run Cert.Reference6Ideal.defs _ _).mono
    (fun r h => ⟨fun c => (h c).2.2, Idealize.ShloMosaic.sem_eq_zero_of_no_sems (by decide) r.2⟩)
    (Cert.Reference6Ideal.Value.run m g)

/-- Every run of `Reference7Ideal` ends, and leaves its arguments as they were. -/
theorem reference7Ideal_frame : Cert.quiescent_Reference7Ideal := by
  intro m g _
  exact (θ_run Cert.Reference7Ideal.defs _ _).mono
    (fun r h => ⟨fun c => (h c).2.2, Idealize.ShloMosaic.sem_eq_zero_of_no_sems (by decide) r.2⟩)
    (Cert.Reference7Ideal.Value.run m g)

/-- Every run of `Reference8Ideal` ends, and leaves its arguments as they were. -/
theorem reference8Ideal_frame : Cert.quiescent_Reference8Ideal := by
  intro m g _
  exact (θ_run Cert.Reference8Ideal.defs _ _).mono
    (fun r h => ⟨fun c => (h c).2.2.2.2.2.2, Idealize.ShloMosaic.sem_eq_zero_of_no_sems (by decide) r.2⟩)
    (Cert.Reference8Ideal.Value.run m g)

/-- Every run of `Reference9Ideal` ends, and leaves its arguments as they were. -/
theorem reference9Ideal_frame : Cert.quiescent_Reference9Ideal := by
  intro m g _
  exact (θ_run Cert.Reference9Ideal.defs _ _).mono
    (fun r h => ⟨fun c => (h c).2.2.2.2, Idealize.ShloMosaic.sem_eq_zero_of_no_sems (by decide) r.2⟩)
    (Cert.Reference9Ideal.Value.run m g)

/-- Every run of `Reference10Ideal` ends, and leaves its arguments as they were. -/
theorem reference10Ideal_frame : Cert.quiescent_Reference10Ideal := by
  intro m g _
  exact (θ_run Cert.Reference10Ideal.defs _ _).mono
    (fun r h => ⟨fun c => (h c).2, Idealize.ShloMosaic.sem_eq_zero_of_no_sems (by decide) r.2⟩)
    (Cert.Reference10Ideal.Value.run m g)

/-- Every run of `Reference11Ideal` ends, and leaves its arguments as they were. -/
theorem reference11Ideal_frame : Cert.quiescent_Reference11Ideal := by
  intro m g _
  exact (θ_run Cert.Reference11Ideal.defs _ _).mono
    (fun r h => ⟨fun c => (h c).2.2.2, Idealize.ShloMosaic.sem_eq_zero_of_no_sems (by decide) r.2⟩)
    (Cert.Reference11Ideal.Value.run m g)

/-- Every run of `Reference12Ideal` ends, and leaves its arguments as they were. -/
theorem reference12Ideal_frame : Cert.quiescent_Reference12Ideal := by
  intro m g _
  exact (θ_run Cert.Reference12Ideal.defs _ _).mono
    (fun r h => ⟨fun c => (h c).2.2.2.2, Idealize.ShloMosaic.sem_eq_zero_of_no_sems (by decide) r.2⟩)
    (Cert.Reference12Ideal.Value.run m g)

/-- Every run of `Reference13Ideal` ends, and leaves its arguments as they were. -/
theorem reference13Ideal_frame : Cert.quiescent_Reference13Ideal := by
  intro m g _
  exact (θ_run Cert.Reference13Ideal.defs _ _).mono
    (fun r h => ⟨fun c => (h c).2.2.2.2, Idealize.ShloMosaic.sem_eq_zero_of_no_sems (by decide) r.2⟩)
    (Cert.Reference13Ideal.Value.run m g)

/-- Every run of `Reference14Ideal` ends, and leaves its arguments as they were. -/
theorem reference14Ideal_frame : Cert.quiescent_Reference14Ideal := by
  intro m g _
  exact (θ_run Cert.Reference14Ideal.defs _ _).mono
    (fun r h => ⟨fun c => (h c).2.2.2.2, Idealize.ShloMosaic.sem_eq_zero_of_no_sems (by decide) r.2⟩)
    (Cert.Reference14Ideal.Value.run m g)

/-- Every run of `Reference15Ideal` ends, and leaves its arguments as they were. -/
theorem reference15Ideal_frame : Cert.quiescent_Reference15Ideal := by
  intro m g _
  exact (θ_run Cert.Reference15Ideal.defs _ _).mono
    (fun r h => ⟨fun c => (h c).2.2.2.2, Idealize.ShloMosaic.sem_eq_zero_of_no_sems (by decide) r.2⟩)
    (Cert.Reference15Ideal.Value.run m g)

/-- All the claims of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.ConvGrad.preFacts, Cert.Backward.preFacts, Cert.FeedForward.preFacts, Cert.ConvForward.preFacts,
   fun m g _ => Cert.Kernel.Gen.frame m g,
   fun m g _ => Cert.KernelIdeal.Gen.frame m g,
   fun m g _ => Cert.KernelIdeal.Gen.frame m g,
   referenceIdeal_frame,
   fun m g _ => referenceIdeal_frame m g trivial,
   fun m g _ => Cert.Kernel2.Gen.frame m g,
   fun m g _ => Cert.Kernel2Ideal.Gen.frame m g,
   reference2Ideal_frame,
   fun m g _ => Cert.Kernel3.Gen.frame m g,
   fun m g _ => Cert.Kernel3Ideal.Gen.frame m g,
   fun m g _ => Cert.Kernel3Ideal.Gen.frame m g,
   reference3Ideal_frame,
   fun m g _ => reference3Ideal_frame m g trivial,
   fun m g _ => Cert.Kernel4.Gen.frame m g,
   fun m g _ => Cert.Kernel4Ideal.Gen.frame m g,
   reference4Ideal_frame,
   fun m g _ => Cert.Kernel5.Gen.frame m g,
   fun m g _ => Cert.Kernel5Ideal.Gen.frame m g,
   reference5Ideal_frame,
   fun m g _ => Cert.Kernel6.Gen.frame m g,
   fun m g _ => Cert.Kernel6Ideal.Gen.frame m g,
   reference6Ideal_frame,
   fun m g _ => Cert.Kernel7.Gen.frame m g,
   fun m g _ => Cert.Kernel7Ideal.Gen.frame m g,
   reference7Ideal_frame,
   fun m g _ => Cert.Kernel8.Gen.frame m g,
   fun m g _ => Cert.Kernel8Ideal.Gen.frame m g,
   fun m g _ => Cert.Kernel8Ideal.Gen.frame m g,
   reference8Ideal_frame,
   fun m g _ => reference8Ideal_frame m g trivial,
   fun m g _ => Cert.Kernel9.Gen.frame m g,
   fun m g _ => Cert.Kernel9Ideal.Gen.frame m g,
   reference9Ideal_frame,
   fun m g _ => Cert.Kernel10.Gen.frame m g,
   fun m g _ => Cert.Kernel10Ideal.Gen.frame m g,
   fun m g _ => Cert.Kernel10Ideal.Gen.frame m g,
   reference10Ideal_frame,
   fun m g _ => reference10Ideal_frame m g trivial,
   fun m g _ => Cert.Kernel11.Gen.frame m g,
   fun m g _ => Cert.Kernel11Ideal.Gen.frame m g,
   reference11Ideal_frame,
   fun m g _ => Cert.Kernel12.Gen.frame m g,
   fun m g _ => Cert.Kernel12Ideal.Gen.frame m g,
   reference12Ideal_frame,
   fun m g _ => Cert.Kernel13.Gen.frame m g,
   fun m g _ => Cert.Kernel13Ideal.Gen.frame m g,
   reference13Ideal_frame,
   fun m g _ => Cert.Kernel14.Gen.frame m g,
   fun m g _ => Cert.Kernel14Ideal.Gen.frame m g,
   reference14Ideal_frame,
   fun m g _ => Cert.Kernel15.Gen.frame m g,
   fun m g _ => Cert.Kernel15Ideal.Gen.frame m g,
   reference15Ideal_frame,
   trivial,
   Cert.ConvGrad.algebraic,
   trivial,
   Cert.Assemble.algebraic,
   trivial,
   Cert.Backward.algebraic,
   trivial,
   Cert.GradUp.algebraic,
   trivial,
   Cert.GradDown.algebraic,
   trivial,
   Cert.GradOut.algebraic,
   trivial,
   Cert.GradIn.algebraic,
   trivial,
   Cert.FeedForward.algebraic,
   trivial,
   Cert.MixNorm.algebraic,
   trivial,
   Cert.ConvForward.algebraic,
   trivial,
   Cert.Proj.algebraic,
   trivial,
   Cert.AdamIn.algebraic,
   trivial,
   Cert.AdamOut.algebraic,
   trivial,
   Cert.AdamUp.algebraic,
   trivial,
   Cert.AdamDown.algebraic⟩

end Cert.Proof

end
